-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MatMul (m : (ℓ : Loc Cert.MatMul.nD Cert.MatMul.τ Cert.MatMul.sig) → Buf (Elt Bits) ℓ) : Prop :=
  True

def Pre_MatMulIdeal (m : (ℓ : Loc Cert.MatMulIdeal.nD Cert.MatMulIdeal.τ Cert.MatMulIdeal.sig) → Buf (Elt Ideal) ℓ) : Prop :=
  True

def Pre_MatMulRefIdeal (m : (ℓ : Loc Cert.MatMulRefIdeal.nD Cert.MatMulRefIdeal.τ Cert.MatMulRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_MatMul [hMatMul : Cert.MatMul.Facts] : Prop :=
  ∀ (m : (ℓ : Loc Cert.MatMul.nD Cert.MatMul.τ Cert.MatMul.sig) → Buf (Elt Bits) ℓ) (g : Dev Cert.MatMul.nD → PrngReg), Pre_MatMul m →
    θ_run (Cert.MatMul.defs (F := Bits)) (onTc (τ := Cert.MatMul.τ) (Cert.MatMul.main (F := Bits))) ⟨m, fun _ => 0, g⟩ (fun r => (∀ c : Dev Cert.MatMul.nD,
      r.2.mem ((c.tc : Thread Cert.MatMul.nD Cert.MatMul.τ).loc Cert.MatMul.main_arg0) = m ((c.tc : Thread Cert.MatMul.nD Cert.MatMul.τ).loc Cert.MatMul.main_arg0)
      ∧ r.2.mem ((c.tc : Thread Cert.MatMul.nD Cert.MatMul.τ).loc Cert.MatMul.main_arg1) = m ((c.tc : Thread Cert.MatMul.nD Cert.MatMul.τ).loc Cert.MatMul.main_arg1)
      ∧ r.2.mem ((c.tc : Thread Cert.MatMul.nD Cert.MatMul.τ).loc Cert.MatMul.main_arg2) = m ((c.tc : Thread Cert.MatMul.nD Cert.MatMul.τ).loc Cert.MatMul.main_arg2)
      ∧ r.2.mem ((c.tc : Thread Cert.MatMul.nD Cert.MatMul.τ).loc Cert.MatMul.main_arg3) = m ((c.tc : Thread Cert.MatMul.nD Cert.MatMul.τ).loc Cert.MatMul.main_arg3)
      ∧ r.2.mem ((c.tc : Thread Cert.MatMul.nD Cert.MatMul.τ).loc Cert.MatMul.main_arg4) = m ((c.tc : Thread Cert.MatMul.nD Cert.MatMul.τ).loc Cert.MatMul.main_arg4)
      ∧ r.2.mem ((c.tc : Thread Cert.MatMul.nD Cert.MatMul.τ).loc Cert.MatMul.main_arg5) = m ((c.tc : Thread Cert.MatMul.nD Cert.MatMul.τ).loc Cert.MatMul.main_arg5))
      ∧ r.2.sem = fun _ => 0)

def quiescent_MatMulIdeal [hMatMulIdeal : Cert.MatMulIdeal.Facts] : Prop :=
  ∀ (m : (ℓ : Loc Cert.MatMulIdeal.nD Cert.MatMulIdeal.τ Cert.MatMulIdeal.sig) → Buf (Elt Ideal) ℓ) (g : Dev Cert.MatMulIdeal.nD → PrngReg), Pre_MatMulIdeal m →
    θ_run (Cert.MatMulIdeal.defs (F := Ideal)) (onTc (τ := Cert.MatMulIdeal.τ) (Cert.MatMulIdeal.main (F := Ideal))) ⟨m, fun _ => 0, g⟩ (fun r => (∀ c : Dev Cert.MatMulIdeal.nD,
      r.2.mem ((c.tc : Thread Cert.MatMulIdeal.nD Cert.MatMulIdeal.τ).loc Cert.MatMulIdeal.main_arg0) = m ((c.tc : Thread Cert.MatMulIdeal.nD Cert.MatMulIdeal.τ).loc Cert.MatMulIdeal.main_arg0)
      ∧ r.2.mem ((c.tc : Thread Cert.MatMulIdeal.nD Cert.MatMulIdeal.τ).loc Cert.MatMulIdeal.main_arg1) = m ((c.tc : Thread Cert.MatMulIdeal.nD Cert.MatMulIdeal.τ).loc Cert.MatMulIdeal.main_arg1)
      ∧ r.2.mem ((c.tc : Thread Cert.MatMulIdeal.nD Cert.MatMulIdeal.τ).loc Cert.MatMulIdeal.main_arg2) = m ((c.tc : Thread Cert.MatMulIdeal.nD Cert.MatMulIdeal.τ).loc Cert.MatMulIdeal.main_arg2)
      ∧ r.2.mem ((c.tc : Thread Cert.MatMulIdeal.nD Cert.MatMulIdeal.τ).loc Cert.MatMulIdeal.main_arg3) = m ((c.tc : Thread Cert.MatMulIdeal.nD Cert.MatMulIdeal.τ).loc Cert.MatMulIdeal.main_arg3)
      ∧ r.2.mem ((c.tc : Thread Cert.MatMulIdeal.nD Cert.MatMulIdeal.τ).loc Cert.MatMulIdeal.main_arg4) = m ((c.tc : Thread Cert.MatMulIdeal.nD Cert.MatMulIdeal.τ).loc Cert.MatMulIdeal.main_arg4)
      ∧ r.2.mem ((c.tc : Thread Cert.MatMulIdeal.nD Cert.MatMulIdeal.τ).loc Cert.MatMulIdeal.main_arg5) = m ((c.tc : Thread Cert.MatMulIdeal.nD Cert.MatMulIdeal.τ).loc Cert.MatMulIdeal.main_arg5))
      ∧ r.2.sem = fun _ => 0)

def quiescent_MatMulRefIdeal [hMatMulRefIdeal : Cert.MatMulRefIdeal.Facts] : Prop :=
  ∀ (m : (ℓ : Loc Cert.MatMulRefIdeal.nD Cert.MatMulRefIdeal.τ Cert.MatMulRefIdeal.sig) → Buf (Elt Ideal) ℓ) (g : Dev Cert.MatMulRefIdeal.nD → PrngReg), Pre_MatMulRefIdeal m →
    θ_run (Cert.MatMulRefIdeal.defs (F := Ideal)) (onTc (τ := Cert.MatMulRefIdeal.τ) (Cert.MatMulRefIdeal.main (F := Ideal))) ⟨m, fun _ => 0, g⟩ (fun r => (∀ c : Dev Cert.MatMulRefIdeal.nD,
      r.2.mem ((c.tc : Thread Cert.MatMulRefIdeal.nD Cert.MatMulRefIdeal.τ).loc Cert.MatMulRefIdeal.main_arg0) = m ((c.tc : Thread Cert.MatMulRefIdeal.nD Cert.MatMulRefIdeal.τ).loc Cert.MatMulRefIdeal.main_arg0)
      ∧ r.2.mem ((c.tc : Thread Cert.MatMulRefIdeal.nD Cert.MatMulRefIdeal.τ).loc Cert.MatMulRefIdeal.main_arg1) = m ((c.tc : Thread Cert.MatMulRefIdeal.nD Cert.MatMulRefIdeal.τ).loc Cert.MatMulRefIdeal.main_arg1)
      ∧ r.2.mem ((c.tc : Thread Cert.MatMulRefIdeal.nD Cert.MatMulRefIdeal.τ).loc Cert.MatMulRefIdeal.main_arg2) = m ((c.tc : Thread Cert.MatMulRefIdeal.nD Cert.MatMulRefIdeal.τ).loc Cert.MatMulRefIdeal.main_arg2)
      ∧ r.2.mem ((c.tc : Thread Cert.MatMulRefIdeal.nD Cert.MatMulRefIdeal.τ).loc Cert.MatMulRefIdeal.main_arg3) = m ((c.tc : Thread Cert.MatMulRefIdeal.nD Cert.MatMulRefIdeal.τ).loc Cert.MatMulRefIdeal.main_arg3)
      ∧ r.2.mem ((c.tc : Thread Cert.MatMulRefIdeal.nD Cert.MatMulRefIdeal.τ).loc Cert.MatMulRefIdeal.main_arg4) = m ((c.tc : Thread Cert.MatMulRefIdeal.nD Cert.MatMulRefIdeal.τ).loc Cert.MatMulRefIdeal.main_arg4)
      ∧ r.2.mem ((c.tc : Thread Cert.MatMulRefIdeal.nD Cert.MatMulRefIdeal.τ).loc Cert.MatMulRefIdeal.main_arg5) = m ((c.tc : Thread Cert.MatMulRefIdeal.nD Cert.MatMulRefIdeal.τ).loc Cert.MatMulRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_MatMul_MatMulIdeal : Prop :=
  True

def algebraic_MatMulIdeal_MatMulRefIdeal [hMatMulIdeal : Cert.MatMulIdeal.Facts] [hMatMulRefIdeal : Cert.MatMulRefIdeal.Facts] : Prop :=
  ∀ (m : (ℓ : Loc Cert.MatMulIdeal.nD Cert.MatMulIdeal.τ Cert.MatMulIdeal.sig) → Buf (Elt Ideal) ℓ) (g : Dev Cert.MatMulIdeal.nD → PrngReg)
    (m' : (ℓ : Loc Cert.MatMulRefIdeal.nD Cert.MatMulRefIdeal.τ Cert.MatMulRefIdeal.sig) → Buf (Elt Ideal) ℓ) (g' : Dev Cert.MatMulRefIdeal.nD → PrngReg), Pre_MatMulIdeal m →
    (∀ c : Dev Cert.MatMulIdeal.nD,
      m' ((c.tc : Thread Cert.MatMulRefIdeal.nD Cert.MatMulRefIdeal.τ).loc Cert.MatMulRefIdeal.main_arg0) = m ((c.tc : Thread Cert.MatMulIdeal.nD Cert.MatMulIdeal.τ).loc Cert.MatMulIdeal.main_arg0)
      ∧ m' ((c.tc : Thread Cert.MatMulRefIdeal.nD Cert.MatMulRefIdeal.τ).loc Cert.MatMulRefIdeal.main_arg1) = m ((c.tc : Thread Cert.MatMulIdeal.nD Cert.MatMulIdeal.τ).loc Cert.MatMulIdeal.main_arg1)
      ∧ m' ((c.tc : Thread Cert.MatMulRefIdeal.nD Cert.MatMulRefIdeal.τ).loc Cert.MatMulRefIdeal.main_arg2) = m ((c.tc : Thread Cert.MatMulIdeal.nD Cert.MatMulIdeal.τ).loc Cert.MatMulIdeal.main_arg2)
      ∧ m' ((c.tc : Thread Cert.MatMulRefIdeal.nD Cert.MatMulRefIdeal.τ).loc Cert.MatMulRefIdeal.main_arg3) = m ((c.tc : Thread Cert.MatMulIdeal.nD Cert.MatMulIdeal.τ).loc Cert.MatMulIdeal.main_arg3)
      ∧ m' ((c.tc : Thread Cert.MatMulRefIdeal.nD Cert.MatMulRefIdeal.τ).loc Cert.MatMulRefIdeal.main_arg4) = m ((c.tc : Thread Cert.MatMulIdeal.nD Cert.MatMulIdeal.τ).loc Cert.MatMulIdeal.main_arg4)
      ∧ m' ((c.tc : Thread Cert.MatMulRefIdeal.nD Cert.MatMulRefIdeal.τ).loc Cert.MatMulRefIdeal.main_arg5) = m ((c.tc : Thread Cert.MatMulIdeal.nD Cert.MatMulIdeal.τ).loc Cert.MatMulIdeal.main_arg5)) →
    ∃ (v0 : (c : Dev Cert.MatMulIdeal.nD) → Buf (Elt Ideal) ((c.tc : Thread Cert.MatMulIdeal.nD Cert.MatMulIdeal.τ).loc Cert.MatMulIdeal.main_v7)),
      θ_run (Cert.MatMulIdeal.defs (F := Ideal)) (onTc (τ := Cert.MatMulIdeal.τ) (Cert.MatMulIdeal.main (F := Ideal))) ⟨m, fun _ => 0, g⟩ (fun r => ∀ c : Dev Cert.MatMulIdeal.nD,
          r.2.mem ((c.tc : Thread Cert.MatMulIdeal.nD Cert.MatMulIdeal.τ).loc Cert.MatMulIdeal.main_v7) = v0 c
          ∧ r.2.mem ((c.tc : Thread Cert.MatMulIdeal.nD Cert.MatMulIdeal.τ).loc Cert.MatMulIdeal.main_arg0) = m ((c.tc : Thread Cert.MatMulIdeal.nD Cert.MatMulIdeal.τ).loc Cert.MatMulIdeal.main_arg0)
          ∧ r.2.mem ((c.tc : Thread Cert.MatMulIdeal.nD Cert.MatMulIdeal.τ).loc Cert.MatMulIdeal.main_arg1) = m ((c.tc : Thread Cert.MatMulIdeal.nD Cert.MatMulIdeal.τ).loc Cert.MatMulIdeal.main_arg1)
          ∧ r.2.mem ((c.tc : Thread Cert.MatMulIdeal.nD Cert.MatMulIdeal.τ).loc Cert.MatMulIdeal.main_arg2) = m ((c.tc : Thread Cert.MatMulIdeal.nD Cert.MatMulIdeal.τ).loc Cert.MatMulIdeal.main_arg2)
          ∧ r.2.mem ((c.tc : Thread Cert.MatMulIdeal.nD Cert.MatMulIdeal.τ).loc Cert.MatMulIdeal.main_arg3) = m ((c.tc : Thread Cert.MatMulIdeal.nD Cert.MatMulIdeal.τ).loc Cert.MatMulIdeal.main_arg3)
          ∧ r.2.mem ((c.tc : Thread Cert.MatMulIdeal.nD Cert.MatMulIdeal.τ).loc Cert.MatMulIdeal.main_arg4) = m ((c.tc : Thread Cert.MatMulIdeal.nD Cert.MatMulIdeal.τ).loc Cert.MatMulIdeal.main_arg4)
          ∧ r.2.mem ((c.tc : Thread Cert.MatMulIdeal.nD Cert.MatMulIdeal.τ).loc Cert.MatMulIdeal.main_arg5) = m ((c.tc : Thread Cert.MatMulIdeal.nD Cert.MatMulIdeal.τ).loc Cert.MatMulIdeal.main_arg5))
      ∧ θ_run (Cert.MatMulRefIdeal.defs (F := Ideal)) (onTc (τ := Cert.MatMulRefIdeal.τ) (Cert.MatMulRefIdeal.main (F := Ideal))) ⟨m', fun _ => 0, g'⟩ (fun r => ∀ c : Dev Cert.MatMulRefIdeal.nD,
          r.2.mem ((c.tc : Thread Cert.MatMulRefIdeal.nD Cert.MatMulRefIdeal.τ).loc Cert.MatMulRefIdeal.main_v67) = v0 c
          ∧ r.2.mem ((c.tc : Thread Cert.MatMulRefIdeal.nD Cert.MatMulRefIdeal.τ).loc Cert.MatMulRefIdeal.main_arg0) = m' ((c.tc : Thread Cert.MatMulRefIdeal.nD Cert.MatMulRefIdeal.τ).loc Cert.MatMulRefIdeal.main_arg0)
          ∧ r.2.mem ((c.tc : Thread Cert.MatMulRefIdeal.nD Cert.MatMulRefIdeal.τ).loc Cert.MatMulRefIdeal.main_arg1) = m' ((c.tc : Thread Cert.MatMulRefIdeal.nD Cert.MatMulRefIdeal.τ).loc Cert.MatMulRefIdeal.main_arg1)
          ∧ r.2.mem ((c.tc : Thread Cert.MatMulRefIdeal.nD Cert.MatMulRefIdeal.τ).loc Cert.MatMulRefIdeal.main_arg2) = m' ((c.tc : Thread Cert.MatMulRefIdeal.nD Cert.MatMulRefIdeal.τ).loc Cert.MatMulRefIdeal.main_arg2)
          ∧ r.2.mem ((c.tc : Thread Cert.MatMulRefIdeal.nD Cert.MatMulRefIdeal.τ).loc Cert.MatMulRefIdeal.main_arg3) = m' ((c.tc : Thread Cert.MatMulRefIdeal.nD Cert.MatMulRefIdeal.τ).loc Cert.MatMulRefIdeal.main_arg3)
          ∧ r.2.mem ((c.tc : Thread Cert.MatMulRefIdeal.nD Cert.MatMulRefIdeal.τ).loc Cert.MatMulRefIdeal.main_arg4) = m' ((c.tc : Thread Cert.MatMulRefIdeal.nD Cert.MatMulRefIdeal.τ).loc Cert.MatMulRefIdeal.main_arg4)
          ∧ r.2.mem ((c.tc : Thread Cert.MatMulRefIdeal.nD Cert.MatMulRefIdeal.τ).loc Cert.MatMulRefIdeal.main_arg5) = m' ((c.tc : Thread Cert.MatMulRefIdeal.nD Cert.MatMulRefIdeal.τ).loc Cert.MatMulRefIdeal.main_arg5))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hMatMul : Cert.MatMul.Facts) (hMatMulIdeal : Cert.MatMulIdeal.Facts) (hMatMulRefIdeal : Cert.MatMulRefIdeal.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ quiescent_NormIdeal (hNormIdeal := hNormIdeal)
    ∧ quiescent_NormRefIdeal (hNormRefIdeal := hNormRefIdeal)
    ∧ quiescent_MatMul (hMatMul := hMatMul)
    ∧ quiescent_MatMulIdeal (hMatMulIdeal := hMatMulIdeal)
    ∧ quiescent_MatMulRefIdeal (hMatMulRefIdeal := hMatMulRefIdeal)
    ∧ preserves_Kernel_KernelIdeal
    ∧ algebraic_KernelIdeal_ReferenceIdeal (hKernelIdeal := hKernelIdeal) (hReferenceIdeal := hReferenceIdeal)
    ∧ preserves_Norm_NormIdeal
    ∧ algebraic_NormIdeal_NormRefIdeal (hNormIdeal := hNormIdeal) (hNormRefIdeal := hNormRefIdeal)
    ∧ preserves_MatMul_MatMulIdeal
    ∧ algebraic_MatMulIdeal_MatMulRefIdeal (hMatMulIdeal := hMatMulIdeal) (hMatMulRefIdeal := hMatMulRefIdeal)
-- ==== Kernel.lean ====
abbrev S3x256x18944 : Shape := ⟨3, ![3, 256, 18944]⟩
abbrev S3584x74x2x64 : Shape := ⟨4, ![3584, 74, 2, 64]⟩
abbrev S3584x74x2x32 : Shape := ⟨4, ![3584, 74, 2, 32]⟩
abbrev S3584x74x16 : Shape := ⟨3, ![3584, 74, 16]⟩
abbrev S3584x74 : Shape := ⟨2, ![3584, 74]⟩
abbrev S18944 : Shape := ⟨1, ![18944]⟩
abbrev S3584 : Shape := ⟨1, ![3584]⟩
abbrev S768x18944 : Shape := ⟨2, ![768, 18944]⟩
abbrev S74x2x64x3584 : Shape := ⟨4, ![74, 2, 64, 3584]⟩
abbrev S9472x3584 : Shape := ⟨2, ![9472, 3584]⟩
abbrev S74x2x32x3584 : Shape := ⟨4, ![74, 2, 32, 3584]⟩
abbrev S4736x3584 : Shape := ⟨2, ![4736, 3584]⟩
abbrev S74x16x3584 : Shape := ⟨3, ![74, 16, 3584]⟩
abbrev S74x3584 : Shape := ⟨2, ![74, 3584]⟩
abbrev S1x18944 : Shape := ⟨2, ![1, 18944]⟩
abbrev S64x18944 : Shape := ⟨2, ![64, 18944]⟩
abbrev S64 : Shape := ⟨1, ![64]⟩
abbrev S64x1 : Shape := ⟨2, ![64, 1]⟩
abbrev S1x3584 : Shape := ⟨2, ![1, 3584]⟩
abbrev S768x3584 : Shape := ⟨2, ![768, 3584]⟩
abbrev S768x512 : Shape := ⟨2, ![768, 512]⟩
abbrev S256x512 : Shape := ⟨2, ![256, 512]⟩
abbrev S128x512 : Shape := ⟨2, ![128, 512]⟩
abbrev S2x16x512 : Shape := ⟨3, ![2, 16, 512]⟩
abbrev S74x512 : Shape := ⟨2, ![74, 512]⟩
abbrev S1x512 : Shape := ⟨2, ![1, 512]⟩
abbrev S32x512 : Shape := ⟨2, ![32, 512]⟩
abbrev S64x512 : Shape := ⟨2, ![64, 512]⟩
abbrev S16x512 : Shape := ⟨2, ![16, 512]⟩
abbrev S1x16x512 : Shape := ⟨3, ![1, 16, 512]⟩
abbrev S8x512 : Shape := ⟨2, ![8, 512]⟩
abbrev S768x256 : Shape := ⟨2, ![768, 256]⟩
abbrev S3x256x3584 : Shape := ⟨3, ![3, 256, 3584]⟩

abbrev nBuf : Space → Nat
  | .hbm => 19
  | .vmem => 20
  | .smem => 0
  | _ => 0

abbrev bufTy : (tb : Table) → Fin (tcTables nBuf tb) → BufTy
  | .hbm, ⟨0, _⟩ => ⟨S3x256x18944, .bf16⟩
  | .hbm, ⟨1, _⟩ => ⟨S3584x74x2x64, .i8⟩
  | .hbm, ⟨2, _⟩ => ⟨S3584x74x2x32, .i8⟩
  | .hbm, ⟨3, _⟩ => ⟨S3584x74x16, .i8⟩
  | .hbm, ⟨4, _⟩ => ⟨S3584x74, .f16⟩
  | .hbm, ⟨5, _⟩ => ⟨S18944, .f32⟩
  | .hbm, ⟨6, _⟩ => ⟨S3584, .f32⟩
  | .hbm, ⟨7, _⟩ => ⟨S768x18944, .bf16⟩
  | .hbm, ⟨8, _⟩ => ⟨S74x2x64x3584, .i8⟩
  | .hbm, ⟨9, _⟩ => ⟨S9472x3584, .i8⟩
  | .hbm, ⟨10, _⟩ => ⟨S74x2x32x3584, .i8⟩
  | .hbm, ⟨11, _⟩ => ⟨S4736x3584, .i8⟩
  | .hbm, ⟨12, _⟩ => ⟨S74x16x3584, .i8⟩
  | .hbm, ⟨13, _⟩ => ⟨S74x3584, .f16⟩
  | .hbm, ⟨14, _⟩ => ⟨S1x18944, .f32⟩
  | .hbm, ⟨15, _⟩ => ⟨S768x18944, .bf16⟩
  | .hbm, ⟨16, _⟩ => ⟨S1x3584, .f32⟩
  | .hbm, ⟨17, _⟩ => ⟨S768x3584, .bf16⟩
  | .hbm, ⟨18, _⟩ => ⟨S3x256x3584, .bf16⟩
  | .local _ .vmem, ⟨0, _⟩ => ⟨S64x18944, .bf16⟩
  | .local _ .vmem, ⟨1, _⟩ => ⟨S64x18944, .bf16⟩
  | .local _ .vmem, ⟨2, _⟩ => ⟨S1x18944, .f32⟩
  | .local _ .vmem, ⟨3, _⟩ => ⟨S64x18944, .bf16⟩
  | .local _ .vmem, ⟨4, _⟩ => ⟨S64x18944, .bf16⟩
  | .local _ .vmem, ⟨5, _⟩ => ⟨S768x512, .bf16⟩
  | .local _ .vmem, ⟨6, _⟩ => ⟨S768x512, .bf16⟩
  | .local _ .vmem, ⟨7, _⟩ => ⟨S256x512, .i8⟩
  | .local _ .vmem, ⟨8, _⟩ => ⟨S256x512, .i8⟩
  | .local _ .vmem, ⟨9, _⟩ => ⟨S128x512, .i8⟩
  | .local _ .vmem, ⟨10, _⟩ => ⟨S128x512, .i8⟩
  | .local _ .vmem, ⟨11, _⟩ => ⟨S2x16x512, .i8⟩
  | .local _ .vmem, ⟨12, _⟩ => ⟨S2x16x512, .i8⟩
  | .local _ .vmem, ⟨13, _⟩ => ⟨S74x512, .f16⟩
  | .local _ .vmem, ⟨14, _⟩ => ⟨S74x512, .f16⟩
  | .local _ .vmem, ⟨15, _⟩ => ⟨S1x512, .f32⟩
  | .local _ .vmem, ⟨16, _⟩ => ⟨S1x512, .f32⟩
  | .local _ .vmem, ⟨17, _⟩ => ⟨S768x512, .bf16⟩
  | .local _ .vmem, ⟨18, _⟩ => ⟨S768x512, .bf16⟩
  | .local _ .vmem, ⟨19, _⟩ => ⟨S768x512, .f32⟩
  | _, _ => ⟨S3x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x18944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x18944 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x18944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![7, 37], ![false, false]⟩

def k1_off1 (i : grid1.Coords) (c0_i32_1 : BitVec 32) : Fin 2 → Nat :=
  let arg1 : BitVec 32 := BitVec.ofNat 32 (i 1).val
  let c2_i32 : BitVec 32 := 2#32
  let v3 : BitVec 32 := Scalar.muli arg1 c2_i32
  let v4 : BitVec 32 := Scalar.addi v3 c0_i32_1
  let v11 : Index := Scalar.indexCast v4
  let c0_5 : Index := 0#32
  ![v11.toNat, 0]
def k1_cond2 (i : grid1.Coords) : BitVec 1 :=
  let arg1 : BitVec 32 := BitVec.ofNat 32 (i 1).val
  let c36_i32 : BitVec 32 := 36#32
  let v417 : BitVec 1 := Scalar.cmpi .eq arg1 c36_i32
  let v418 : BitVec 32 := Scalar.extui v417
  let c0_i32_88 : BitVec 32 := 0#32
  let v419 : BitVec 1 := Scalar.cmpi .ne v418 c0_i32_88
  v419

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S768x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x16x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S74x512 .f16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S768x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== ReferenceIdeal.lean ====
abbrev S3x256x18944 : Shape := ⟨3, ![3, 256, 18944]⟩
abbrev S3584x74x2x64 : Shape := ⟨4, ![3584, 74, 2, 64]⟩
abbrev S3584x74x2x32 : Shape := ⟨4, ![3584, 74, 2, 32]⟩
abbrev S3584x74x16 : Shape := ⟨3, ![3584, 74, 16]⟩
abbrev S3584x74 : Shape := ⟨2, ![3584, 74]⟩
abbrev S18944 : Shape := ⟨1, ![18944]⟩
abbrev S3584 : Shape := ⟨1, ![3584]⟩
abbrev S_ : Shape := ⟨0, ![]⟩
abbrev S3x256 : Shape := ⟨2, ![3, 256]⟩
abbrev S3x256x1 : Shape := ⟨3, ![3, 256, 1]⟩
abbrev S1x1x18944 : Shape := ⟨3, ![1, 1, 18944]⟩
abbrev S768x74x2x2x2x32 : Shape := ⟨6, ![768, 74, 2, 2, 2, 32]⟩
abbrev S768x74x2x1x2x32 : Shape := ⟨6, ![768, 74, 2, 1, 2, 32]⟩
abbrev S768x74x2x2x32 : Shape := ⟨5, ![768, 74, 2, 2, 32]⟩
abbrev S768x9472 : Shape := ⟨2, ![768, 9472]⟩
abbrev S3584x74x1 : Shape := ⟨3, ![3584, 74, 1]⟩
abbrev S3584x74x2x2x2x2 : Shape := ⟨6, ![3584, 74, 2, 2, 2, 2]⟩
abbrev S3584x74x2x2x32 : Shape := ⟨5, ![3584, 74, 2, 2, 32]⟩
abbrev S2 : Shape := ⟨1, ![2]⟩
abbrev S2x1 : Shape := ⟨2, ![2, 1]⟩
abbrev S3584x74x2x1x32 : Shape := ⟨5, ![3584, 74, 2, 1, 32]⟩
abbrev S1x1x1x2x1 : Shape := ⟨5, ![1, 1, 1, 2, 1]⟩
abbrev S3584x74x2x1x2x2 : Shape := ⟨6, ![3584, 74, 2, 1, 2, 2]⟩
abbrev S3584x74x2x2x2 : Shape := ⟨5, ![3584, 74, 2, 2, 2]⟩
abbrev S3584x74x2x2x2x16 : Shape := ⟨6, ![3584, 74, 2, 2, 2, 16]⟩
abbrev S3584x74x2x2x2x1 : Shape := ⟨6, ![3584, 74, 2, 2, 2, 1]⟩
abbrev S3584x9472 : Shape := ⟨2, ![3584, 9472]⟩
abbrev S768x3584 : Shape := ⟨2, ![768, 3584]⟩
abbrev S1x3584 : Shape := ⟨2, ![1, 3584]⟩
abbrev S3x256x3584 : Shape := ⟨3, ![3, 256, 3584]⟩

abbrev nBuf : Space → Nat
  | .hbm => 104
  | .vmem => 3
  | .smem => 0
  | _ => 0

abbrev bufTy : (tb : Table) → Fin (tcTables nBuf tb) → BufTy
  | .hbm, ⟨0, _⟩ => ⟨S3x256x18944, .bf16⟩
  | .hbm, ⟨1, _⟩ => ⟨S3584x74x2x64, .i8⟩
  | .hbm, ⟨2, _⟩ => ⟨S3584x74x2x32, .i8⟩
  | .hbm, ⟨3, _⟩ => ⟨S3584x74x16, .i8⟩
  | .hbm, ⟨4, _⟩ => ⟨S3584x74, .f16⟩
  | .hbm, ⟨5, _⟩ => ⟨S18944, .f32⟩
  | .hbm, ⟨6, _⟩ => ⟨S3584, .f32⟩
  | .hbm, ⟨7, _⟩ => ⟨S3x256x18944, .f32⟩
  | .hbm, ⟨8, _⟩ => ⟨S3x256x18944, .f32⟩
  | .hbm, ⟨9, _⟩ => ⟨S_, .f32⟩
  | .hbm, ⟨10, _⟩ => ⟨S3x256, .f32⟩
  | .hbm, ⟨11, _⟩ => ⟨S3x256x1, .f32⟩
  | .hbm, ⟨12, _⟩ => ⟨S_, .f32⟩
  | .hbm, ⟨13, _⟩ => ⟨S3x256x1, .f32⟩
  | .hbm, ⟨14, _⟩ => ⟨S3x256x1, .f32⟩
  | .hbm, ⟨15, _⟩ => ⟨S_, .f32⟩
  | .hbm, ⟨16, _⟩ => ⟨S3x256x1, .f32⟩
  | .hbm, ⟨17, _⟩ => ⟨S3x256x1, .f32⟩
  | .hbm, ⟨18, _⟩ => ⟨S3x256x1, .f32⟩
  | .hbm, ⟨19, _⟩ => ⟨S3x256x18944, .f32⟩
  | .hbm, ⟨20, _⟩ => ⟨S3x256x18944, .f32⟩
  | .hbm, ⟨21, _⟩ => ⟨S1x1x18944, .f32⟩
  | .hbm, ⟨22, _⟩ => ⟨S3x256x18944, .f32⟩
  | .hbm, ⟨23, _⟩ => ⟨S3x256x18944, .f32⟩
  | .hbm, ⟨24, _⟩ => ⟨S3x256x18944, .bf16⟩
  | .hbm, ⟨25, _⟩ => ⟨S768x74x2x2x2x32, .bf16⟩
  | .hbm, ⟨26, _⟩ => ⟨S768x74x2x1x2x32, .bf16⟩
  | .hbm, ⟨27, _⟩ => ⟨S768x74x2x2x32, .bf16⟩
  | .hbm, ⟨28, _⟩ => ⟨S768x9472, .bf16⟩
  | .hbm, ⟨29, _⟩ => ⟨S768x74x2x1x2x32, .bf16⟩
  | .hbm, ⟨30, _⟩ => ⟨S768x74x2x2x32, .bf16⟩
  | .hbm, ⟨31, _⟩ => ⟨S768x9472, .bf16⟩
  | .hbm, ⟨32, _⟩ => ⟨S3584x74x16, .bf16⟩
  | .hbm, ⟨33, _⟩ => ⟨S3584x74x2x2x2x2, .bf16⟩
  | .hbm, ⟨34, _⟩ => ⟨S3584x74x2x64, .i32⟩
  | .hbm, ⟨35, _⟩ => ⟨S3584x74x2x2x32, .i32⟩
  | .hbm, ⟨36, _⟩ => ⟨S2, .i32⟩
  | .hbm, ⟨37, _⟩ => ⟨S2x1, .i32⟩
  | .hbm, ⟨38, _⟩ => ⟨S_, .i32⟩
  | .hbm, ⟨39, _⟩ => ⟨S2x1, .i32⟩
  | .hbm, ⟨40, _⟩ => ⟨S2x1, .i32⟩
  | .hbm, ⟨41, _⟩ => ⟨S3584x74x2x32, .i32⟩
  | .hbm, ⟨42, _⟩ => ⟨S3584x74x2x1x32, .i32⟩
  | .hbm, ⟨43, _⟩ => ⟨S_, .i32⟩
  | .hbm, ⟨44, _⟩ => ⟨S3584x74x2x2x32, .i32⟩
  | .hbm, ⟨45, _⟩ => ⟨S3584x74x2x2x32, .i32⟩
  | .hbm, ⟨46, _⟩ => ⟨S1x1x1x2x1, .i32⟩
  | .hbm, ⟨47, _⟩ => ⟨S3584x74x2x2x32, .i32⟩
  | .hbm, ⟨48, _⟩ => ⟨S3584x74x2x2x32, .i32⟩
  | .hbm, ⟨49, _⟩ => ⟨S3584x74x2x2x32, .i32⟩
  | .hbm, ⟨50, _⟩ => ⟨S_, .i32⟩
  | .hbm, ⟨51, _⟩ => ⟨S3584x74x2x2x32, .i32⟩
  | .hbm, ⟨52, _⟩ => ⟨S3584x74x2x2x32, .i32⟩
  | .hbm, ⟨53, _⟩ => ⟨S_, .i32⟩
  | .hbm, ⟨54, _⟩ => ⟨S3584x74x2x2x32, .i32⟩
  | .hbm, ⟨55, _⟩ => ⟨S3584x74x2x2x32, .i32⟩
  | .hbm, ⟨56, _⟩ => ⟨S3584x74x2x2x32, .i32⟩
  | .hbm, ⟨57, _⟩ => ⟨S_, .i32⟩
  | .hbm, ⟨58, _⟩ => ⟨S3584x74x2x2x32, .i32⟩
  | .hbm, ⟨59, _⟩ => ⟨S3584x74x2x2x32, .i32⟩
  | .hbm, ⟨60, _⟩ => ⟨S_, .i32⟩
  | .hbm, ⟨61, _⟩ => ⟨S2x1, .i32⟩
  | .hbm, ⟨62, _⟩ => ⟨S2x1, .i32⟩
  | .hbm, ⟨63, _⟩ => ⟨S1x1x1x2x1, .i32⟩
  | .hbm, ⟨64, _⟩ => ⟨S3584x74x2x2x32, .i32⟩
  | .hbm, ⟨65, _⟩ => ⟨S3584x74x2x2x32, .i32⟩
  | .hbm, ⟨66, _⟩ => ⟨S3584x74x2x2x32, .i32⟩
  | .hbm, ⟨67, _⟩ => ⟨S_, .i32⟩
  | .hbm, ⟨68, _⟩ => ⟨S3584x74x2x2x32, .i32⟩
  | .hbm, ⟨69, _⟩ => ⟨S3584x74x2x2x32, .i32⟩
  | .hbm, ⟨70, _⟩ => ⟨S_, .i32⟩
  | .hbm, ⟨71, _⟩ => ⟨S3584x74x2x2x32, .i32⟩
  | .hbm, ⟨72, _⟩ => ⟨S3584x74x2x2x32, .i32⟩
  | .hbm, ⟨73, _⟩ => ⟨S3584x74x2x2x32, .i32⟩
  | .hbm, ⟨74, _⟩ => ⟨S3584x74x2x1x2x2, .bf16⟩
  | .hbm, ⟨75, _⟩ => ⟨S3584x74x2x2x2, .bf16⟩
  | .hbm, ⟨76, _⟩ => ⟨S3584x74x2x2x32, .bf16⟩
  | .hbm, ⟨77, _⟩ => ⟨S_, .bf16⟩
  | .hbm, ⟨78, _⟩ => ⟨S3584x74x2x2x32, .bf16⟩
  | .hbm, ⟨79, _⟩ => ⟨S3584x74x2x2x32, .bf16⟩
  | .hbm, ⟨80, _⟩ => ⟨S3584x74x2x2x2x16, .bf16⟩
  | .hbm, ⟨81, _⟩ => ⟨S3584x74x2x2x2x1, .bf16⟩
  | .hbm, ⟨82, _⟩ => ⟨S3584x74x2x2x2x16, .bf16⟩
  | .hbm, ⟨83, _⟩ => ⟨S3584x74x2x2x2x16, .bf16⟩
  | .hbm, ⟨84, _⟩ => ⟨S3584x9472, .bf16⟩
  | .hbm, ⟨85, _⟩ => ⟨S3584x74x2x1x2x2, .bf16⟩
  | .hbm, ⟨86, _⟩ => ⟨S3584x74x2x2x2, .bf16⟩
  | .hbm, ⟨87, _⟩ => ⟨S3584x74x2x2x32, .bf16⟩
  | .hbm, ⟨88, _⟩ => ⟨S_, .bf16⟩
  | .hbm, ⟨89, _⟩ => ⟨S3584x74x2x2x32, .bf16⟩
  | .hbm, ⟨90, _⟩ => ⟨S3584x74x2x2x32, .bf16⟩
  | .hbm, ⟨91, _⟩ => ⟨S3584x74x2x2x2x16, .bf16⟩
  | .hbm, ⟨92, _⟩ => ⟨S3584x74x2x2x2x1, .bf16⟩
  | .hbm, ⟨93, _⟩ => ⟨S3584x74x2x2x2x16, .bf16⟩
  | .hbm, ⟨94, _⟩ => ⟨S3584x74x2x2x2x16, .bf16⟩
  | .hbm, ⟨95, _⟩ => ⟨S3584x9472, .bf16⟩
  | .hbm, ⟨96, _⟩ => ⟨S768x3584, .f32⟩
  | .hbm, ⟨97, _⟩ => ⟨S768x3584, .f32⟩
  | .hbm, ⟨98, _⟩ => ⟨S1x3584, .f32⟩
  | .hbm, ⟨99, _⟩ => ⟨S768x3584, .f32⟩
  | .hbm, ⟨100, _⟩ => ⟨S768x3584, .f32⟩
  | .hbm, ⟨101, _⟩ => ⟨S768x3584, .f32⟩
  | .hbm, ⟨102, _⟩ => ⟨S768x3584, .bf16⟩
  | .hbm, ⟨103, _⟩ => ⟨S3x256x3584, .bf16⟩
  | .local _ .vmem, ⟨0, _⟩ => ⟨S3584x74, .f16⟩
  | .local _ .vmem, ⟨1, _⟩ => ⟨S3584x74x16, .i8⟩
  | .local _ .vmem, ⟨2, _⟩ => ⟨S3584x74x16, .bf16⟩
  | _, _ => ⟨S3x256x18944, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_3 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_7 : Ref sig .tc := ⟨.hbm, 67, rfl⟩
abbrev main_v51 : Ref sig .tc := ⟨.hbm, 68, rfl⟩
abbrev main_v52 : Ref sig .tc := ⟨.hbm, 69, rfl⟩
abbrev main_c_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3584x74 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x74x16 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x74x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Norm.lean ====
abbrev S3x256x18944 : Shape := ⟨3, ![3, 256, 18944]⟩
abbrev S18944 : Shape := ⟨1, ![18944]⟩
abbrev S768x18944 : Shape := ⟨2, ![768, 18944]⟩
abbrev S1x18944 : Shape := ⟨2, ![1, 18944]⟩
abbrev S64x18944 : Shape := ⟨2, ![64, 18944]⟩
abbrev S64 : Shape := ⟨1, ![64]⟩
abbrev S64x1 : Shape := ⟨2, ![64, 1]⟩

abbrev nBuf : Space → Nat
  | .hbm => 5
  | .vmem => 5
  | .smem => 0
  | _ => 0

abbrev bufTy : (tb : Table) → Fin (tcTables nBuf tb) → BufTy
  | .hbm, ⟨0, _⟩ => ⟨S3x256x18944, .bf16⟩
  | .hbm, ⟨1, _⟩ => ⟨S18944, .f32⟩
  | .hbm, ⟨2, _⟩ => ⟨S768x18944, .bf16⟩
  | .hbm, ⟨3, _⟩ => ⟨S1x18944, .f32⟩
  | .hbm, ⟨4, _⟩ => ⟨S768x18944, .bf16⟩
  | .local _ .vmem, ⟨0, _⟩ => ⟨S64x18944, .bf16⟩
  | .local _ .vmem, ⟨1, _⟩ => ⟨S64x18944, .bf16⟩
  | .local _ .vmem, ⟨2, _⟩ => ⟨S1x18944, .f32⟩
  | .local _ .vmem, ⟨3, _⟩ => ⟨S64x18944, .bf16⟩
  | .local _ .vmem, ⟨4, _⟩ => ⟨S64x18944, .bf16⟩
  | _, _ => ⟨S3x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x18944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x18944 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x18944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S3x256x18944 : Shape := ⟨3, ![3, 256, 18944]⟩
abbrev S18944 : Shape := ⟨1, ![18944]⟩
abbrev S_ : Shape := ⟨0, ![]⟩
abbrev S3x256 : Shape := ⟨2, ![3, 256]⟩
abbrev S3x256x1 : Shape := ⟨3, ![3, 256, 1]⟩
abbrev S1x1x18944 : Shape := ⟨3, ![1, 1, 18944]⟩
abbrev S768x18944 : Shape := ⟨2, ![768, 18944]⟩

abbrev nBuf : Space → Nat
  | .hbm => 21
  | .vmem => 0
  | .smem => 0
  | _ => 0

abbrev bufTy : (tb : Table) → Fin (tcTables nBuf tb) → BufTy
  | .hbm, ⟨0, _⟩ => ⟨S3x256x18944, .bf16⟩
  | .hbm, ⟨1, _⟩ => ⟨S18944, .f32⟩
  | .hbm, ⟨2, _⟩ => ⟨S3x256x18944, .f32⟩
  | .hbm, ⟨3, _⟩ => ⟨S3x256x18944, .f32⟩
  | .hbm, ⟨4, _⟩ => ⟨S_, .f32⟩
  | .hbm, ⟨5, _⟩ => ⟨S3x256, .f32⟩
  | .hbm, ⟨6, _⟩ => ⟨S3x256x1, .f32⟩
  | .hbm, ⟨7, _⟩ => ⟨S_, .f32⟩
  | .hbm, ⟨8, _⟩ => ⟨S3x256x1, .f32⟩
  | .hbm, ⟨9, _⟩ => ⟨S3x256x1, .f32⟩
  | .hbm, ⟨10, _⟩ => ⟨S_, .f32⟩
  | .hbm, ⟨11, _⟩ => ⟨S3x256x1, .f32⟩
  | .hbm, ⟨12, _⟩ => ⟨S3x256x1, .f32⟩
  | .hbm, ⟨13, _⟩ => ⟨S3x256x1, .f32⟩
  | .hbm, ⟨14, _⟩ => ⟨S3x256x18944, .f32⟩
  | .hbm, ⟨15, _⟩ => ⟨S3x256x18944, .f32⟩
  | .hbm, ⟨16, _⟩ => ⟨S1x1x18944, .f32⟩
  | .hbm, ⟨17, _⟩ => ⟨S3x256x18944, .f32⟩
  | .hbm, ⟨18, _⟩ => ⟨S3x256x18944, .f32⟩
  | .hbm, ⟨19, _⟩ => ⟨S3x256x18944, .bf16⟩
  | .hbm, ⟨20, _⟩ => ⟨S768x18944, .bf16⟩
  | _, _ => ⟨S3x256x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== MatMul.lean ====
abbrev S768x18944 : Shape := ⟨2, ![768, 18944]⟩
abbrev S3584x74x2x64 : Shape := ⟨4, ![3584, 74, 2, 64]⟩
abbrev S3584x74x2x32 : Shape := ⟨4, ![3584, 74, 2, 32]⟩
abbrev S3584x74x16 : Shape := ⟨3, ![3584, 74, 16]⟩
abbrev S3584x74 : Shape := ⟨2, ![3584, 74]⟩
abbrev S3584 : Shape := ⟨1, ![3584]⟩
abbrev S74x2x64x3584 : Shape := ⟨4, ![74, 2, 64, 3584]⟩
abbrev S9472x3584 : Shape := ⟨2, ![9472, 3584]⟩
abbrev S74x2x32x3584 : Shape := ⟨4, ![74, 2, 32, 3584]⟩
abbrev S4736x3584 : Shape := ⟨2, ![4736, 3584]⟩
abbrev S74x16x3584 : Shape := ⟨3, ![74, 16, 3584]⟩
abbrev S74x3584 : Shape := ⟨2, ![74, 3584]⟩
abbrev S1x3584 : Shape := ⟨2, ![1, 3584]⟩
abbrev S768x3584 : Shape := ⟨2, ![768, 3584]⟩
abbrev S768x512 : Shape := ⟨2, ![768, 512]⟩
abbrev S256x512 : Shape := ⟨2, ![256, 512]⟩
abbrev S128x512 : Shape := ⟨2, ![128, 512]⟩
abbrev S2x16x512 : Shape := ⟨3, ![2, 16, 512]⟩
abbrev S74x512 : Shape := ⟨2, ![74, 512]⟩
abbrev S1x512 : Shape := ⟨2, ![1, 512]⟩
abbrev S32x512 : Shape := ⟨2, ![32, 512]⟩
abbrev S64x512 : Shape := ⟨2, ![64, 512]⟩
abbrev S16x512 : Shape := ⟨2, ![16, 512]⟩
abbrev S1x16x512 : Shape := ⟨3, ![1, 16, 512]⟩
abbrev S8x512 : Shape := ⟨2, ![8, 512]⟩
abbrev S768x256 : Shape := ⟨2, ![768, 256]⟩

abbrev nBuf : Space → Nat
  | .hbm => 14
  | .vmem => 15
  | .smem => 0
  | _ => 0

abbrev bufTy : (tb : Table) → Fin (tcTables nBuf tb) → BufTy
  | .hbm, ⟨0, _⟩ => ⟨S768x18944, .bf16⟩
  | .hbm, ⟨1, _⟩ => ⟨S3584x74x2x64, .i8⟩
  | .hbm, ⟨2, _⟩ => ⟨S3584x74x2x32, .i8⟩
  | .hbm, ⟨3, _⟩ => ⟨S3584x74x16, .i8⟩
  | .hbm, ⟨4, _⟩ => ⟨S3584x74, .f16⟩
  | .hbm, ⟨5, _⟩ => ⟨S3584, .f32⟩
  | .hbm, ⟨6, _⟩ => ⟨S74x2x64x3584, .i8⟩
  | .hbm, ⟨7, _⟩ => ⟨S9472x3584, .i8⟩
  | .hbm, ⟨8, _⟩ => ⟨S74x2x32x3584, .i8⟩
  | .hbm, ⟨9, _⟩ => ⟨S4736x3584, .i8⟩
  | .hbm, ⟨10, _⟩ => ⟨S74x16x3584, .i8⟩
  | .hbm, ⟨11, _⟩ => ⟨S74x3584, .f16⟩
  | .hbm, ⟨12, _⟩ => ⟨S1x3584, .f32⟩
  | .hbm, ⟨13, _⟩ => ⟨S768x3584, .bf16⟩
  | .local _ .vmem, ⟨0, _⟩ => ⟨S768x512, .bf16⟩
  | .local _ .vmem, ⟨1, _⟩ => ⟨S768x512, .bf16⟩
  | .local _ .vmem, ⟨2, _⟩ => ⟨S256x512, .i8⟩
  | .local _ .vmem, ⟨3, _⟩ => ⟨S256x512, .i8⟩
  | .local _ .vmem, ⟨4, _⟩ => ⟨S128x512, .i8⟩
  | .local _ .vmem, ⟨5, _⟩ => ⟨S128x512, .i8⟩
  | .local _ .vmem, ⟨6, _⟩ => ⟨S2x16x512, .i8⟩
  | .local _ .vmem, ⟨7, _⟩ => ⟨S2x16x512, .i8⟩
  | .local _ .vmem, ⟨8, _⟩ => ⟨S74x512, .f16⟩
  | .local _ .vmem, ⟨9, _⟩ => ⟨S74x512, .f16⟩
  | .local _ .vmem, ⟨10, _⟩ => ⟨S1x512, .f32⟩
  | .local _ .vmem, ⟨11, _⟩ => ⟨S1x512, .f32⟩
  | .local _ .vmem, ⟨12, _⟩ => ⟨S768x512, .bf16⟩
  | .local _ .vmem, ⟨13, _⟩ => ⟨S768x512, .bf16⟩
  | .local _ .vmem, ⟨14, _⟩ => ⟨S768x512, .f32⟩
  | _, _ => ⟨S768x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![7, 37], ![false, false]⟩

def k0_off1 (i : grid0.Coords) (c0_i32_1 : BitVec 32) : Fin 2 → Nat :=
  let arg1 : BitVec 32 := BitVec.ofNat 32 (i 1).val
  let c2_i32 : BitVec 32 := 2#32
  let v3 : BitVec 32 := Scalar.muli arg1 c2_i32
  let v4 : BitVec 32 := Scalar.addi v3 c0_i32_1
  let v11 : Index := Scalar.indexCast v4
  let c0_5 : Index := 0#32
  ![v11.toNat, 0]
def k0_cond2 (i : grid0.Coords) : BitVec 1 :=
  let arg1 : BitVec 32 := BitVec.ofNat 32 (i 1).val
  let c36_i32 : BitVec 32 := 36#32
  let v415 : BitVec 1 := Scalar.cmpi .eq arg1 c36_i32
  let v416 : BitVec 32 := Scalar.extui v415
  let c0_i32_88 : BitVec 32 := 0#32
  let v417 : BitVec 1 := Scalar.cmpi .ne v416 c0_i32_88
  v417

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S74x512 .f16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MatMulRefIdeal.lean ====
abbrev S768x18944 : Shape := ⟨2, ![768, 18944]⟩
abbrev S3584x74x2x64 : Shape := ⟨4, ![3584, 74, 2, 64]⟩
abbrev S3584x74x2x32 : Shape := ⟨4, ![3584, 74, 2, 32]⟩
abbrev S3584x74x16 : Shape := ⟨3, ![3584, 74, 16]⟩
abbrev S3584x74 : Shape := ⟨2, ![3584, 74]⟩
abbrev S3584 : Shape := ⟨1, ![3584]⟩
abbrev S768x74x2x2x2x32 : Shape := ⟨6, ![768, 74, 2, 2, 2, 32]⟩
abbrev S768x74x2x1x2x32 : Shape := ⟨6, ![768, 74, 2, 1, 2, 32]⟩
abbrev S768x74x2x2x32 : Shape := ⟨5, ![768, 74, 2, 2, 32]⟩
abbrev S768x9472 : Shape := ⟨2, ![768, 9472]⟩
abbrev S3584x74x1 : Shape := ⟨3, ![3584, 74, 1]⟩
abbrev S3584x74x2x2x2x2 : Shape := ⟨6, ![3584, 74, 2, 2, 2, 2]⟩
abbrev S3584x74x2x2x32 : Shape := ⟨5, ![3584, 74, 2, 2, 32]⟩
abbrev S2 : Shape := ⟨1, ![2]⟩
abbrev S2x1 : Shape := ⟨2, ![2, 1]⟩
abbrev S_ : Shape := ⟨0, ![]⟩
abbrev S3584x74x2x1x32 : Shape := ⟨5, ![3584, 74, 2, 1, 32]⟩
abbrev S1x1x1x2x1 : Shape := ⟨5, ![1, 1, 1, 2, 1]⟩
abbrev S3584x74x2x1x2x2 : Shape := ⟨6, ![3584, 74, 2, 1, 2, 2]⟩
abbrev S3584x74x2x2x2 : Shape := ⟨5, ![3584, 74, 2, 2, 2]⟩
abbrev S3584x74x2x2x2x16 : Shape := ⟨6, ![3584, 74, 2, 2, 2, 16]⟩
abbrev S3584x74x2x2x2x1 : Shape := ⟨6, ![3584, 74, 2, 2, 2, 1]⟩
abbrev S3584x9472 : Shape := ⟨2, ![3584, 9472]⟩
abbrev S768x3584 : Shape := ⟨2, ![768, 3584]⟩
abbrev S1x3584 : Shape := ⟨2, ![1, 3584]⟩

abbrev nBuf : Space → Nat
  | .hbm => 84
  | .vmem => 3
  | .smem => 0
  | _ => 0

abbrev bufTy : (tb : Table) → Fin (tcTables nBuf tb) → BufTy
  | .hbm, ⟨0, _⟩ => ⟨S768x18944, .bf16⟩
  | .hbm, ⟨1, _⟩ => ⟨S3584x74x2x64, .i8⟩
  | .hbm, ⟨2, _⟩ => ⟨S3584x74x2x32, .i8⟩
  | .hbm, ⟨3, _⟩ => ⟨S3584x74x16, .i8⟩
  | .hbm, ⟨4, _⟩ => ⟨S3584x74, .f16⟩
  | .hbm, ⟨5, _⟩ => ⟨S3584, .f32⟩
  | .hbm, ⟨6, _⟩ => ⟨S768x74x2x2x2x32, .bf16⟩
  | .hbm, ⟨7, _⟩ => ⟨S768x74x2x1x2x32, .bf16⟩
  | .hbm, ⟨8, _⟩ => ⟨S768x74x2x2x32, .bf16⟩
  | .hbm, ⟨9, _⟩ => ⟨S768x9472, .bf16⟩
  | .hbm, ⟨10, _⟩ => ⟨S768x74x2x1x2x32, .bf16⟩
  | .hbm, ⟨11, _⟩ => ⟨S768x74x2x2x32, .bf16⟩
  | .hbm, ⟨12, _⟩ => ⟨S768x9472, .bf16⟩
  | .hbm, ⟨13, _⟩ => ⟨S3584x74x16, .bf16⟩
  | .hbm, ⟨14, _⟩ => ⟨S3584x74x2x2x2x2, .bf16⟩
  | .hbm, ⟨15, _⟩ => ⟨S3584x74x2x64, .i32⟩
  | .hbm, ⟨16, _⟩ => ⟨S3584x74x2x2x32, .i32⟩
  | .hbm, ⟨17, _⟩ => ⟨S2, .i32⟩
  | .hbm, ⟨18, _⟩ => ⟨S2x1, .i32⟩
  | .hbm, ⟨19, _⟩ => ⟨S_, .i32⟩
  | .hbm, ⟨20, _⟩ => ⟨S2x1, .i32⟩
  | .hbm, ⟨21, _⟩ => ⟨S2x1, .i32⟩
  | .hbm, ⟨22, _⟩ => ⟨S3584x74x2x32, .i32⟩
  | .hbm, ⟨23, _⟩ => ⟨S3584x74x2x1x32, .i32⟩
  | .hbm, ⟨24, _⟩ => ⟨S_, .i32⟩
  | .hbm, ⟨25, _⟩ => ⟨S3584x74x2x2x32, .i32⟩
  | .hbm, ⟨26, _⟩ => ⟨S3584x74x2x2x32, .i32⟩
  | .hbm, ⟨27, _⟩ => ⟨S1x1x1x2x1, .i32⟩
  | .hbm, ⟨28, _⟩ => ⟨S3584x74x2x2x32, .i32⟩
  | .hbm, ⟨29, _⟩ => ⟨S3584x74x2x2x32, .i32⟩
  | .hbm, ⟨30, _⟩ => ⟨S3584x74x2x2x32, .i32⟩
  | .hbm, ⟨31, _⟩ => ⟨S_, .i32⟩
  | .hbm, ⟨32, _⟩ => ⟨S3584x74x2x2x32, .i32⟩
  | .hbm, ⟨33, _⟩ => ⟨S3584x74x2x2x32, .i32⟩
  | .hbm, ⟨34, _⟩ => ⟨S_, .i32⟩
  | .hbm, ⟨35, _⟩ => ⟨S3584x74x2x2x32, .i32⟩
  | .hbm, ⟨36, _⟩ => ⟨S3584x74x2x2x32, .i32⟩
  | .hbm, ⟨37, _⟩ => ⟨S3584x74x2x2x32, .i32⟩
  | .hbm, ⟨38, _⟩ => ⟨S_, .i32⟩
  | .hbm, ⟨39, _⟩ => ⟨S3584x74x2x2x32, .i32⟩
  | .hbm, ⟨40, _⟩ => ⟨S3584x74x2x2x32, .i32⟩
  | .hbm, ⟨41, _⟩ => ⟨S_, .i32⟩
  | .hbm, ⟨42, _⟩ => ⟨S2x1, .i32⟩
  | .hbm, ⟨43, _⟩ => ⟨S2x1, .i32⟩
  | .hbm, ⟨44, _⟩ => ⟨S1x1x1x2x1, .i32⟩
  | .hbm, ⟨45, _⟩ => ⟨S3584x74x2x2x32, .i32⟩
  | .hbm, ⟨46, _⟩ => ⟨S3584x74x2x2x32, .i32⟩
  | .hbm, ⟨47, _⟩ => ⟨S3584x74x2x2x32, .i32⟩
  | .hbm, ⟨48, _⟩ => ⟨S_, .i32⟩
  | .hbm, ⟨49, _⟩ => ⟨S3584x74x2x2x32, .i32⟩
  | .hbm, ⟨50, _⟩ => ⟨S3584x74x2x2x32, .i32⟩
  | .hbm, ⟨51, _⟩ => ⟨S_, .i32⟩
  | .hbm, ⟨52, _⟩ => ⟨S3584x74x2x2x32, .i32⟩
  | .hbm, ⟨53, _⟩ => ⟨S3584x74x2x2x32, .i32⟩
  | .hbm, ⟨54, _⟩ => ⟨S3584x74x2x2x32, .i32⟩
  | .hbm, ⟨55, _⟩ => ⟨S3584x74x2x1x2x2, .bf16⟩
  | .hbm, ⟨56, _⟩ => ⟨S3584x74x2x2x2, .bf16⟩
  | .hbm, ⟨57, _⟩ => ⟨S3584x74x2x2x32, .bf16⟩
  | .hbm, ⟨58, _⟩ => ⟨S_, .bf16⟩
  | .hbm, ⟨59, _⟩ => ⟨S3584x74x2x2x32, .bf16⟩
  | .hbm, ⟨60, _⟩ => ⟨S3584x74x2x2x32, .bf16⟩
  | .hbm, ⟨61, _⟩ => ⟨S3584x74x2x2x2x16, .bf16⟩
  | .hbm, ⟨62, _⟩ => ⟨S3584x74x2x2x2x1, .bf16⟩
  | .hbm, ⟨63, _⟩ => ⟨S3584x74x2x2x2x16, .bf16⟩
  | .hbm, ⟨64, _⟩ => ⟨S3584x74x2x2x2x16, .bf16⟩
  | .hbm, ⟨65, _⟩ => ⟨S3584x9472, .bf16⟩
  | .hbm, ⟨66, _⟩ => ⟨S3584x74x2x1x2x2, .bf16⟩
  | .hbm, ⟨67, _⟩ => ⟨S3584x74x2x2x2, .bf16⟩
  | .hbm, ⟨68, _⟩ => ⟨S3584x74x2x2x32, .bf16⟩
  | .hbm, ⟨69, _⟩ => ⟨S_, .bf16⟩
  | .hbm, ⟨70, _⟩ => ⟨S3584x74x2x2x32, .bf16⟩
  | .hbm, ⟨71, _⟩ => ⟨S3584x74x2x2x32, .bf16⟩
  | .hbm, ⟨72, _⟩ => ⟨S3584x74x2x2x2x16, .bf16⟩
  | .hbm, ⟨73, _⟩ => ⟨S3584x74x2x2x2x1, .bf16⟩
  | .hbm, ⟨74, _⟩ => ⟨S3584x74x2x2x2x16, .bf16⟩
  | .hbm, ⟨75, _⟩ => ⟨S3584x74x2x2x2x16, .bf16⟩
  | .hbm, ⟨76, _⟩ => ⟨S3584x9472, .bf16⟩
  | .hbm, ⟨77, _⟩ => ⟨S768x3584, .f32⟩
  | .hbm, ⟨78, _⟩ => ⟨S768x3584, .f32⟩
  | .hbm, ⟨79, _⟩ => ⟨S1x3584, .f32⟩
  | .hbm, ⟨80, _⟩ => ⟨S768x3584, .f32⟩
  | .hbm, ⟨81, _⟩ => ⟨S768x3584, .f32⟩
  | .hbm, ⟨82, _⟩ => ⟨S768x3584, .f32⟩
  | .hbm, ⟨83, _⟩ => ⟨S768x3584, .bf16⟩
  | .local _ .vmem, ⟨0, _⟩ => ⟨S3584x74, .f16⟩
  | .local _ .vmem, ⟨1, _⟩ => ⟨S3584x74x16, .i8⟩
  | .local _ .vmem, ⟨2, _⟩ => ⟨S3584x74x16, .bf16⟩
  | _, _ => ⟨S768x18944, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3584x74 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x74x16 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x74x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.IdealNormRegion.lean ====
/-
  The norm call of the whole kernel: what every buffer holds after each grid point, and that the body keeps to it.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Norm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S64x18944 := Rect.unit (s := S64x18944) ![0, 0] S64x18944.size inb_S64x18944_S64x18944_0_0
abbrev r0_1 : Rect S1x18944 := Rect.unit (s := S1x18944) ![0, 0] S1x18944.size inb_S1x18944_S1x18944_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S64x18944 .bf16) (x1 : Vec F S1x18944 .f32) : Vec F S64x18944 .bf16 :=
  View.canon [⟨r0_0, k0_pay1 (View.ld x0 r0_0) (View.ld x1 r0_1)⟩]

/-- Its stores tile the buffer (checked by evaluation), so they cover it. -/
theorem cover0_2 (p0 : Vec F S64x18944 .bf16) (y : S64x18944.Idx) :
    ∃ pc ∈ ([⟨r0_0, p0⟩] : List (View.Piece (Elt F) S64x18944 .bf16)), y ∈ pc.1.set :=
  View.cover_of_tiled [⟨r0_0, p0⟩] S64x18944.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S64x18944 .bf16) (harg1 : arg1.IsWhole) (arg2 : Memref sig .tc .vmem S1x18944 .f32) (harg2 : arg2.IsWhole) (arg3 : Memref sig .tc .vmem S64x18944 .bf16) (harg3 : arg3.IsWhole)
    (x0 : Vec F S64x18944 .bf16) (x1 : Vec F S1x18944 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_rmsnorm i arg1 harg1 arg2 harg2 arg3 harg3) K := by
  simp only [cc0_rmsnorm_eq_skeleton]; unfold cc0_rmsnorm_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = out0_2 (iblk V c 0 t) (iblk V c 1 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.KernelIdeal.Norm

end
-- ==== Proof.IdealMatRuns.lean ====
/-
  The matrix-product call of the whole kernel: the blocks its windows see, and which branch a grid point takes.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Mat

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 37) — by arithmetic of the point. -/
theorem hcond1_0 : ∀ t : Fin cfg1.N, cond1_0 (grid1.coords t) ↔ t.val % 37 = 0 :=
  (fun t => by
    have ht : t.val < 259 := Nat.lt_of_lt_of_eq t.isLt N_1
    have e0 : (grid1.coords t 0).val = t.val / 37 % 7 := Pipeline.Grid.coords_val t 0 (by decide) rfl
    have e1 : (grid1.coords t 1).val = t.val / 1 % 37 := Pipeline.Grid.coords_val t 1 (by decide) rfl
    simp only [cond1_0, e0, e1]
    word_cmp
   : ∀ t : Fin grid1.N, cond1_0 (grid1.coords t) ↔ t.val % 37 = 0)

/-- The condition of the body's `scf.if` 1 (`k1_h2`), from the grid coordinates (the skeleton's scalar
    chain substituted). -/
abbrev cond1_1 (i : grid1.Coords) : Prop := k1_cond2 i = 1#1
/-- It holds at the points ≡ 36 (mod 37) — by arithmetic of the point. -/
theorem hcond1_1 : ∀ t : Fin cfg1.N, cond1_1 (grid1.coords t) ↔ t.val % 37 = 36 :=
  (fun t => by
    have ht : t.val < 259 := Nat.lt_of_lt_of_eq t.isLt N_1
    have e0 : (grid1.coords t 0).val = t.val / 37 % 7 := Pipeline.Grid.coords_val t 0 (by decide) rfl
    have e1 : (grid1.coords t 1).val = t.val / 1 % 37 := Pipeline.Grid.coords_val t 1 (by decide) rfl
    simp only [cond1_1, k1_cond2, e0, e1]
    word_cmp
   : ∀ t : Fin grid1.N, cond1_1 (grid1.coords t) ↔ t.val % 37 = 36)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- At the points of case A the printed configuration (`Cfg.idle`) calls output 6 idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B the printed configuration (`Cfg.idle`) calls output 6 idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C the printed configuration (`Cfg.idle`) calls output 6 live: the case stores into it. -/
theorem liveAt1_6_C : ∀ t : Fin cfg1.N, ¬cond1_0 (grid1.coords t) → cond1_1 (grid1.coords t) → cfg1.idle 6 (grid1.coords t) = false := by decide +kernel

/-! ## The kernel body on any staging memrefs: a subtype the run finds -/

/-- One staging buffer of output window 6, through which its contents are stated (`View.read_writes_of_cover`: the
    choice does not matter). -/
abbrev VO1_6 : View sig .tc .vmem S768x512 .bf16 := (Memref.whole cc1_stg6_0 : Memref sig .tc .vmem S768x512 .bf16).view
/-- Each window's current staging memref at point `t`, spelled as the pipeline passes it (`bodyAt1`), and its wholeness. -/
abbrev ms1_0 (t : Fin cfg1.N) : Memref sig .tc .vmem S768x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x512 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x16x512 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S74x512 .f16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S768x512 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S768x512 .f32 := Memref.whole cc1_scratch0
/-- The scratch `arg9` the kernel carries between points, as a view: what it holds is stated through it. -/
abbrev VS1_0 : View sig .tc .vmem S768x512 .f32 := scM1_0.view

/-- The sixth of seven assertions brought to the front. -/
theorem regroup (A0 A1 A2 A3 A4 S G : sProp 𝕄) :
    iprop((A0 ∗ A1 ∗ A2 ∗ A3 ∗ A4 ∗ S) ∗ G) = iprop(S ∗ (A0 ∗ A1 ∗ A2 ∗ A3 ∗ A4) ∗ G) := by
  have h1 : iprop((A0 ∗ A1 ∗ A2 ∗ A3 ∗ A4 ∗ S) ∗ G) ⊢ iprop(S ∗ (A0 ∗ A1 ∗ A2 ∗ A3 ∗ A4) ∗ G) := by
    iintro ⟨⟨H0, H1, H2, H3, H4, HS⟩, Hg⟩
    isplitl [HS]; · iexact HS
    isplitr [Hg]
    · isplitl [H0]; · iexact H0
      isplitl [H1]; · iexact H1
      isplitl [H2]; · iexact H2
      isplitl [H3]; · iexact H3
      iexact H4
    iexact Hg
  have h2 : iprop(S ∗ (A0 ∗ A1 ∗ A2 ∗ A3 ∗ A4) ∗ G) ⊢ iprop((A0 ∗ A1 ∗ A2 ∗ A3 ∗ A4 ∗ S) ∗ G) := by
    iintro ⟨HS, ⟨H0, H1, H2, H3, H4⟩, Hg⟩
    isplitr [Hg]
    · isplitl [H0]; · iexact H0
      isplitl [H1]; · iexact H1
      isplitl [H2]; · iexact H2
      isplitl [H3]; · iexact H3
      isplitl [H4]; · iexact H4
      iexact HS
    iexact Hg
  exact equiv_iff.mp ⟨h1, h2⟩

/-- What the matrix-product call never touches: the norm call's staging buffers, at anything, and the generator
    register at some state. -/
def aside (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ r, prngReg c r))

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d)) ∗ aside c) := by
  unfold Pipeline.ΦA aside; rw [scopedRest1_eq]; simp only [scM1_0, owns_whole]
  exact regroup _ _ _ _ _ _ _

end Cert.KernelIdeal.Mat

end
-- ==== Proof.IdealMatRunA.lean ====
/-
  The matrix-product call: one run of the body at a grid point of case A.
-/
module

public import proofs.«01_k».proof.Proof.IdealMatRuns

@[expose] public section

set_option maxRecDepth 16384

noncomputable section

namespace Cert.KernelIdeal.Mat

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 37, … 222: 7 of 259), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : cond1_0 i) (hc1 : ¬cond1_1 i)
    (x0 : Vec F S768x512 .bf16) (x1 : Vec F S256x512 .i8) (x2 : Vec F S128x512 .i8) (x3 : Vec F S2x16x512 .i8) (x4 : Vec F S74x512 .f16) (x5 : Vec F S1x512 .f32) :
    Σ' (L6 : List (View.Piece (Elt F) S768x512 .bf16)), { LS0 : List (View.Piece (Elt F) S768x512 .f32) //
      ∀ (xi6 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1_q6k_matmul i arg2 harg2 arg3 harg3 arg4 harg4 arg5 harg5 arg6 harg6 arg7 harg7 arg8 harg8 arg9 harg9) K } := by
  refine ⟨[], ?_, fun xi6 E K => ?run⟩
  case run =>
    simp only [cc1_q6k_matmul_eq_skeleton]; unfold cc1_q6k_matmul_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Mat

end
-- ==== Proof.IdealMatRunB.lean ====
/-
  The matrix-product call: one run of the body at a grid point of case B.
-/
module

public import proofs.«01_k».proof.Proof.IdealMatRunA

@[expose] public section

set_option maxRecDepth 16384

noncomputable section

namespace Cert.KernelIdeal.Mat

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 257: 245 of 259), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : ¬cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) :
    Σ' (L6 : List (View.Piece (Elt F) S768x512 .bf16)), { LS0 : List (View.Piece (Elt F) S768x512 .f32) //
      ∀ (xi6 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1_q6k_matmul i arg2 harg2 arg3 harg3 arg4 harg4 arg5 harg5 arg6 harg6 arg7 harg7 arg8 harg8 arg9 harg9) K } := by
  refine ⟨[], ?_, fun xi6 E K => ?run⟩
  case run =>
    simp only [cc1_q6k_matmul_eq_skeleton]; unfold cc1_q6k_matmul_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Mat

end
-- ==== Proof.IdealMatRunC.lean ====
/-
  The matrix-product call: one run of the body at a grid point of case C.
-/
module

public import proofs.«01_k».proof.Proof.IdealMatRunB

@[expose] public section

set_option maxRecDepth 16384

noncomputable section

namespace Cert.KernelIdeal.Mat

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 36, 73, … 258: 7 of 259), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) :
    Σ' (L6 : List (View.Piece (Elt F) S768x512 .bf16)), { LS0 : List (View.Piece (Elt F) S768x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1_q6k_matmul i arg2 harg2 arg3 harg3 arg4 harg4 arg5 harg5 arg6 harg6 arg7 harg7 arg8 harg8 arg9 harg9) K } := by
  refine ⟨?_, ?_, fun E K => ?run⟩
  case run =>
    simp only [cc1_q6k_matmul_eq_skeleton]; unfold cc1_q6k_matmul_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Mat

end
-- ==== Proof.IdealMatRegion.lean ====
/-
  The matrix-product call: what every buffer holds after each grid point, and that the body keeps to it.
-/
module

public import proofs.«01_k».proof.Proof.IdealMatRunC
public import Idealize.ShloMosaic.Lib.Claim

@[expose] public section

set_option maxRecDepth 16384

noncomputable section

namespace Cert.KernelIdeal.Mat

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 6 (the window is idle at its points and not written back there):
    no pieces — a placeholder (junk read back) that nothing consults, since at these points the window is neither
    written back nor read at the next point (Lib/Pipeline.lean "Idle points"). -/
def out1_A_6 (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : cond1_0 i) (hc1 : ¬cond1_1 i)
    (x0 : Vec F S768x512 .bf16) (x1 : Vec F S256x512 .i8) (x2 : Vec F S128x512 .i8) (x3 : Vec F S2x16x512 .i8) (x4 : Vec F S74x512 .f16) (x5 : Vec F S1x512 .f32) : Vec F S768x512 .bf16 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's pieces for scratch `arg9`, which the kernel carries between points, cover it: 3 pieces of `S768x512` tiling it (Lib/Ring.lean `Piece.tiledL`). -/
theorem scover1_A_0 (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : cond1_0 i) (hc1 : ¬cond1_1 i)
    (x0 : Vec F S768x512 .bf16) (x1 : Vec F S256x512 .i8) (x2 : Vec F S128x512 .i8) (x3 : Vec F S2x16x512 .i8) (x4 : Vec F S74x512 .f16) (x5 : Vec F S1x512 .f32) (y : S768x512.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S768x512.size (by sl_kernel_rfl) y

/-- What case A leaves in scratch `arg9`: its pieces read back over junk. -/
def sout1_A_0 (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : cond1_0 i) (hc1 : ¬cond1_1 i)
    (x0 : Vec F S768x512 .bf16) (x1 : Vec F S256x512 .i8) (x2 : Vec F S128x512 .i8) (x3 : Vec F S2x16x512 .i8) (x4 : Vec F S74x512 .f16) (x5 : Vec F S1x512 .f32) : Vec F S768x512 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- Case B stores nothing into output 6 (the window is idle at its points and not written back there):
    no pieces — a placeholder (junk read back) that nothing consults, since at these points the window is neither
    written back nor read at the next point (Lib/Pipeline.lean "Idle points"). -/
def out1_B_6 (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : ¬cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) : Vec F S768x512 .bf16 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's pieces for scratch `arg9`, which the kernel carries between points, cover it: 2 pieces of `S768x512` tiling it (Lib/Ring.lean `Piece.tiledL`). -/
theorem scover1_B_0 (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : ¬cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) (y : S768x512.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S768x512.size (by sl_kernel_rfl) y

/-- What case B leaves in scratch `arg9`: its pieces read back over junk. -/
def sout1_B_0 (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : ¬cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) : Vec F S768x512 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- Case C's pieces for output 6 tile its block (1 store of `S768x512`, checked by the kernel's evaluation: Lib/Ring.lean `Piece.tiledL`, linear in the pieces, through a loop's `@[irreducible]` trip theorem too), so they cover it. -/
theorem cover1_C_6 (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) (y : S768x512.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S768x512.size (by sl_kernel_rfl) y

/-- What case C leaves in output 6's staging buffer: its pieces read back over junk. -/
def out1_C_6 (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) : Vec F S768x512 .bf16 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's pieces for scratch `arg9`, which the kernel carries between points, cover it: 2 pieces of `S768x512` tiling it (Lib/Ring.lean `Piece.tiledL`). -/
theorem scover1_C_0 (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) (y : S768x512.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S768x512.size (by sl_kernel_rfl) y

/-- What case C leaves in scratch `arg9`: its pieces read back over junk. -/
def sout1_C_0 (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) : Vec F S768x512 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S768x512 .bf16 × Vec F S768x512 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 37 = 0 then
      if h1 : (n + 1) % 37 = 36 then
        False.elim (by have hN : n + 1 < 259 := lt_of_lt_of_eq hn (show cfg1.N = 259 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      if h1 : (n + 1) % 37 = 36 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2)

/-- `outsAt1` at a point of case A: that case's contents. -/
theorem outsAt1_A (c : Dev nD) (t : Fin cfg1.N) (h0 : t.val % 37 = 0) (h1 : ¬t.val % 37 = 36) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk V c 0 t) (iblk V c 1 t) (iblk V c 2 t) (iblk V c 3 t) (iblk V c 4 t) (iblk V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 37 = 0) (h1 : ¬t.val % 37 = 36) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 37 = 0) (h1 : t.val % 37 = 36) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk V c 0 t) (iblk V c 1 t) (iblk V c 2 t) (iblk V c 3 t) (iblk V c 4 t) (iblk V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk V c 0 t) (iblk V c 1 t) (iblk V c 2 t) (iblk V c 3 t) (iblk V c 4 t) (iblk V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ aside c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2)) ∗ aside c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ aside c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = (outsAt1 V c t.val t.isLt).1 := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).owesAt () t.succ = (dat V c).owesAt () t.castSucc from rfl]
  rw [show (dat V c).Φ t.succ = PhiS V c (t.val + 1) t.isLt from rfl, PhiS_succ]
  have hN : t.val < 259 := lt_of_lt_of_eq t.isLt (show cfg1.N = 259 from N_1)
  by_cases h0 : t.val % 37 = 0
  · by_cases h1 : t.val % 37 = 36
    · exfalso; omega
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [show (dat V c).leavesExact 5 t = owns (c : Thread nD τ) (ms1_5 t) fullShare ((dat V c).after 5 t) from by
      unfold Dat.leavesExact; rw [liveAt1_5 t], after1_5]
      rw [Dat.leavesExact_idle (dat V c) 6 t (idleAt1_6_A t ((hcond1_0 t).mpr h0) (fun h => h1 ((hcond1_1 t).mp h))) (noFlush1_6_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk V c 0 t) (iblk V c 1 t) (iblk V c 2 t) (iblk V c 3 t) (iblk V c 4 t) (iblk V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        rw [outsAt1_A V c t h0 h1]
        unfold sout1_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk V c 0 t) (iblk V c 1 t) (iblk V c 2 t) (iblk V c 3 t) (iblk V c 4 t) (iblk V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 37 = 36
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [show (dat V c).leavesExact 5 t = owns (c : Thread nD τ) (ms1_5 t) fullShare ((dat V c).after 5 t) from by
      unfold Dat.leavesExact; rw [liveAt1_5 t], after1_5]
      rw [show (dat V c).leavesExact 6 t = owns (c : Thread nD τ) (ms1_6 t) fullShare ((dat V c).after 6 t) from by
      unfold Dat.leavesExact; rw [liveAt1_6_C t (fun h => h0 ((hcond1_0 t).mp h)) ((hcond1_1 t).mpr h1)], after1_6]
      by_cases hz : t.val = 0
      · exfalso; have hN : t.val < 259 := lt_of_lt_of_eq t.isLt (show cfg1.N = 259 from N_1); omega
      · rw [PhiS_castSucc V c t, PhiS_pos V c _ _ hz]
        rw [outsAt1_C V c t h0 h1]
        unfold out1_C_6 sout1_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk V c 0 t) (iblk V c 1 t) (iblk V c 2 t) (iblk V c 3 t) (iblk V c 4 t) (iblk V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [show (dat V c).leavesExact 5 t = owns (c : Thread nD τ) (ms1_5 t) fullShare ((dat V c).after 5 t) from by
      unfold Dat.leavesExact; rw [liveAt1_5 t], after1_5]
      rw [Dat.leavesExact_idle (dat V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      by_cases hz : t.val = 0
      · exfalso; have hN : t.val < 259 := lt_of_lt_of_eq t.isLt (show cfg1.N = 259 from N_1); omega
      · rw [PhiS_castSucc V c t, PhiS_pos V c _ _ hz]
        rw [outsAt1_B V c t h0 h1]
        unfold sout1_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk V c 0 t) (iblk V c 1 t) (iblk V c 2 t) (iblk V c 3 t) (iblk V c 4 t) (iblk V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 259 := N_1; omega)

end Cert.KernelIdeal.Mat

end
-- ==== Proof.IdealRun.lean ====
/-
  The whole kernel: its two calls and the host operations around them, run one after the other.
-/
module

public import proofs.«01_k».proof.Proof.IdealNormRegion
public import proofs.«01_k».proof.Proof.IdealMatRegion
public import proofs.«01_k».proof.Proof.Gen.KernelIdeal.Regions
public import Idealize.ShloMosaic.Lib.Pipeline.RegionsLoop
public import Idealize.ShloMosaic.Lib.Tactic

@[expose] public section

set_option maxRecDepth 16384

noncomputable section

namespace Cert.KernelIdeal.Whole

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the two calls leave -/

/-- The buffers as the norm call finds them: the launch's, after the host operations before it. -/
abbrev Vn (c : Dev nD) (b : Ref sig .tc) : Buf (Elt F) ((c : Thread nD τ).loc b) := V1 m c b

/-- The normalised activations as the norm call leaves them. -/
def hOut (c : Dev nD) : Buf (Elt F) ((c : Thread nD τ).loc main_v8) := (Norm.dat (Vn m) c).arrAt 2 cfg0.N

/-- What the norm call leaves, every other buffer as it found it. -/
def outsN : Outs (F := F) := fun _ r c => Function.update (fun b : Ref sig .tc => Vn m c b) main_v8 (hOut m c) r

theorem outsN_v8 (n : ℕ) (c : Dev nD) : outsN m n main_v8 c = hOut m c := by
  unfold outsN; exact Function.update_self _ _ _

/-- The buffers as the matrix-product call finds them: the normalised activations in place. -/
abbrev Vm (c : Dev nD) (b : Ref sig .tc) : Buf (Elt F) ((c : Thread nD τ).loc b) := V3 m (outsN m) c b

/-- The matrix product as its call leaves it. -/
def yOut (c : Dev nD) : Buf (Elt F) ((c : Thread nD τ).loc main_v10) := (Mat.dat (Vm m) c).arrAt 6 cfg1.N

/-- What both calls leave. -/
def outs : Outs (F := F) := fun _ r c => Function.update (fun b : Ref sig .tc => outsN m 0 b c) main_v10 (yOut m c) r

theorem outs_v8 (n : ℕ) (c : Dev nD) : outs m n main_v8 c = hOut m c := by
  unfold outs; rw [Function.update_of_ne (by decide)]; exact outsN_v8 m 0 c

theorem outs_v10 (n : ℕ) (c : Dev nD) : outs m n main_v10 c = yOut m c := by
  unfold outs; exact Function.update_self _ _ _

theorem V2_eq (c : Dev nD) : V2 m (outs m) c = V2 m (outsN m) c := by
  unfold V2; rw [outs_v8, outsN_v8]

theorem V3_eq (c : Dev nD) : V3 m (outs m) c = V3 m (outsN m) c := by
  unfold V3; rw [V2_eq]

/-- After the norm call, its result is what the call leaves. -/
theorem V2_v8 (c : Dev nD) : V2 m (outs m) c main_v8 = hOut m c := by
  unfold V2; rw [Function.update_self]; exact outs_v8 m 2 c

/-- After the matrix-product call, its result is what the call leaves. -/
theorem V4_v10 (c : Dev nD) : V4 m (outs m) c main_v10 = yOut m c := by
  unfold V4; rw [Function.update_self]; exact outs_v10 m 4 c

/-- The matrix-product call leaves every other buffer as it found it. -/
theorem V4_kept (c : Dev nD) (r : Ref sig .tc) (h : r ∉ ([main_v10] : List (Ref sig .tc))) : V4 m (outs m) c r = Vm m c r :=
  (V4_of m (outs m) c r h).trans (congrFun (V3_eq m c) (Proc.devRef .tc r))

/-! ## The two calls as segments of the program -/

/-- The proof data of the two calls. -/
def pdats : (p : Fin 2) → (c : Dev nD) → Dat τ (Elt F) Unit ℕ (UR sig nD τ) ℕ (Pipeline.pin (pcfgs (F := F)) adm p) c
  | ⟨0, _⟩ => fun c => Norm.dat (Vn m) c
  | ⟨1, _⟩ => fun c => Mat.dat (Vm m) c

/-- No core owes another anything: no level is assigned. -/
abbrev L : GSem nD τ sig → Finset Unit := fun _ => ∅
abbrev lv : GSem nD τ sig → Unit → ℕ := fun _ _ => 0

/-- What rides beside the buffers between two items: the generator register at some state, and nothing owed. -/
abbrev E (_ : Fin 3) (c : Dev nD) : sProp 𝕄 :=
  iprop((∃ r, prngReg c r) ∗ ∃ W, owes (c : Thread nD τ) (0 : CellTallies nD τ sig Unit) W)

set_option backward.isDefEq.respectTransparency.types false in
/-- The norm call, entered at the buffers the host prefix leaves and left with its result in place. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Norm.body_obligation (Vn m) c).loose
  hwaits := Pipeline.hwaits_of_owed_zero _ _ _ _ L lv 0 fun _ _ => rfl
  pre c := iprop(unscopedBufs c (Vn m c) ∗ E 0 c)
  post c := iprop(unscopedBufs c (fun b => V2 m (outs m) c b) ∗ E 1 c)
  X c := iprop(∃ r, prngReg c r)
  Y c := iprop(∃ r, prngReg c r)
  Z c := Pipeline.unscopedRest (Ix := Unit) (Name := ℕ) (U := UR sig nD τ) (Lvl := ℕ) spec0 c (Vn m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vn m c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (Vn m c) (fun b => V2 m (outs m) c b) ((pdats m 0 c).arrAt · cfg0.N)
      (fun w => by
        fin_cases w
        · exact ((pdats m 0 c).arrAt_in 0 rfl _).trans <| (Norm.A_eq (Vn m) c 0).trans (V2_of m (outs m) c main_v0 (by decide)).symm
        · exact ((pdats m 0 c).arrAt_in 1 rfl _).trans <| (Norm.A_eq (Vn m) c 1).trans (V2_of m (outs m) c main_v7 (by decide)).symm
        · exact (V2_v8 m c).symm)
      (fun b hb => V2_of m (outs m) c b fun h => hb (List.mem_singleton.mp h ▸ Finset.mem_image.mpr ⟨2, Finset.mem_univ _, rfl⟩))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product call, entered with the normalised activations in place and left with the product in place. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Mat.body_obligation (Vm m) c).loose
  hwaits := Pipeline.hwaits_of_owed_zero _ _ _ _ L lv 1 fun _ _ => rfl
  pre c := iprop(unscopedBufs c (Vm m c) ∗ E 1 c)
  post c := iprop(unscopedBufs c (fun b => V4 m (outs m) c b) ∗ E 2 c)
  X c := iprop(∃ r, prngReg c r)
  Y c := iprop(∃ r, prngReg c r)
  Z c := Pipeline.unscopedRest (Ix := Unit) (Name := ℕ) (U := UR sig nD τ) (Lvl := ℕ) spec1 c (Vm m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vm m c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := by
    have h : Pipeline.ΦA spec1 c ⊢ (pdats m 1 c).Φ 0 := Mat.hin (Vm m) c
    refine BIBase.Entails.trans ?_ h
    unfold Pipeline.ΦA
    iintro ⟨Hp, -, Hr⟩
    isplitl [Hr]; · iexact Hr
    iexact Hp
  hout c := by
    have h : (pdats m 1 c).Φ (Fin.last _) ⊢ Pipeline.ΦA spec1 c := Mat.hout (Vm m) c
    rw [Pipeline.ownSems0_none]
    refine BIBase.Entails.trans h ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (Vm m c) (fun b => V4 m (outs m) c b) ((pdats m 1 c).arrAt · cfg1.N)
      (fun w => by
        fin_cases w
        · exact ((pdats m 1 c).arrAt_in 0 rfl _).trans <| (Mat.A_eq (Vm m) c 0).trans (V4_kept m c main_v8 (by decide)).symm
        · exact ((pdats m 1 c).arrAt_in 1 rfl _).trans <| (Mat.A_eq (Vm m) c 1).trans (V4_kept m c main_v2 (by decide)).symm
        · exact ((pdats m 1 c).arrAt_in 2 rfl _).trans <| (Mat.A_eq (Vm m) c 2).trans (V4_kept m c main_v4 (by decide)).symm
        · exact ((pdats m 1 c).arrAt_in 3 rfl _).trans <| (Mat.A_eq (Vm m) c 3).trans (V4_kept m c main_v5 (by decide)).symm
        · exact ((pdats m 1 c).arrAt_in 4 rfl _).trans <| (Mat.A_eq (Vm m) c 4).trans (V4_kept m c main_v6 (by decide)).symm
        · exact ((pdats m 1 c).arrAt_in 5 rfl _).trans <| (Mat.A_eq (Vm m) c 5).trans (V4_kept m c main_v9 (by decide)).symm
        · exact (V4_v10 m c).symm)
      (fun b hb => V4_kept m c b fun h => hb (List.mem_singleton.mp h ▸ Finset.mem_image.mpr ⟨6, Finset.mem_univ _, rfl⟩))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The thread states between the items -/

theorem hpre0 (c : Dev nD) : iprop(StableHlo.held (c : Thread nD τ) (Pipeline.ucRefs τ sig) (V1 m c) ∗ E 0 c) ⊢ (reg0 m).pre c := by
  rw [← Pipeline.unscopedBufs_held (Ix := Unit) (Name := ℕ) (U := UR sig nD τ) (Lvl := ℕ) c (V1 m c)]
  exact .rfl

theorem hpost0 (c : Dev nD) : (reg0 m).post c ⊢ iprop(StableHlo.held (c : Thread nD τ) (Pipeline.ucRefs τ sig) (V2 m (outs m) c) ∗ E 1 c) := by
  rw [← Pipeline.unscopedBufs_held (Ix := Unit) (Name := ℕ) (U := UR sig nD τ) (Lvl := ℕ) c (V2 m (outs m) c)]
  exact .rfl

theorem hpre1 (c : Dev nD) : iprop(StableHlo.held (c : Thread nD τ) (Pipeline.ucRefs τ sig) (V3 m (outs m) c) ∗ E 1 c) ⊢ (reg1 m).pre c := by
  rw [V3_eq, ← Pipeline.unscopedBufs_held (Ix := Unit) (Name := ℕ) (U := UR sig nD τ) (Lvl := ℕ) c (V3 m (outsN m) c)]
  exact .rfl

theorem hpost1 (c : Dev nD) : (reg1 m).post c ⊢ iprop(StableHlo.held (c : Thread nD τ) (Pipeline.ucRefs τ sig) (V4 m (outs m) c) ∗ E 2 c) := by
  rw [← Pipeline.unscopedBufs_held (Ix := Unit) (Name := ℕ) (U := UR sig nD τ) (Lvl := ℕ) c (V4 m (outs m) c)]
  exact .rfl

/-! ## The whole program's run -/

/-- The first thread state on every core, from what the launch gives. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ emp)) ∗ levAts L lv)
      ⊢ (|={Set.univ}=> bigSep Finset.univ (E 0) : sProp 𝕄) := by
  refine Pipeline.initEach L lv fun c => ?_
  iintro ⟨⟨-, Ho, -, Hp, -⟩, -⟩
  imodintro
  isplitl [Hp]; · iexists _; iexact Hp
  iexists _; iexact Ho

/-- The pipelines' launch state, from the launch's own. -/
theorem hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]; · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

set_option backward.isDefEq.respectTransparency.types false in
/-- The program runs, keeps its arguments, leaves every semaphore at zero, and its result is the matrix-product call's
    result in its final shape. -/
theorem run_value (ρ : Dev nD → PrngReg) : θ_run defs (onTc (τ := τ) (main (F := F))) ⟨m, fun _ => 0, ρ⟩ (fun r => (∀ c : Dev nD,
      (r.2.mem ((c.tc : Thread nD τ).loc main_v11) = V5 m (outs m) c main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun _ _ => rfl) (fun _ => iprop(emp)) _ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, hpre0 m c, hpost0 m c, hpre1 m c, hpost1 m c, sep_mono .rfl (by iintro ⟨-, H⟩; iexact H)⟩)
    (hinit := ?_) (QY := fun c s => s.mem ((c.tc : Thread nD τ).loc main_v11) = V5 m (outs m) c main_v11 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' _ _ (E (0 : Fin 3))]
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c)⟩
    · iexact HSI

/-- The program runs, keeps its arguments and leaves every semaphore at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_value m ρ)

end Cert.KernelIdeal.Whole

end
-- ==== Proof.KernelRun.lean ====
/-
  The program as printed at the machine's own formats: its text is the idealized program's, so the run proved of that text
  at any instance is its run.
-/
module

public import proofs.«01_k».proof.Proof.Gen.Kernel
public import proofs.«01_k».proof.Proof.IdealRun
public import Idealize.ShloMosaic.PureOps.BitExact

@[expose] public section

set_option maxRecDepth 16384

noncomputable section

namespace Cert.Kernel.Whole

open Idealize.ShloMosaic Idealize.ShloMosaic.TcCoe Idealize.SL.Sem

variable {F : FTy → Type} [FloatOps F]

/-- The two host functions are the same text. -/
theorem main_eq : Cert.Kernel.main (F := F) = Cert.KernelIdeal.main (F := F) := rfl

/-- The norm's body, at a grid point. -/
theorem row0 (t : Fin Cert.Kernel.grid0.N) (s : (w : Fin 3) → Fin (Cert.Kernel.win0 w).nbuf) :
    Cert.Kernel.defs₀ (F := F) .tc 0 (t, s) = Cert.KernelIdeal.defs₀ (F := F) .tc 0 (t, s) := rfl

/-- The matrix product's body, at a grid point. -/
theorem row1 (t : Fin Cert.Kernel.grid1.N) (s : (w : Fin 7) → Fin (Cert.Kernel.win1 w).nbuf) :
    Cert.Kernel.defs₀ (F := F) .tc 1 (t, s) = Cert.KernelIdeal.defs₀ (F := F) .tc 1 (t, s) := rfl

/-- The two tables of bodies, row by row. -/
theorem defs₀_eq : Cert.Kernel.defs₀ (F := F) = Cert.KernelIdeal.defs₀ (F := F) := by
  funext pr l a
  cases pr with
  | tc =>
    revert a
    match l with
    | ⟨0, _⟩ => exact fun ⟨t, s⟩ => row0 t s
    | ⟨1, _⟩ => exact fun ⟨t, s⟩ => row1 t s
  | scScalar _ => rfl
  | scVector _ _ => rfl

/-- The two tables of procedures. -/
theorem defs_eq : Cert.Kernel.defs (F := F) = Cert.KernelIdeal.defs (F := F) :=
  congrArg (Pipeline.defs (Cert.KernelIdeal.pcfgs (F := F))) defs₀_eq

variable (m : (ℓ : Loc Cert.Kernel.nD Cert.Kernel.τ Cert.Kernel.sig) → Buf (Elt F) ℓ)

/-- The program runs, its arguments unchanged, every counter at zero. -/
theorem frame (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0) ∧
      r.2.mem ((c.tc : Thread Cert.Kernel.nD Cert.Kernel.τ).loc Cert.Kernel.main_arg1) = m ((c.tc : Thread Cert.Kernel.nD Cert.Kernel.τ).loc Cert.Kernel.main_arg1) ∧
      r.2.mem ((c.tc : Thread Cert.Kernel.nD Cert.Kernel.τ).loc Cert.Kernel.main_arg2) = m ((c.tc : Thread Cert.Kernel.nD Cert.Kernel.τ).loc Cert.Kernel.main_arg2) ∧
      r.2.mem ((c.tc : Thread Cert.Kernel.nD Cert.Kernel.τ).loc Cert.Kernel.main_arg3) = m ((c.tc : Thread Cert.Kernel.nD Cert.Kernel.τ).loc Cert.Kernel.main_arg3) ∧
      r.2.mem ((c.tc : Thread Cert.Kernel.nD Cert.Kernel.τ).loc Cert.Kernel.main_arg4) = m ((c.tc : Thread Cert.Kernel.nD Cert.Kernel.τ).loc Cert.Kernel.main_arg4) ∧
      r.2.mem ((c.tc : Thread Cert.Kernel.nD Cert.Kernel.τ).loc Cert.Kernel.main_arg5) = m ((c.tc : Thread Cert.Kernel.nD Cert.Kernel.τ).loc Cert.Kernel.main_arg5) ∧
      r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0) :=
  (congrArg (fun D => θ_run D (onTc (τ := Cert.KernelIdeal.τ) (Cert.KernelIdeal.main (F := F))) ⟨m, fun _ => 0, ρ⟩ _) defs_eq).mpr
    (Cert.KernelIdeal.Whole.frame (F := F) m ρ)

end Cert.Kernel.Whole

end
-- ==== Proof.NormSpec.lean ====
/-
  The root-mean-square norm as one function of its arguments.
-/
module

public import Idealize.ShloMosaic.PureOps
public import Idealize.ShloMosaic.PureOps.Ideal.Laws
public import Idealize.ShloMosaic.Lib.Pipeline.ValueKit

@[expose] public section

set_option maxRecDepth 16384

noncomputable section

open Idealize.ShloMosaic Idealize.ShloMosaic.TcCoe Idealize.SL.Sem

namespace Cert.Q6K

/-- The norm's arguments. -/
abbrev NormIn : Type := (⟨3, ![3, 256, 18944]⟩ : Shape).Idx → EReal
/-- The norm's gain. -/
abbrev NormGain : Type := (⟨1, ![18944]⟩ : Shape).Idx → EReal

/-- Row `p` of the three batches' rows, read at position `e`. -/
def rowAt (X : NormIn) (p : Fin 768) (e : Fin 18944) : EReal :=
  X (ValueIdx.ix3 (⟨p.val / 256, by omega⟩ : Fin 3) (⟨p.val % 256, by omega⟩ : Fin 256) e)

/-- One over the root of the mean square of row `p`, the small constant added to the mean. -/
def scaleVal (X : NormIn) (p : Fin 768) : EReal :=
  Ideal.rsqrt (Ideal.div (∑ k : Fin 18944, rowAt X p k * rowAt X p k) (Ideal.ofBits .f32 0x46940000#32) + Ideal.ofBits .f32 0x358637BD#32)

/-- The normalised activation at row `p` and position `e`. -/
def normVal (X : NormIn) (G : NormGain) (p : Fin 768) (e : Fin 18944) : EReal :=
  rowAt X p e * scaleVal X p * G (ValueIdx.ix1 e)

end Cert.Q6K

end
-- ==== Proof.NormPoint.lean ====
/-
  The norm kernel computes the norm.
-/
module

public import proofs.«01_k».proof.Proof.NormSpec
public import proofs.«01_k».proof.Proof.IdealRun
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.KernelIdeal.Norm

open Cert.KernelIdeal Cert.KernelIdeal.Gen Cert.Q6K

/-- One block of the norm, row by row. -/
theorem pay_apply (x : Vec Ideal S64x18944 .bf16) (g : Vec Ideal S1x18944 .f32) (a : Fin 64) (e : Fin 18944) :
    k0_pay1 x g (ValueIdx.ix2 a e)
      = (x (ValueIdx.ix2 a e) * Ideal.rsqrt (Ideal.div (∑ k : Fin 18944, x (ValueIdx.ix2 a k) * x (ValueIdx.ix2 a k)) (Ideal.ofBits .f32 0x46940000#32) + Ideal.ofBits .f32 0x358637BD#32)
          * g (ValueIdx.ix2 (0 : Fin 1) e) : EReal) := by
  unfold k0_pay1
  pointwise
  rfl

section
variable {F : FTy → Type} [FloatOps F] (m : (ℓ : Loc nD τ sig) → Buf (Elt F) ℓ) (c : Dev nD)

theorem nidx0 : ∀ t : Fin cfg0.N, win0_0.index t = ![t.val, 0] := (by decide +kernel : ∀ t : Fin grid0.N, _)
theorem nidx1 : ∀ t : Fin cfg0.N, win0_1.index t = ![0, 0] := (by decide +kernel : ∀ t : Fin grid0.N, _)
theorem nidx2 : ∀ t : Fin cfg0.N, win0_2.index t = ![t.val, 0] := (by decide +kernel : ∀ t : Fin grid0.N, _)

/-- The grid has twelve points. -/
theorem pt_lt (t : Fin cfg0.N) : t.val < 12 := lt_of_lt_of_eq t.isLt N_0

/-- The rows laid out as one matrix. -/
theorem host0 (p : Fin 768) (e : Fin 18944) :
    (Whole.Vn m c main_v0 : Vec F S768x18944 .bf16) (ValueIdx.ix2 p e)
      = (m ((c : Thread nD τ).loc main_arg0) : Vec F S3x256x18944 .bf16) (ValueIdx.ix3 (⟨p.val / 256, by omega⟩ : Fin 3) (⟨p.val % 256, by omega⟩ : Fin 256) e) := by
  unfold Whole.Vn V1
  after_reads_at
  refine congrArg (m ((c : Thread nD τ).loc main_arg0)) (funext fun a => Fin.ext ?_)
  match a with
  | ⟨0, _⟩ | ⟨1, _⟩ | ⟨2, _⟩ => rfl

/-- The gain as one row. -/
theorem host1 (e : Fin 18944) :
    (Whole.Vn m c main_v7 : Vec F S1x18944 .f32) (ValueIdx.ix2 (0 : Fin 1) e)
      = (m ((c : Thread nD τ).loc main_arg5) : Vec F S18944 .f32) (ValueIdx.ix1 e) := by
  unfold Whole.Vn V1
  after_reads_at
  refine congrArg (m ((c : Thread nD τ).loc main_arg5)) (funext fun a => Fin.ext ?_)
  match a with
  | ⟨0, _⟩ => rfl

/-- The block of rows. -/
theorem blk0 (t : Fin cfg0.N) (a : Fin 64) (e : Fin 18944) :
    iblk (Whole.Vn m) c 0 t (ValueIdx.ix2 a e) = (Whole.Vn m c main_v0 : Vec F S768x18944 .bf16) (ValueIdx.ix2 (⟨64 * t.val + a.val, by have := pt_lt t; omega⟩ : Fin 768) e) := by
  show Whole.Vn m c main_v0 (((cfg0.win 0).blk t).view.emb (ValueIdx.ix2 a e)) = _
  refine congrArg _ (funext fun b => Fin.ext ?_)
  match b with
  | ⟨0, _⟩ => show win0_0.index t (0 : Fin 2) * 64 + 1 * a.val = 64 * t.val + a.val; rw [nidx0]; simp; omega
  | ⟨1, _⟩ => show win0_0.index t (1 : Fin 2) * 18944 + 1 * e.val = e.val; rw [nidx0]; simp

/-- The block of the gain. -/
theorem blk1 (t : Fin cfg0.N) (y : S1x18944.Idx) : iblk (Whole.Vn m) c 1 t y = (Whole.Vn m c main_v7 : Vec F S1x18944 .f32) y := by
  show Whole.Vn m c main_v7 (((cfg0.win 1).blk t).view.emb y) = _
  refine congrArg _ (funext fun b => Fin.ext ?_)
  match b with
  | ⟨0, _⟩ => show win0_1.index t (0 : Fin 2) * 1 + 1 * (y 0).val = (y 0).val; rw [nidx1]; simp
  | ⟨1, _⟩ => show win0_1.index t (1 : Fin 2) * 18944 + 1 * (y 1).val = (y 1).val; rw [nidx1]; simp

/-- A place of a block of the result lies in that block's rows. -/
theorem emb2 (t : Fin cfg0.N) (a : Fin 64) (e : Fin 18944) : ((View.whole main_v8).slice (win0_2.rect t)).emb (ValueIdx.ix2 a e)
    = ValueIdx.ix2 (⟨64 * t.val + a.val, by have := pt_lt t; omega⟩ : Fin 768) e := by
  refine funext fun b => Fin.ext ?_
  match b with
  | ⟨0, _⟩ => show win0_2.index t (0 : Fin 2) * 64 + 1 * a.val = 64 * t.val + a.val; rw [nidx2]; simp; omega
  | ⟨1, _⟩ => show win0_2.index t (1 : Fin 2) * 18944 + 1 * e.val = e.val; rw [nidx2]; simp

end

variable (m : (ℓ : Loc nD τ sig) → Buf (Elt Ideal) ℓ) (c : Dev nD)

/-- The array the norm leaves, of the arguments as launched. -/
theorem arr_eq : (dat (Whole.Vn m) c).arrAt 2 cfg0.N
    = fun i => normVal (m ((c : Thread nD τ).loc main_arg0)) (m ((c : Thread nD τ).loc main_arg5)) (i 0) (i 1) := by
  refine (dat (Whole.Vn m) c).arrAt_eq_of_covers 2 _ (by decide +kernel) fun t hf y => ?_
  blk_simp
  rw [after0_2]
  frame_out
  obtain ⟨a, e, rfl⟩ : ∃ (a : Fin 64) (e : Fin 18944), y = ValueIdx.ix2 a e :=
    ⟨y 0, y 1, funext fun a => match a with | ⟨0, _⟩ => rfl | ⟨1, _⟩ => rfl⟩
  refine Eq.trans ?_ (congrArg (fun i : S768x18944.Idx => normVal (m ((c : Thread nD τ).loc main_arg0)) (m ((c : Thread nD τ).loc main_arg5)) (i 0) (i 1)) (emb2 t a e).symm)
  rw [pay_apply]
  have hrow (k : Fin 18944) : iblk (Whole.Vn m) c 0 t (ValueIdx.ix2 a k)
      = rowAt (m ((c : Thread nD τ).loc main_arg0)) (⟨64 * t.val + a.val, by have := pt_lt t; omega⟩ : Fin 768) k := by
    rw [blk0, host0]; rfl
  simp only [hrow]
  rw [blk1, host1]
  rfl

end Cert.KernelIdeal.Norm

end
-- ==== Proof.Code.lean ====
/-
  The arithmetic of one 6-bit weight code, with no program in it.

  A weight's code is four bits of one byte (`a`) and two bits of another (`h`). `codeZ` is the signed code the
  format means. A kernel may build four times that code directly inside the bytes of a 32-bit word; the theorems here say
  that each byte of such a word, read as a signed byte, is four times the code.
-/
module

public import Idealize.ShloMosaic.PureOps
public import Idealize.ShloMosaic.PureOps.Ideal.Laws
public import Idealize.ShloMosaic.Lib.BitcastPair

@[expose] public section

namespace Cert.Q6K

open Idealize.ShloMosaic

/-- The signed code: the low four bits are the low (`f < 2`) or high nibble of `a`, the high two bits are bits `2f` and
    `2f + 1` of `h`, and 32 is subtracted. -/
def codeZ (f : Nat) (a h : BitVec 8) : Int :=
  ((if f < 2 then a.toNat % 16 else a.toNat / 16) + 16 * (h.toNat / 4 ^ f % 4) : Nat) - 32

/-- The byte that holds four times the code, for each of the four positions. -/
def byte0 (a h : BitVec 8) : BitVec 8 := ((a <<< 2) &&& 0x3C#8) ||| (((h ^^^ 0xAA#8) <<< 6) &&& 0xC0#8)
def byte1 (a h : BitVec 8) : BitVec 8 := ((a <<< 2) &&& 0x3C#8) ||| (((h ^^^ 0xAA#8) <<< 4) &&& 0xC0#8)
def byte2 (a h : BitVec 8) : BitVec 8 := ((a >>> 2) &&& 0x3C#8) ||| (((h ^^^ 0xAA#8) <<< 2) &&& 0xC0#8)
def byte3 (a h : BitVec 8) : BitVec 8 := ((a >>> 2) &&& 0x3C#8) ||| ((h ^^^ 0xAA#8) &&& 0xC0#8)

/-- The nibble's part of the byte: four times the nibble. -/
theorem low_fin : ∀ a : Fin 256, ((BitVec.ofFin a <<< 2) &&& 0x3C#8 : BitVec 8) = BitVec.ofNat 8 (4 * (a.val % 16)) := by
  decide +kernel
theorem high_fin : ∀ a : Fin 256, ((BitVec.ofFin a >>> 2) &&& 0x3C#8 : BitVec 8) = BitVec.ofNat 8 (4 * (a.val / 16)) := by
  decide +kernel
/-- The two bits' part of the byte, its top bit flipped. -/
theorem two0_fin : ∀ h : Fin 256, (((BitVec.ofFin h ^^^ 0xAA#8) <<< 6) &&& 0xC0#8 : BitVec 8) = BitVec.ofNat 8 (64 * ((h.val / 4 ^ 0 % 4 + 2) % 4)) := by
  decide +kernel
theorem two1_fin : ∀ h : Fin 256, (((BitVec.ofFin h ^^^ 0xAA#8) <<< 4) &&& 0xC0#8 : BitVec 8) = BitVec.ofNat 8 (64 * ((h.val / 4 ^ 1 % 4 + 2) % 4)) := by
  decide +kernel
theorem two2_fin : ∀ h : Fin 256, (((BitVec.ofFin h ^^^ 0xAA#8) <<< 2) &&& 0xC0#8 : BitVec 8) = BitVec.ofNat 8 (64 * ((h.val / 4 ^ 2 % 4 + 2) % 4)) := by
  decide +kernel
theorem two3_fin : ∀ h : Fin 256, ((BitVec.ofFin h ^^^ 0xAA#8) &&& 0xC0#8 : BitVec 8) = BitVec.ofNat 8 (64 * ((h.val / 4 ^ 3 % 4 + 2) % 4)) := by
  decide +kernel
/-- The two parts joined, read as a signed byte. -/
theorem join_fin : ∀ (p : Fin 16) (q : Fin 4), (BitVec.ofNat 8 (4 * p.val) ||| BitVec.ofNat 8 (64 * ((q.val + 2) % 4))).toInt
    = 4 * (((p.val + 16 * q.val : Nat) : Int) - 32) := by
  decide +kernel

theorem byte0_toInt (a h : BitVec 8) : (byte0 a h).toInt = 4 * codeZ 0 a h := by
  unfold byte0 codeZ
  rw [show _ = _ from low_fin a.toFin, show _ = _ from two0_fin h.toFin]
  exact join_fin ⟨a.toNat % 16, Nat.mod_lt _ (by norm_num)⟩ ⟨h.toNat / 4 ^ 0 % 4, Nat.mod_lt _ (by norm_num)⟩
theorem byte1_toInt (a h : BitVec 8) : (byte1 a h).toInt = 4 * codeZ 1 a h := by
  unfold byte1 codeZ
  rw [show _ = _ from low_fin a.toFin, show _ = _ from two1_fin h.toFin]
  exact join_fin ⟨a.toNat % 16, Nat.mod_lt _ (by norm_num)⟩ ⟨h.toNat / 4 ^ 1 % 4, Nat.mod_lt _ (by norm_num)⟩
theorem byte2_toInt (a h : BitVec 8) : (byte2 a h).toInt = 4 * codeZ 2 a h := by
  unfold byte2 codeZ
  rw [show _ = _ from high_fin a.toFin, show _ = _ from two2_fin h.toFin]
  exact join_fin ⟨a.toNat / 16, Nat.div_lt_of_lt_mul (by have := a.isLt; omega)⟩ ⟨h.toNat / 4 ^ 2 % 4, Nat.mod_lt _ (by norm_num)⟩
theorem byte3_toInt (a h : BitVec 8) : (byte3 a h).toInt = 4 * codeZ 3 a h := by
  unfold byte3 codeZ
  rw [show _ = _ from high_fin a.toFin, show _ = _ from two3_fin h.toFin]
  exact join_fin ⟨a.toNat / 16, Nat.div_lt_of_lt_mul (by have := a.isLt; omega)⟩ ⟨h.toNat / 4 ^ 3 % 4, Nat.mod_lt _ (by norm_num)⟩

/-- The same on words: byte `b` of the joined word is the joined byte of byte `b` of each. -/
theorem word0 (wl wh : BitVec 32) (b : Nat) (hb : b < 4) :
    (((wl <<< 2) &&& 1010580540#32) ||| (((wh ^^^ 2863311530#32) <<< 6) &&& 3233857728#32)).extractLsb' (8 * b) 8
      = byte0 (wl.extractLsb' (8 * b) 8) (wh.extractLsb' (8 * b) 8) := by
  apply BitVec.eq_of_getLsbD_eq
  intro q hq
  unfold byte0
  interval_cases b <;> interval_cases q <;> simp
theorem word1 (wl wh : BitVec 32) (b : Nat) (hb : b < 4) :
    (((wl <<< 2) &&& 1010580540#32) ||| (((wh ^^^ 2863311530#32) <<< 4) &&& 3233857728#32)).extractLsb' (8 * b) 8
      = byte1 (wl.extractLsb' (8 * b) 8) (wh.extractLsb' (8 * b) 8) := by
  apply BitVec.eq_of_getLsbD_eq
  intro q hq
  unfold byte1
  interval_cases b <;> interval_cases q <;> simp
theorem word2 (wl wh : BitVec 32) (b : Nat) (hb : b < 4) :
    (((wl >>> 2) &&& 1010580540#32) ||| (((wh ^^^ 2863311530#32) <<< 2) &&& 3233857728#32)).extractLsb' (8 * b) 8
      = byte2 (wl.extractLsb' (8 * b) 8) (wh.extractLsb' (8 * b) 8) := by
  apply BitVec.eq_of_getLsbD_eq
  intro q hq
  unfold byte2
  interval_cases b <;> interval_cases q <;> simp
theorem word3 (wl wh : BitVec 32) (b : Nat) (hb : b < 4) :
    (((wl >>> 2) &&& 1010580540#32) ||| ((wh ^^^ 2863311530#32) &&& 3233857728#32)).extractLsb' (8 * b) 8
      = byte3 (wl.extractLsb' (8 * b) 8) (wh.extractLsb' (8 * b) 8) := by
  apply BitVec.eq_of_getLsbD_eq
  intro q hq
  unfold byte3
  interval_cases b <;> interval_cases q <;> simp

end Cert.Q6K

end
-- ==== Proof.Tile.lean ====
/-
  What one 256-row block of dequantised weights holds at an index, with no program in it.

  The block is sixteen pieces of sixteen rows laid one under another. Each piece is a slice of the signed bytes of joined
  words (Code.lean), scaled by one row of the sixteen scale rows. `tile` is that block as a function of the packed words and
  the scales; `tile_apply` reads it at a row and a lane.
-/
module

public import Idealize.ShloMosaic.PureOps
public import Idealize.ShloMosaic.PureOps.Ideal.Laws
public import Idealize.ShloMosaic.Lib.Pipeline.ValueKit
public import Idealize.ShloMosaic.Lib.BitcastPair
public import Idealize.ShloMosaic.Lib.BitcastFour
public import proofs.«01_k».proof.Proof.Code

@[expose] public section

set_option maxRecDepth 16384

noncomputable section

namespace Cert.Q6K

open Idealize.ShloMosaic

/-- A matrix shape. -/
abbrev T (r c : Nat) : Shape := ⟨2, ![r, c]⟩

variable {F : FTy → Type} [FloatOps F]

/-- Byte `b` of the word built from four bytes of a column is byte `4a + b` of the column. -/
theorem bitcast_8_32_byte {R r n : Nat} (x : (T R n).Idx → BitVec 8) (h : (T R n).Bitcasts 8 (T r n) 32)
    (a : Fin r) (l : Fin n) (b : Nat) (hb : b < 4) (p : Fin R) (hp : p.val = 4 * a.val + b) :
    (bitcast (T r n) 32 x h (ValueIdx.ix2 a l)).extractLsb' (8 * b) 8 = x (ValueIdx.ix2 p l) := by
  apply BitVec.eq_of_getLsbD_eq
  intro q hq
  rw [BitVec.getLsbD_extractLsb', bitcast_8_32_getLsbD_ix2 x h a l (8 * b + q) (by omega) p (by omega)]
  simp [hq, show (8 * b + q) % 8 = q by omega]

/-- Row `p` of a column of words read as bytes is byte `p % 4` of word `p / 4`. -/
theorem bitcast_32_8_byte {R r n : Nat} (x : (T r n).Idx → BitVec 32) (h : (T r n).Bitcasts 32 (T R n) 8)
    (p : Fin R) (l : Fin n) (a : Fin r) (ha : a.val = p.val / 4) :
    bitcast (T R n) 8 x h (ValueIdx.ix2 p l) = (x (ValueIdx.ix2 a l)).extractLsb' (8 * (p.val % 4)) 8 := by
  apply BitVec.eq_of_getLsbD_eq
  intro q hq
  rw [BitVec.getLsbD_extractLsb', bitcast_getLsbD x h _ q hq (by decide)]
  have hrow : (T R n).row (ValueIdx.ix2 p l) = p.val := rfl
  have e1 : ((T R n).row (ValueIdx.ix2 p l) * 8 + q) / 32 = a.val := by rw [hrow]; omega
  have e2 : ((T R n).row (ValueIdx.ix2 p l) * 8 + q) % 32 = 8 * (p.val % 4) + q := by rw [hrow]; omega
  rw [e2]
  simp only [hq, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The joined words of position `f`: a nibble of `a` and two bits of `x` in every byte. -/
def joined (f : Fin 4) (a x : IVec (T 8 512) 32) : IVec (T 8 512) 32 :=
  match f with
  | 0 => ori (andi (shli a (broadcast (T 8 512) 2#32)) (broadcast (T 8 512) 1010580540#32)) (andi (shli x (broadcast (T 8 512) 6#32)) (broadcast (T 8 512) 3233857728#32))
  | 1 => ori (andi (shli a (broadcast (T 8 512) 2#32)) (broadcast (T 8 512) 1010580540#32)) (andi (shli x (broadcast (T 8 512) 4#32)) (broadcast (T 8 512) 3233857728#32))
  | 2 => ori (andi (shrui a (broadcast (T 8 512) 2#32)) (broadcast (T 8 512) 1010580540#32)) (andi (shli x (broadcast (T 8 512) 2#32)) (broadcast (T 8 512) 3233857728#32))
  | 3 => ori (andi (shrui a (broadcast (T 8 512) 2#32)) (broadcast (T 8 512) 1010580540#32)) (andi x (broadcast (T 8 512) 3233857728#32))

/-- Every byte of the joined words, read as a signed byte, is four times the code. -/
theorem joined_byte (f : Fin 4) (a h : IVec (T 8 512) 32) (i : (T 8 512).Idx) (b : Nat) (hb : b < 4) :
    ((joined f a (xori h (broadcast (T 8 512) 2863311530#32)) i).extractLsb' (8 * b) 8).toInt
      = 4 * codeZ f.val ((a i).extractLsb' (8 * b) 8) ((h i).extractLsb' (8 * b) 8) := by
  match f with
  | 0 => exact (congrArg BitVec.toInt (word0 (a i) (h i) b hb)).trans (byte0_toInt _ _)
  | 1 => exact (congrArg BitVec.toInt (word1 (a i) (h i) b hb)).trans (byte1_toInt _ _)
  | 2 => exact (congrArg BitVec.toInt (word2 (a i) (h i) b hb)).trans (byte2_toInt _ _)
  | 3 => exact (congrArg BitVec.toInt (word3 (a i) (h i) b hb)).trans (byte3_toInt _ _)

theorem slices_rows (R k off : Nat) (h : off + k ≤ R) : (T R 512).Slices ![off, 0] (T k 512) := by
  refine ⟨rfl, fun a => ?_⟩
  match a with
  | ⟨0, _⟩ => exact h
  | ⟨1, _⟩ => exact le_of_eq (Nat.zero_add 512)

/-- Piece `n` of the block: half `n / 8` of the 256 rows, position `n / 2 % 4`, sub-block `n % 2`, scale row `n`. -/
def piece (wl : IVec (T 32 512) 32) (wh : IVec (T 16 512) 32) (s : FVec F (T 16 512) .bf16) (n : Fin 16) : FVec F (T 16 512) .bf16 :=
  mulf
    (extractStridedSlice (T 16 512) ![16 * (n.val % 2), 0]
      (sitofp (F := F) .bf16 (bitcast (T 32 512) 8
        (joined ⟨n.val / 2 % 4, Nat.mod_lt _ (by decide)⟩
          (extractStridedSlice (T 8 512) ![16 * (n.val / 8) + 8 * (n.val / 2 % 2), 0] wl (slices_rows 32 8 _ (by have := n.isLt; omega)))
          (xori (extractStridedSlice (T 8 512) ![8 * (n.val / 8), 0] wh (slices_rows 16 8 _ (by have := n.isLt; omega)))
            (broadcast (T 8 512) 2863311530#32)))
        (by decide)))
      (slices_rows 32 16 _ (by omega)))
    (broadcastTo (T 16 512)
      (shapeCast (T 1 512) (extractStridedSlice (T 1 512) ![n.val, 0] s (slices_rows 16 1 _ (by have := n.isLt; omega))) (by decide))
      (by decide))

/-- The block: the sixteen pieces one under another. -/
def tile (wl : IVec (T 32 512) 32) (wh : IVec (T 16 512) 32) (s : FVec F (T 16 512) .bf16) : FVec F (T 256 512) .bf16 :=
  concatenate (T 256 512) 0 (List.ofFn fun n : Fin 16 => (⟨T 16 512, piece wl wh s n⟩ : (s : Shape) × (s.Idx → F .bf16)))
    (show Shape.Concatenates (List.replicate 16 (T 16 512)) (T 256 512) 0 by decide)

/-- The block with its pieces written out. -/
theorem tile_eq_list (wl : IVec (T 32 512) 32) (wh : IVec (T 16 512) 32) (s : FVec F (T 16 512) .bf16) :
    tile wl wh s = concatenate (T 256 512) 0 [⟨T 16 512, piece wl wh s 0⟩, ⟨T 16 512, piece wl wh s 1⟩, ⟨T 16 512, piece wl wh s 2⟩, ⟨T 16 512, piece wl wh s 3⟩, ⟨T 16 512, piece wl wh s 4⟩, ⟨T 16 512, piece wl wh s 5⟩, ⟨T 16 512, piece wl wh s 6⟩, ⟨T 16 512, piece wl wh s 7⟩, ⟨T 16 512, piece wl wh s 8⟩, ⟨T 16 512, piece wl wh s 9⟩, ⟨T 16 512, piece wl wh s 10⟩, ⟨T 16 512, piece wl wh s 11⟩, ⟨T 16 512, piece wl wh s 12⟩, ⟨T 16 512, piece wl wh s 13⟩, ⟨T 16 512, piece wl wh s 14⟩, ⟨T 16 512, piece wl wh s 15⟩]
      (show Shape.Concatenates (List.replicate 16 (T 16 512)) (T 256 512) 0 by decide) := rfl

/-- A piece at a row and a lane, over the words' source bytes. -/
theorem piece_apply (Q : IVec (T 128 512) 8) (H : IVec (T 64 512) 8) (hq : (T 128 512).Bitcasts 8 (T 32 512) 32)
    (hh : (T 64 512).Bitcasts 8 (T 16 512) 32) (s : FVec Ideal (T 16 512) .bf16) (n : Fin 16) (i : Fin 16) (l : Fin 512)
    (q : Fin 128) (hqv : q.val = 64 * (n.val / 8) + 32 * (n.val / 2 % 2) + 16 * (n.val % 2) + i.val)
    (g : Fin 64) (hgv : g.val = 32 * (n.val / 8) + 16 * (n.val % 2) + i.val) :
    piece (F := Ideal) (bitcast (T 32 512) 32 Q hq) (bitcast (T 16 512) 32 H hh) s n (ValueIdx.ix2 i l)
      = ((((4 * codeZ (n.val / 2 % 4) (Q (ValueIdx.ix2 q l)) (H (ValueIdx.ix2 g l)) : Int)) : ℝ) : EReal) * s (ValueIdx.ix2 n l) := by
  have hn := n.isLt
  have hi := i.isLt
  unfold piece
  rw [ValueIdx.mulf_apply]
  congr 1
  · rw [extractStridedSlice_apply _ _ _ (ValueIdx.ix2 i l) (ValueIdx.ix2 (⟨16 * (n.val % 2) + i.val, by omega⟩ : Fin 32) l)
      (fun a => by match a with | ⟨0, _⟩ => rfl | ⟨1, _⟩ => exact (Nat.zero_add _).symm)]
    show (((BitVec.toInt (bitcast (T 32 512) 8 _ _ _)) : ℝ) : EReal) = _
    rw [bitcast_32_8_byte _ _ _ l (⟨(16 * (n.val % 2) + i.val) / 4, by omega⟩ : Fin 8) rfl]
    rw [joined_byte _ _ _ _ _ (Nat.mod_lt _ (by decide))]
    rw [extractStridedSlice_apply _ _ _ (ValueIdx.ix2 _ l) (ValueIdx.ix2 (⟨16 * (n.val / 8) + 8 * (n.val / 2 % 2) + (16 * (n.val % 2) + i.val) / 4, by omega⟩ : Fin 32) l)
      (fun a => by match a with | ⟨0, _⟩ => rfl | ⟨1, _⟩ => exact (Nat.zero_add _).symm)]
    rw [extractStridedSlice_apply _ _ _ (ValueIdx.ix2 _ l) (ValueIdx.ix2 (⟨8 * (n.val / 8) + (16 * (n.val % 2) + i.val) / 4, by omega⟩ : Fin 16) l)
      (fun a => by match a with | ⟨0, _⟩ => rfl | ⟨1, _⟩ => exact (Nat.zero_add _).symm)]
    rw [bitcast_8_32_byte Q hq _ l _ (Nat.mod_lt _ (by decide)) q (by show q.val = 4 * (_ + _) + (16 * (n.val % 2) + i.val) % 4; omega)]
    rw [bitcast_8_32_byte H hh _ l _ (Nat.mod_lt _ (by decide)) g (by show g.val = 4 * (_ + _) + (16 * (n.val % 2) + i.val) % 4; omega)]
  · rw [broadcastTo_apply _ _ (ValueIdx.ix2 i l) (ValueIdx.ix2 (0 : Fin 1) l)
      (fun a => by match a with | ⟨0, _⟩ => rfl | ⟨1, _⟩ => rfl)]
    rw [shapeCast_self]
    exact extractStridedSlice_apply _ _ _ _ _ (fun a => by match a with | ⟨0, _⟩ => rfl | ⟨1, _⟩ => exact (Nat.zero_add _).symm)

/-- The block at row `r` and lane `l`, over the words' source bytes: four times the code, times scale row `r / 16`. -/
theorem tile_apply (Q : IVec (T 128 512) 8) (H : IVec (T 64 512) 8) (hq : (T 128 512).Bitcasts 8 (T 32 512) 32)
    (hh : (T 64 512).Bitcasts 8 (T 16 512) 32) (s : FVec Ideal (T 16 512) .bf16) (r : Fin 256) (l : Fin 512) :
    tile (F := Ideal) (bitcast (T 32 512) 32 Q hq) (bitcast (T 16 512) 32 H hh) s (ValueIdx.ix2 r l)
      = ((((4 * codeZ (r.val / 32 % 4) (Q (ValueIdx.ix2 ⟨64 * (r.val / 128) + r.val % 64, by have := r.isLt; omega⟩ l))
            (H (ValueIdx.ix2 ⟨32 * (r.val / 128) + r.val % 32, by have := r.isLt; omega⟩ l)) : Int)) : ℝ) : EReal)
          * s (ValueIdx.ix2 ⟨r.val / 16, by have := r.isLt; omega⟩ l) := by
  have hr := r.isLt
  unfold tile
  refine (concatenate_ofFn_apply (t := T 256 512) (s₁ := T 16 512) 0 (fun n => piece (F := Ideal) (bitcast (T 32 512) 32 Q hq) (bitcast (T 16 512) 32 H hh) s n) _ rfl 16 rfl
    (ValueIdx.ix2 r l) ⟨r.val / 16, by omega⟩ rfl (ValueIdx.ix2 (⟨r.val % 16, by omega⟩ : Fin 16) l) rfl
    (fun b hb => by match b with | ⟨0, _⟩ => exact absurd rfl hb | ⟨1, _⟩ => rfl)).trans ?_
  rw [piece_apply Q H hq hh s _ _ l ⟨64 * (r.val / 128) + r.val % 64, by omega⟩ (by dsimp only; omega)
    ⟨32 * (r.val / 128) + r.val % 32, by omega⟩ (by dsimp only; omega)]
  dsimp only
  rw [show r.val / 16 / 2 % 4 = r.val / 32 % 4 by omega]

end Cert.Q6K

end

end
-- ==== Proof.MatStep.lean ====
/-
  What one grid point of the matrix-multiply kernel leaves in its accumulator: the accumulator it finds, plus the product of
  the first half of the activation block with the first block of weights, plus that of the second halves.
-/
module

public import proofs.«01_k».proof.Proof.IdealMatRegion
public import Idealize.ShloMosaic.Lib.Pipeline.ValueKit
public import Idealize.ShloMosaic.Lib.Pipeline.ReadBack
public import proofs.«01_k».proof.Proof.Tile

@[expose] public section

set_option maxRecDepth 16384

noncomputable section

open Idealize.ShloMosaic Idealize.ShloMosaic.TcCoe Idealize.SL.Sem
open Idealize.ShloMosaic.Pipeline (Dat)

namespace Cert.KernelIdeal.Mat

open Cert.KernelIdeal Cert.KernelIdeal.Gen Cert.Q6K

variable {F : FTy → Type} [FloatOps F]

theorem hz : (![0, 0] : Fin 2 → Nat) = fun _ => 0 := funext fun a => by fin_cases a <;> rfl

/-- The accumulator after adding the product of one half block of activations `h` with one block of weights, given by its
    packed bytes `q`, `g`, its scale codes `sc` and its block scale `d`. -/
def half (q : Vec F S128x512 .i8) (g : Vec F S64x512 .i8) (d : Vec F S1x512 .f16) (sc : Vec F S1x16x512 .i8)
    (h : Vec F S768x256 .bf16) (acc : Vec F S768x512 .f32) : Vec F S768x512 .f32 :=
  k1_pay5 (tile (k1_pay8 q) (k1_pay9 g) (k1_pay10 d sc)) acc h

/-- The accumulator a grid point leaves, from the blocks it reads and the accumulator it finds. -/
def step (i : grid1.Coords) (x0 : Vec F S768x512 .bf16) (x1 : Vec F S256x512 .i8) (x2 : Vec F S128x512 .i8) (x3 : Vec F S2x16x512 .i8)
    (x4 : Vec F S74x512 .f16) (acc : Vec F S768x512 .f32) : Vec F S768x512 .f32 :=
  half (View.ld x1 (Rect.unit ![128, 0] ![128, 512] inb_S256x512_S128x512_128_0)) (View.ld x2 (Rect.unit ![64, 0] ![64, 512] inb_S128x512_S64x512_64_0))
    (View.ld x4 (Rect.unit (s := S74x512) (k1_off1 i 1#32) ![1, 512] (k1_off1_inb i 1))) (View.ld x3 (Rect.unit ![1, 0, 0] ![1, 16, 512] inb_S2x16x512_S1x16x512_1_0_0))
    (View.ld x0 (Rect.unit ![0, 256] ![768, 256] inb_S768x512_S768x256_0_256))
    (half (View.ld x1 (Rect.unit ![0, 0] ![128, 512] inb_S256x512_S128x512_0_0)) (View.ld x2 (Rect.unit ![0, 0] ![64, 512] inb_S128x512_S64x512_0_0))
      (View.ld x4 (Rect.unit (s := S74x512) (k1_off1 i 0#32) ![1, 512] (k1_off1_inb i 0))) (View.ld x3 (Rect.unit ![0, 0, 0] ![1, 16, 512] inb_S2x16x512_S1x16x512_0_0_0))
      (View.ld x0 (Rect.unit ![0, 0] ![768, 256] inb_S768x512_S768x256_0_0)) acc)

theorem piece0_0 (q : Vec F S128x512 .i8) (g : Vec F S64x512 .i8) (d : Vec F S1x512 .f16) (sc : Vec F S1x16x512 .i8) :
    k1_pay14 (k1_pay12 q g) (k1_pay13 d sc) = piece (k1_pay8 q) (k1_pay9 g) (k1_pay10 d sc) 0 := rfl
theorem piece0_1 (q : Vec F S128x512 .i8) (g : Vec F S64x512 .i8) (d : Vec F S1x512 .f16) (sc : Vec F S1x16x512 .i8) :
    k1_pay15 (k1_pay10 d sc) (k1_pay12 q g) = piece (k1_pay8 q) (k1_pay9 g) (k1_pay10 d sc) 1 := rfl
theorem piece0_2 (q : Vec F S128x512 .i8) (g : Vec F S64x512 .i8) (d : Vec F S1x512 .f16) (sc : Vec F S1x16x512 .i8) :
    k1_pay17 (k1_pay8 q) (k1_pay10 d sc) (k1_pay11 g) = piece (k1_pay8 q) (k1_pay9 g) (k1_pay10 d sc) 2 := rfl
theorem piece0_3 (q : Vec F S128x512 .i8) (g : Vec F S64x512 .i8) (d : Vec F S1x512 .f16) (sc : Vec F S1x16x512 .i8) :
    k1_pay18 (k1_pay8 q) (k1_pay10 d sc) (k1_pay11 g) = piece (k1_pay8 q) (k1_pay9 g) (k1_pay10 d sc) 3 := rfl
theorem piece0_4 (q : Vec F S128x512 .i8) (g : Vec F S64x512 .i8) (d : Vec F S1x512 .f16) (sc : Vec F S1x16x512 .i8) :
    k1_pay20 (k1_pay8 q) (k1_pay10 d sc) (k1_pay11 g) = piece (k1_pay8 q) (k1_pay9 g) (k1_pay10 d sc) 4 := rfl
theorem piece0_5 (q : Vec F S128x512 .i8) (g : Vec F S64x512 .i8) (d : Vec F S1x512 .f16) (sc : Vec F S1x16x512 .i8) :
    k1_pay23 (k1_pay21 (k1_pay10 d sc)) (k1_pay22 (k1_pay8 q) (k1_pay11 g)) = piece (k1_pay8 q) (k1_pay9 g) (k1_pay10 d sc) 5 := rfl
theorem piece0_6 (q : Vec F S128x512 .i8) (g : Vec F S64x512 .i8) (d : Vec F S1x512 .f16) (sc : Vec F S1x16x512 .i8) :
    k1_pay25 (k1_pay8 q) (k1_pay10 d sc) (k1_pay11 g) = piece (k1_pay8 q) (k1_pay9 g) (k1_pay10 d sc) 6 := rfl
theorem piece0_7 (q : Vec F S128x512 .i8) (g : Vec F S64x512 .i8) (d : Vec F S1x512 .f16) (sc : Vec F S1x16x512 .i8) :
    k1_pay26 (k1_pay8 q) (k1_pay10 d sc) (k1_pay11 g) = piece (k1_pay8 q) (k1_pay9 g) (k1_pay10 d sc) 7 := rfl
theorem piece0_8 (q : Vec F S128x512 .i8) (g : Vec F S64x512 .i8) (d : Vec F S1x512 .f16) (sc : Vec F S1x16x512 .i8) :
    k1_pay29 (k1_pay8 q) (k1_pay9 g) (k1_pay10 d sc) = piece (k1_pay8 q) (k1_pay9 g) (k1_pay10 d sc) 8 := rfl
theorem piece0_9 (q : Vec F S128x512 .i8) (g : Vec F S64x512 .i8) (d : Vec F S1x512 .f16) (sc : Vec F S1x16x512 .i8) :
    k1_pay30 (k1_pay8 q) (k1_pay9 g) (k1_pay10 d sc) = piece (k1_pay8 q) (k1_pay9 g) (k1_pay10 d sc) 9 := rfl
theorem piece0_10 (q : Vec F S128x512 .i8) (g : Vec F S64x512 .i8) (d : Vec F S1x512 .f16) (sc : Vec F S1x16x512 .i8) :
    k1_pay34 (k1_pay10 d sc) (k1_pay27 (k1_pay9 g)) (k1_pay31 (k1_pay8 q)) k1_pay32 = piece (k1_pay8 q) (k1_pay9 g) (k1_pay10 d sc) 10 := rfl
theorem piece0_11 (q : Vec F S128x512 .i8) (g : Vec F S64x512 .i8) (d : Vec F S1x512 .f16) (sc : Vec F S1x16x512 .i8) :
    k1_pay35 (k1_pay10 d sc) (k1_pay27 (k1_pay9 g)) (k1_pay31 (k1_pay8 q)) k1_pay32 = piece (k1_pay8 q) (k1_pay9 g) (k1_pay10 d sc) 11 := rfl
theorem piece0_12 (q : Vec F S128x512 .i8) (g : Vec F S64x512 .i8) (d : Vec F S1x512 .f16) (sc : Vec F S1x16x512 .i8) :
    k1_pay37 (k1_pay8 q) (k1_pay10 d sc) (k1_pay27 (k1_pay9 g)) = piece (k1_pay8 q) (k1_pay9 g) (k1_pay10 d sc) 12 := rfl
theorem piece0_13 (q : Vec F S128x512 .i8) (g : Vec F S64x512 .i8) (d : Vec F S1x512 .f16) (sc : Vec F S1x16x512 .i8) :
    k1_pay38 (k1_pay8 q) (k1_pay10 d sc) (k1_pay27 (k1_pay9 g)) = piece (k1_pay8 q) (k1_pay9 g) (k1_pay10 d sc) 13 := rfl

/-- The body's first block, product and sum are `half` of its loads. -/
theorem half0 (q : Vec F S128x512 .i8) (g : Vec F S64x512 .i8) (d : Vec F S1x512 .f16) (sc : Vec F S1x16x512 .i8) (h : Vec F S768x256 .bf16) (acc : Vec F S768x512 .f32) :
    k1_pay41 (k1_pay10 d sc) (k1_pay14 (k1_pay12 q g) (k1_pay13 d sc)) (k1_pay15 (k1_pay10 d sc) (k1_pay12 q g)) (k1_pay17 (k1_pay8 q) (k1_pay10 d sc) (k1_pay11 g)) (k1_pay18 (k1_pay8 q) (k1_pay10 d sc) (k1_pay11 g)) (k1_pay20 (k1_pay8 q) (k1_pay10 d sc) (k1_pay11 g)) (k1_pay23 (k1_pay21 (k1_pay10 d sc)) (k1_pay22 (k1_pay8 q) (k1_pay11 g))) (k1_pay25 (k1_pay8 q) (k1_pay10 d sc) (k1_pay11 g)) (k1_pay26 (k1_pay8 q) (k1_pay10 d sc) (k1_pay11 g)) (k1_pay29 (k1_pay8 q) (k1_pay9 g) (k1_pay10 d sc)) (k1_pay30 (k1_pay8 q) (k1_pay9 g) (k1_pay10 d sc)) (k1_pay34 (k1_pay10 d sc) (k1_pay27 (k1_pay9 g)) (k1_pay31 (k1_pay8 q)) k1_pay32) (k1_pay35 (k1_pay10 d sc) (k1_pay27 (k1_pay9 g)) (k1_pay31 (k1_pay8 q)) k1_pay32) (k1_pay37 (k1_pay8 q) (k1_pay10 d sc) (k1_pay27 (k1_pay9 g))) (k1_pay38 (k1_pay8 q) (k1_pay10 d sc) (k1_pay27 (k1_pay9 g))) (k1_pay39 (k1_pay8 q) (k1_pay27 (k1_pay9 g))) (k1_pay40 (k1_pay10 d sc)) acc h = half q g d sc h acc := by
  unfold half
  rw [tile_eq_list]
  unfold k1_pay41
  rfl

theorem piece1_0 (q : Vec F S128x512 .i8) (g : Vec F S64x512 .i8) (d : Vec F S1x512 .f16) (sc : Vec F S1x16x512 .i8) :
    k1_pay49 (k1_pay42 q) (k1_pay44 d sc) (k1_pay45 g) k1_pay46 = piece (k1_pay8 q) (k1_pay9 g) (k1_pay10 d sc) 0 := rfl
theorem piece1_1 (q : Vec F S128x512 .i8) (g : Vec F S64x512 .i8) (d : Vec F S1x512 .f16) (sc : Vec F S1x16x512 .i8) :
    k1_pay50 (k1_pay42 q) (k1_pay44 d sc) (k1_pay45 g) k1_pay46 = piece (k1_pay8 q) (k1_pay9 g) (k1_pay10 d sc) 1 := rfl
theorem piece1_2 (q : Vec F S128x512 .i8) (g : Vec F S64x512 .i8) (d : Vec F S1x512 .f16) (sc : Vec F S1x16x512 .i8) :
    k1_pay52 (k1_pay42 q) (k1_pay44 d sc) (k1_pay45 g) k1_pay46 = piece (k1_pay8 q) (k1_pay9 g) (k1_pay10 d sc) 2 := rfl
theorem piece1_3 (q : Vec F S128x512 .i8) (g : Vec F S64x512 .i8) (d : Vec F S1x512 .f16) (sc : Vec F S1x16x512 .i8) :
    k1_pay53 (k1_pay42 q) (k1_pay44 d sc) (k1_pay45 g) k1_pay46 = piece (k1_pay8 q) (k1_pay9 g) (k1_pay10 d sc) 3 := rfl
theorem piece1_4 (q : Vec F S128x512 .i8) (g : Vec F S64x512 .i8) (d : Vec F S1x512 .f16) (sc : Vec F S1x16x512 .i8) :
    k1_pay57 (k1_pay44 d sc) (k1_pay54 (k1_pay42 q)) (k1_pay55 (k1_pay45 g) k1_pay46) = piece (k1_pay8 q) (k1_pay9 g) (k1_pay10 d sc) 4 := rfl
theorem piece1_5 (q : Vec F S128x512 .i8) (g : Vec F S64x512 .i8) (d : Vec F S1x512 .f16) (sc : Vec F S1x16x512 .i8) :
    k1_pay58 (k1_pay44 d sc) (k1_pay54 (k1_pay42 q)) (k1_pay55 (k1_pay45 g) k1_pay46) = piece (k1_pay8 q) (k1_pay9 g) (k1_pay10 d sc) 5 := rfl
theorem piece1_6 (q : Vec F S128x512 .i8) (g : Vec F S64x512 .i8) (d : Vec F S1x512 .f16) (sc : Vec F S1x16x512 .i8) :
    k1_pay60 (k1_pay42 q) (k1_pay44 d sc) (k1_pay47 (k1_pay45 g) k1_pay46) = piece (k1_pay8 q) (k1_pay9 g) (k1_pay10 d sc) 6 := rfl
theorem piece1_7 (q : Vec F S128x512 .i8) (g : Vec F S64x512 .i8) (d : Vec F S1x512 .f16) (sc : Vec F S1x16x512 .i8) :
    k1_pay61 (k1_pay42 q) (k1_pay44 d sc) (k1_pay47 (k1_pay45 g) k1_pay46) = piece (k1_pay8 q) (k1_pay9 g) (k1_pay10 d sc) 7 := rfl
theorem piece1_8 (q : Vec F S128x512 .i8) (g : Vec F S64x512 .i8) (d : Vec F S1x512 .f16) (sc : Vec F S1x16x512 .i8) :
    k1_pay65 (k1_pay44 d sc) (k1_pay63 (k1_pay42 q) (k1_pay43 g)) = piece (k1_pay8 q) (k1_pay9 g) (k1_pay10 d sc) 8 := rfl
theorem piece1_9 (q : Vec F S128x512 .i8) (g : Vec F S64x512 .i8) (d : Vec F S1x512 .f16) (sc : Vec F S1x16x512 .i8) :
    k1_pay66 (k1_pay44 d sc) (k1_pay63 (k1_pay42 q) (k1_pay43 g)) = piece (k1_pay8 q) (k1_pay9 g) (k1_pay10 d sc) 9 := rfl
theorem piece1_10 (q : Vec F S128x512 .i8) (g : Vec F S64x512 .i8) (d : Vec F S1x512 .f16) (sc : Vec F S1x16x512 .i8) :
    k1_pay68 (k1_pay42 q) (k1_pay44 d sc) (k1_pay62 (k1_pay43 g)) = piece (k1_pay8 q) (k1_pay9 g) (k1_pay10 d sc) 10 := rfl
theorem piece1_11 (q : Vec F S128x512 .i8) (g : Vec F S64x512 .i8) (d : Vec F S1x512 .f16) (sc : Vec F S1x16x512 .i8) :
    k1_pay69 (k1_pay42 q) (k1_pay44 d sc) (k1_pay62 (k1_pay43 g)) = piece (k1_pay8 q) (k1_pay9 g) (k1_pay10 d sc) 11 := rfl
theorem piece1_12 (q : Vec F S128x512 .i8) (g : Vec F S64x512 .i8) (d : Vec F S1x512 .f16) (sc : Vec F S1x16x512 .i8) :
    k1_pay71 (k1_pay42 q) (k1_pay44 d sc) (k1_pay62 (k1_pay43 g)) = piece (k1_pay8 q) (k1_pay9 g) (k1_pay10 d sc) 12 := rfl
theorem piece1_13 (q : Vec F S128x512 .i8) (g : Vec F S64x512 .i8) (d : Vec F S1x512 .f16) (sc : Vec F S1x16x512 .i8) :
    k1_pay1 (k1_pay70 (k1_pay42 q) (k1_pay62 (k1_pay43 g))) (k1_pay72 (k1_pay44 d sc)) = piece (k1_pay8 q) (k1_pay9 g) (k1_pay10 d sc) 13 := rfl
theorem piece1_14 (q : Vec F S128x512 .i8) (g : Vec F S64x512 .i8) (d : Vec F S1x512 .f16) (sc : Vec F S1x16x512 .i8) :
    k1_pay3 (k1_pay44 d sc) (k1_pay2 (k1_pay42 q) (k1_pay62 (k1_pay43 g))) = piece (k1_pay8 q) (k1_pay9 g) (k1_pay10 d sc) 14 := rfl
theorem piece1_15 (q : Vec F S128x512 .i8) (g : Vec F S64x512 .i8) (d : Vec F S1x512 .f16) (sc : Vec F S1x16x512 .i8) :
    k1_pay4 (k1_pay44 d sc) (k1_pay2 (k1_pay42 q) (k1_pay62 (k1_pay43 g))) = piece (k1_pay8 q) (k1_pay9 g) (k1_pay10 d sc) 15 := rfl

/-- … and the second block. -/
theorem half1 (q : Vec F S128x512 .i8) (g : Vec F S64x512 .i8) (d : Vec F S1x512 .f16) (sc : Vec F S1x16x512 .i8) (h : Vec F S768x256 .bf16) (acc : Vec F S768x512 .f32) :
    k1_pay5 (concatenate S256x512 0 [⟨S16x512, k1_pay49 (k1_pay42 q) (k1_pay44 d sc) (k1_pay45 g) k1_pay46⟩, ⟨S16x512, k1_pay50 (k1_pay42 q) (k1_pay44 d sc) (k1_pay45 g) k1_pay46⟩, ⟨S16x512, k1_pay52 (k1_pay42 q) (k1_pay44 d sc) (k1_pay45 g) k1_pay46⟩, ⟨S16x512, k1_pay53 (k1_pay42 q) (k1_pay44 d sc) (k1_pay45 g) k1_pay46⟩, ⟨S16x512, k1_pay57 (k1_pay44 d sc) (k1_pay54 (k1_pay42 q)) (k1_pay55 (k1_pay45 g) k1_pay46)⟩, ⟨S16x512, k1_pay58 (k1_pay44 d sc) (k1_pay54 (k1_pay42 q)) (k1_pay55 (k1_pay45 g) k1_pay46)⟩, ⟨S16x512, k1_pay60 (k1_pay42 q) (k1_pay44 d sc) (k1_pay47 (k1_pay45 g) k1_pay46)⟩, ⟨S16x512, k1_pay61 (k1_pay42 q) (k1_pay44 d sc) (k1_pay47 (k1_pay45 g) k1_pay46)⟩, ⟨S16x512, k1_pay65 (k1_pay44 d sc) (k1_pay63 (k1_pay42 q) (k1_pay43 g))⟩, ⟨S16x512, k1_pay66 (k1_pay44 d sc) (k1_pay63 (k1_pay42 q) (k1_pay43 g))⟩, ⟨S16x512, k1_pay68 (k1_pay42 q) (k1_pay44 d sc) (k1_pay62 (k1_pay43 g))⟩, ⟨S16x512, k1_pay69 (k1_pay42 q) (k1_pay44 d sc) (k1_pay62 (k1_pay43 g))⟩, ⟨S16x512, k1_pay71 (k1_pay42 q) (k1_pay44 d sc) (k1_pay62 (k1_pay43 g))⟩, ⟨S16x512, k1_pay1 (k1_pay70 (k1_pay42 q) (k1_pay62 (k1_pay43 g))) (k1_pay72 (k1_pay44 d sc))⟩, ⟨S16x512, k1_pay3 (k1_pay44 d sc) (k1_pay2 (k1_pay42 q) (k1_pay62 (k1_pay43 g)))⟩, ⟨S16x512, k1_pay4 (k1_pay44 d sc) (k1_pay2 (k1_pay42 q) (k1_pay62 (k1_pay43 g)))⟩] concatenates_S16x512_S16x512_S16x512_S16x512_S16x512_S16x512_S16x512_S16x512_S16x512_S16x512_S16x512_S16x512_S16x512_S16x512_S16x512_S16x512_S256x512_d0) acc h
      = half q g d sc h acc := by
  unfold half
  rw [tile_eq_list]
  rfl

/-- The accumulator at a point that is neither first nor last of its column. -/
theorem sout_B (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : ¬cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) :
    sout1_B_0 c i arg2 harg2 arg3 harg3 arg4 harg4 arg5 harg5 arg6 harg6 arg7 harg7 arg8 harg8 arg9 harg9 hc0 hc1 x0 x1 x2 x3 x4 x5 xs0 = step i x0 x1 x2 x3 x4 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_cons_unit_zero (S := S768x512) hz, View.readCov_cons_toLoadRect]
  refine (half1 _ _ _ _ _ _).trans ?_
  rw [half0]
  simp only [View.readAt_eq_ld, harg2.read_unread, harg3.read_unread, harg4.read_unread, harg5.read_unread, harg6.read_unread, harg7.read_unread, harg9.read_unread, View.ld_unit_zero (S := S768x512) hz, View.ld_unit_zero (S := S1x512) hz]
  rfl

/-- The accumulator at the last point of a column. -/
theorem sout_C (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) :
    sout1_C_0 c i arg2 harg2 arg3 harg3 arg4 harg4 arg5 harg5 arg6 harg6 arg7 harg7 arg8 harg8 arg9 harg9 hc0 hc1 x0 x1 x2 x3 x4 x5 xs0 = step i x0 x1 x2 x3 x4 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_cons_unit_zero (S := S768x512) hz, View.readCov_cons_toLoadRect]
  refine (half1 _ _ _ _ _ _).trans ?_
  rw [half0]
  simp only [View.readAt_eq_ld, harg2.read_unread, harg3.read_unread, harg4.read_unread, harg5.read_unread, harg6.read_unread, harg7.read_unread, harg9.read_unread, View.ld_unit_zero (S := S768x512) hz, View.ld_unit_zero (S := S1x512) hz]
  rfl

/-- The accumulator at the first point of a column: it starts from the bias row, repeated. -/
theorem sout_A (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : cond1_0 i) (hc1 : ¬cond1_1 i)
    (x0 : Vec F S768x512 .bf16) (x1 : Vec F S256x512 .i8) (x2 : Vec F S128x512 .i8) (x3 : Vec F S2x16x512 .i8) (x4 : Vec F S74x512 .f16) (x5 : Vec F S1x512 .f32) :
    sout1_A_0 c i arg2 harg2 arg3 harg3 arg4 harg4 arg5 harg5 arg6 harg6 arg7 harg7 arg8 harg8 arg9 harg9 hc0 hc1 x0 x1 x2 x3 x4 x5 = step i x0 x1 x2 x3 x4 (k1_pay7 x5) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S768x512) hz, View.readCov_cons_toLoadRect, View.readCov_cons_toLoadRect]
  refine (half1 _ _ _ _ _ _).trans ?_
  rw [half0]
  simp only [View.readAt_eq_ld, harg2.read_unread, harg3.read_unread, harg4.read_unread, harg5.read_unread, harg6.read_unread, harg7.read_unread, harg9.read_unread, View.ld_unit_zero (S := S768x512) hz, View.ld_unit_zero (S := S1x512) hz]
  rfl

/-- The output block at the last point of a column: the accumulator it leaves, cast to the output's type. -/
theorem out_C (c : Dev nD) (i : grid1.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond1_0 i) (hc1 : cond1_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) :
    out1_C_6 c i arg2 harg2 arg3 harg3 arg4 harg4 arg5 harg5 arg6 harg6 arg7 harg7 arg8 harg8 arg9 harg9 hc0 hc1 x0 x1 x2 x3 x4 x5 xs0 = k1_pay6 (step i x0 x1 x2 x3 x4 xs0) := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S768x512) hz, View.readCov_cons_toLoadRect, View.readCov_cons_toLoadRect]
  refine congrArg k1_pay6 ((half1 _ _ _ _ _ _).trans ?_)
  rw [half0]
  simp only [View.readAt_eq_ld, harg2.read_unread, harg3.read_unread, harg4.read_unread, harg5.read_unread, harg6.read_unread, harg7.read_unread, harg9.read_unread, View.ld_unit_zero (S := S768x512) hz, View.ld_unit_zero (S := S1x512) hz]
  rfl

end Cert.KernelIdeal.Mat

end

end
-- ==== Proof.Spec.lean ====
/-
  The product as mathematics, with no program in it: the weights from the packed codes, the scale codes and the block scales,
  the output as a sum over the 18944 contracted positions, grouped as 74 blocks of 256; and the two orders in which the two
  programs take that sum.
-/
module

public import Idealize.ShloMosaic.PureOps
public import Idealize.ShloMosaic.PureOps.Ideal.Laws
public import Idealize.ShloMosaic.Lib.Pipeline.ValueKit
public import proofs.«01_k».proof.Proof.Code

@[expose] public section

set_option maxRecDepth 16384

noncomputable section

namespace Cert.Q6K

open Idealize.ShloMosaic

/-- The low nibbles of the codes: output, block, half block, byte. -/
abbrev LowBytes : Type := IVec ⟨4, ![3584, 74, 2, 64]⟩ 8
/-- The high bit pairs of the codes: output, block, half block, byte. -/
abbrev HighBytes : Type := IVec ⟨4, ![3584, 74, 2, 32]⟩ 8
/-- The scale codes: output, block, one of sixteen groups of sixteen positions. -/
abbrev ScaleCodes : Type := IVec ⟨3, ![3584, 74, 16]⟩ 8
/-- The block scales: output, block. -/
abbrev BlockScales : Type := (⟨2, ![3584, 74]⟩ : Shape).Idx → EReal

/-- The weight of output `o` at position `r` of block `n`: its six-bit code less 32, times the block's scale, times the
    scale code of the position's group of sixteen. -/
def wt (QL : LowBytes) (QH : HighBytes) (SC : ScaleCodes) (D : BlockScales) (o : Fin 3584) (n : Fin 74) (r : Fin 256) : EReal :=
  (((codeZ (r.val / 32 % 4)
      (QL (ValueIdx.ix4 o n (⟨r.val / 128, by omega⟩ : Fin 2) (⟨r.val % 64, by omega⟩ : Fin 64)))
      (QH (ValueIdx.ix4 o n (⟨r.val / 128, by omega⟩ : Fin 2) (⟨r.val % 32, by omega⟩ : Fin 32))) : Int) : ℝ) : EReal)
    * (D (ValueIdx.ix2 o n) * (((SC (ValueIdx.ix3 o n (⟨r.val / 16, by omega⟩ : Fin 16))).toInt : ℝ) : EReal))

/-- The term of the product at row `p`, output `o`, block `n`, position `r`. -/
def term (H : (⟨2, ![768, 18944]⟩ : Shape).Idx → EReal) (QL : LowBytes) (QH : HighBytes) (SC : ScaleCodes) (D : BlockScales)
    (p : Fin 768) (o : Fin 3584) (n : Fin 74) (r : Fin 256) : EReal :=
  H (ValueIdx.ix2 p (⟨256 * n.val + r.val, by omega⟩ : Fin 18944)) * wt QL QH SC D o n r

/-- The output at row `p` and column `o`: the bias plus the product. -/
def outVal (H : (⟨2, ![768, 18944]⟩ : Shape).Idx → EReal) (QL : LowBytes) (QH : HighBytes) (SC : ScaleCodes) (D : BlockScales)
    (B : (⟨1, ![3584]⟩ : Shape).Idx → EReal) (p : Fin 768) (o : Fin 3584) : EReal :=
  B (ValueIdx.ix1 o) + ∑ n : Fin 74, ∑ r : Fin 256, term H QL QH SC D p o n r

/-- Four times a code, times a quarter of a scale, is the code times the scale. -/
theorem four_quarter (z : Int) (s : EReal) :
    ((((4 * z : Int)) : ℝ) : EReal) * (s * (((1 / 4 : ℝ)) : EReal)) = ((z : ℝ) : EReal) * s := by
  rw [mul_comm s, ← mul_assoc, ← EReal.coe_mul]
  congr 2
  push_cast
  ring

/-- Thirty-seven pairs of consecutive blocks are the seventy-four blocks. -/
theorem sum_pairs {M : Type*} [AddCommMonoid M] (g : Fin 74 → M) :
    ∑ k : Fin 37, (g ⟨2 * k.val, by omega⟩ + g ⟨2 * k.val + 1, by omega⟩) = ∑ n : Fin 74, g n := by
  have h := Fin.sum_mul_add_fin (S := 37) (n := 2) (L := 74) (f := g)
  rw [← h]
  refine Finset.sum_congr rfl fun k _ => ?_
  rw [Fin.sum_univ_two]
  congr 2 <;> exact Fin.ext (by simp; omega)

/-- A block's 256 positions are its 128 even-sixty-four positions and its 128 odd-sixty-four positions. -/
theorem sum_lo_hi {M : Type*} [AddCommMonoid M] (g : Fin 256 → M) :
    ∑ r : Fin 256, g r
      = ∑ s : Fin 128, g ⟨128 * (s.val / 64) + s.val % 64, by omega⟩
        + ∑ s : Fin 128, g ⟨128 * (s.val / 64) + s.val % 64 + 64, by omega⟩ := by
  have e (f : Fin 4 → Fin 64 → M) : ∑ r : Fin 256, f ⟨r.val / 64, by omega⟩ ⟨r.val % 64, by omega⟩ = ∑ a, ∑ b, f a b :=
    Fin.sum_divmod_fin (A := 4) (S := 64) (N := 256) (f := f)
  have e2 (f : Fin 2 → Fin 64 → M) : ∑ r : Fin 128, f ⟨r.val / 64, by omega⟩ ⟨r.val % 64, by omega⟩ = ∑ a, ∑ b, f a b :=
    Fin.sum_divmod_fin (A := 2) (S := 64) (N := 128) (f := f)
  have h := e fun a b => g ⟨64 * a.val + b.val, by omega⟩
  have h0 := e2 fun a b => g ⟨128 * a.val + b.val, by omega⟩
  have h1 := e2 fun a b => g ⟨128 * a.val + b.val + 64, by omega⟩
  dsimp only at h h0 h1
  rw [h0, h1, Fin.sum_univ_two, Fin.sum_univ_two]
  have hl : ∑ r : Fin 256, g r = ∑ r : Fin 256, g ⟨64 * (r.val / 64) + r.val % 64, by omega⟩ :=
    Finset.sum_congr rfl fun r _ => congrArg g (Fin.ext (by dsimp only; omega))
  rw [hl, h, Fin.sum_univ_four]
  have c (x y : Fin 64 → Fin 256) (hxy : ∀ b, (x b).val = (y b).val) : ∑ b, g (x b) = ∑ b, g (y b) :=
    Finset.sum_congr rfl fun b _ => congrArg g (Fin.ext (hxy b))
  refine (congrArg₂ (· + ·) (congrArg₂ (· + ·) (congrArg₂ (· + ·)
    (c _ (fun b => ⟨128 * (0 : Fin 2).val + b.val, by have := b.isLt; have : (0 : Fin 2).val = 0 := rfl; omega⟩) fun b => ?_)
    (c _ (fun b => ⟨128 * (0 : Fin 2).val + b.val + 64, by have := b.isLt; have : (0 : Fin 2).val = 0 := rfl; omega⟩) fun b => ?_))
    (c _ (fun b => ⟨128 * (1 : Fin 2).val + b.val, by have := b.isLt; have : (1 : Fin 2).val = 1 := rfl; omega⟩) fun b => ?_))
    (c _ (fun b => ⟨128 * (1 : Fin 2).val + b.val + 64, by have := b.isLt; have : (1 : Fin 2).val = 1 := rfl; omega⟩) fun b => ?_)).trans ?_
  · simp
  · simp; try omega
  · simp; try omega
  · simp; try omega
  · rw [add_assoc, add_add_add_comm]

end Cert.Q6K

end
-- ==== Proof.MatHalf.lean ====
/-
  The matrix-multiply kernel's grid point at an index, over the ideal values: each half adds the sum of 256 products of an
  activation with a weight.
-/
module

public import proofs.«01_k».proof.Proof.MatStep
public import proofs.«01_k».proof.Proof.Spec

@[expose] public section

set_option maxRecDepth 16384

noncomputable section

open Idealize.ShloMosaic Idealize.ShloMosaic.TcCoe Idealize.SL.Sem

namespace Cert.KernelIdeal.Mat

open Cert.KernelIdeal Cert.KernelIdeal.Gen Cert.Q6K

/-- The constant by which the kernel shrinks the scales is a quarter. -/
theorem quarter : (Scalar.ofBits .bf16 0x3E80#16 : Ideal .bf16) = (((1 / 4 : ℝ)) : EReal) := by
  simp [Scalar.ofBits, FloatOps.ofBits, Ideal.ofBits, Ideal.ieee, -EReal.coe_mul]; norm_num

/-- A half's scales at an index: block scale times scale code times a quarter. -/
theorem scale_apply (d : Vec Ideal S1x512 .f16) (sc : Vec Ideal S1x16x512 .i8) (g : Fin 16) (l : Fin 512) :
    k1_pay10 (F := Ideal) d sc (ValueIdx.ix2 g l)
      = (d (ValueIdx.ix2 (0 : Fin 1) l) * (((BitVec.toInt (sc (ValueIdx.ix3 (0 : Fin 1) g l)) : ℝ)) : EReal)) * (((1 / 4 : ℝ)) : EReal) := by
  unfold k1_pay10
  rw [← quarter, shapeCast_self]
  have hd : broadcastTo S16x512 (extf (F := Ideal) .f32 d bitsLt_f16_f32) broadcasts_S1x512_S16x512 (ValueIdx.ix2 g l) = d (ValueIdx.ix2 (0 : Fin 1) l) := by
    pointwise; rfl
  have hs : shapeCast S16x512 sc shapeCasts_S1x16x512_S16x512 (ValueIdx.ix2 g l) = sc (ValueIdx.ix3 (0 : Fin 1) g l) := by
    pointwise; rfl
  rw [← hd, ← hs]
  rfl

/-- The weight a half uses at row `r` and lane `l`. -/
def hw (q : IVec S128x512 8) (g : IVec S64x512 8) (d : S1x512.Idx → EReal) (sc : IVec S1x16x512 8) (r : Fin 256) (l : Fin 512) : EReal :=
  (((codeZ (r.val / 32 % 4) (q (ValueIdx.ix2 (⟨64 * (r.val / 128) + r.val % 64, by omega⟩ : Fin 128) l))
      (g (ValueIdx.ix2 (⟨32 * (r.val / 128) + r.val % 32, by omega⟩ : Fin 64) l)) : Int) : ℝ) : EReal)
    * (d (ValueIdx.ix2 (0 : Fin 1) l) * (((sc (ValueIdx.ix3 (0 : Fin 1) (⟨r.val / 16, by omega⟩ : Fin 16) l)).toInt : ℝ) : EReal))

/-- What a half adds to the accumulator at an index. -/
theorem half_apply (q : Vec Ideal S128x512 .i8) (g : Vec Ideal S64x512 .i8) (d : Vec Ideal S1x512 .f16) (sc : Vec Ideal S1x16x512 .i8)
    (h : Vec Ideal S768x256 .bf16) (acc : Vec Ideal S768x512 .f32) (p : Fin 768) (l : Fin 512) :
    half (F := Ideal) q g d sc h acc (ValueIdx.ix2 p l)
      = acc (ValueIdx.ix2 p l) + ∑ r : Fin 256, h (ValueIdx.ix2 p r) * hw q g d sc r l := by
  unfold half k1_pay5
  rw [shapeCast_self, shapeCast_self]
  refine congrArg (acc (ValueIdx.ix2 p l) + ·) ?_
  refine (Ideal.matmul_apply dot_S768x256_S256x512_S768x512_1_0_0_1_n_n none h _ _ _).trans ?_
  have hz : (constant (F := Ideal) S768x512 .f32 0x00000000#32 : FVec Ideal S768x512 .f32) (ValueIdx.ix2 p l) = (0 : EReal) := by
    pointwise
  rw [hz]
  refine (zero_add _).trans ?_
  refine (Fintype.sum_equiv (ValueIdx.contrEquiv1 dot_S768x256_S256x512_S768x512_1_0_0_1_n_n 256 rfl rfl) _ _ fun k => ?_)
  obtain ⟨r, rfl⟩ := (ValueIdx.contrEquiv1 dot_S768x256_S256x512_S768x512_1_0_0_1_n_n 256 rfl rfl).symm.surjective k
  rw [Equiv.apply_symm_apply]
  have e1 : dot_S768x256_S256x512_S768x512_1_0_0_1_n_n.lhsIdx (ValueIdx.ix2 p l)
      ((ValueIdx.contrEquiv1 dot_S768x256_S256x512_S768x512_1_0_0_1_n_n 256 rfl rfl).symm r) = ValueIdx.ix2 p r := by
    funext a; match a with | ⟨0, _⟩ => rfl | ⟨1, _⟩ => rfl
  have e2 : dot_S768x256_S256x512_S768x512_1_0_0_1_n_n.rhsIdx (ValueIdx.ix2 p l)
      ((ValueIdx.contrEquiv1 dot_S768x256_S256x512_S768x512_1_0_0_1_n_n 256 rfl rfl).symm r) = ValueIdx.ix2 r l := by
    funext a; match a with | ⟨0, _⟩ => rfl | ⟨1, _⟩ => rfl
  rw [e1, e2]
  refine congrArg (h (ValueIdx.ix2 p r) * ·) ?_
  unfold k1_pay8 k1_pay9
  dsimp only
  rw [shapeCast_self, shapeCast_self]
  refine (tile_apply q g _ _ _ r l).trans ?_
  rw [scale_apply, four_quarter]
  rfl

end Cert.KernelIdeal.Mat

end
-- ==== Proof.MatBlocks.lean ====
/-
  Which elements of the arguments the blocks of a grid point of the matrix-multiply kernel hold.
-/
module

public import proofs.«01_k».proof.Proof.IdealRun
public import Idealize.ShloMosaic.Lib.Pipeline.ValueKit
public import Idealize.ShloMosaic.Lib.StableHlo.ReadAt
public import Idealize.ShloMosaic.Lib.Tactic.WordOmega

@[expose] public section

set_option maxRecDepth 16384

noncomputable section

open Idealize.ShloMosaic Idealize.ShloMosaic.TcCoe Idealize.SL.Sem

namespace Cert.KernelIdeal.Mat

open Cert.KernelIdeal Cert.KernelIdeal.Gen

/-- The block numbers of the six inputs at a grid point. -/
theorem idx0 : ∀ t : Fin cfg1.N, win1_0.index t = ![0, t.val % 37] := (by decide +kernel : ∀ t : Fin grid1.N, _)
theorem idx1 : ∀ t : Fin cfg1.N, win1_1.index t = ![t.val % 37, t.val / 37] := (by decide +kernel : ∀ t : Fin grid1.N, _)
theorem idx2 : ∀ t : Fin cfg1.N, win1_2.index t = ![t.val % 37, t.val / 37] := (by decide +kernel : ∀ t : Fin grid1.N, _)
theorem idx3 : ∀ t : Fin cfg1.N, win1_3.index t = ![t.val % 37, 0, t.val / 37] := (by decide +kernel : ∀ t : Fin grid1.N, _)
theorem idx4 : ∀ t : Fin cfg1.N, win1_4.index t = ![0, t.val / 37] := (by decide +kernel : ∀ t : Fin grid1.N, _)
theorem idx5 : ∀ t : Fin cfg1.N, win1_5.index t = ![0, t.val / 37] := (by decide +kernel : ∀ t : Fin grid1.N, _)
theorem idx6 : ∀ t : Fin cfg1.N, win1_6.index t = ![0, t.val / 37] := (by decide +kernel : ∀ t : Fin grid1.N, _)

/-- The grid has seven runs of thirty-seven points. -/
theorem pt_lt (t : Fin cfg1.N) : t.val < 259 := lt_of_lt_of_eq t.isLt N_1

variable {F : FTy → Type} [FloatOps F]

section Blocks

variable (V : (c : Dev nD) → (b : Ref sig .tc) → Buf (Elt F) ((c : Thread nD τ).loc b)) (c : Dev nD)

/-- The activation block. -/
theorem blk0 (t : Fin cfg1.N) (p : Fin 768) (j : Fin 512) :
    iblk V c 0 t (ValueIdx.ix2 p j) = (V c main_v8 : Vec F S768x18944 .bf16)
      (ValueIdx.ix2 p (⟨512 * (t.val % 37) + j.val, by omega⟩ : Fin 18944)) := by
  show V c main_v8 (((cfg1.win 0).blk t).view.emb (ValueIdx.ix2 p j)) = _
  refine congrArg _ (funext fun a => Fin.ext ?_)
  match a with
  | ⟨0, _⟩ => show win1_0.index t (0 : Fin 2) * 768 + 1 * p.val = p.val; rw [idx0]; simp
  | ⟨1, _⟩ => show win1_0.index t (1 : Fin 2) * 512 + 1 * j.val = 512 * (t.val % 37) + j.val; rw [idx0]; simp; omega

/-- The block of low nibbles. -/
theorem blk1 (t : Fin cfg1.N) (a : Fin 256) (l : Fin 512) :
    iblk V c 1 t (ValueIdx.ix2 a l) = (V c main_v2 : Vec F S9472x3584 .i8)
      (ValueIdx.ix2 (⟨256 * (t.val % 37) + a.val, by omega⟩ : Fin 9472) (⟨512 * (t.val / 37) + l.val, by have := pt_lt t; omega⟩ : Fin 3584)) := by
  show V c main_v2 (((cfg1.win 1).blk t).view.emb (ValueIdx.ix2 a l)) = _
  refine congrArg _ (funext fun b => Fin.ext ?_)
  match b with
  | ⟨0, _⟩ => show win1_1.index t (0 : Fin 2) * 256 + 1 * a.val = 256 * (t.val % 37) + a.val; rw [idx1]; simp; omega
  | ⟨1, _⟩ => show win1_1.index t (1 : Fin 2) * 512 + 1 * l.val = 512 * (t.val / 37) + l.val; rw [idx1]; simp; omega

/-- The block of high bit pairs. -/
theorem blk2 (t : Fin cfg1.N) (a : Fin 128) (l : Fin 512) :
    iblk V c 2 t (ValueIdx.ix2 a l) = (V c main_v4 : Vec F S4736x3584 .i8)
      (ValueIdx.ix2 (⟨128 * (t.val % 37) + a.val, by omega⟩ : Fin 4736) (⟨512 * (t.val / 37) + l.val, by have := pt_lt t; omega⟩ : Fin 3584)) := by
  show V c main_v4 (((cfg1.win 2).blk t).view.emb (ValueIdx.ix2 a l)) = _
  refine congrArg _ (funext fun b => Fin.ext ?_)
  match b with
  | ⟨0, _⟩ => show win1_2.index t (0 : Fin 2) * 128 + 1 * a.val = 128 * (t.val % 37) + a.val; rw [idx2]; simp; omega
  | ⟨1, _⟩ => show win1_2.index t (1 : Fin 2) * 512 + 1 * l.val = 512 * (t.val / 37) + l.val; rw [idx2]; simp; omega

/-- The block of scale codes. -/
theorem blk3 (t : Fin cfg1.N) (a : Fin 2) (g : Fin 16) (l : Fin 512) :
    iblk V c 3 t (ValueIdx.ix3 a g l) = (V c main_v5 : Vec F S74x16x3584 .i8)
      (ValueIdx.ix3 (⟨2 * (t.val % 37) + a.val, by omega⟩ : Fin 74) g (⟨512 * (t.val / 37) + l.val, by have := pt_lt t; omega⟩ : Fin 3584)) := by
  show V c main_v5 (((cfg1.win 3).blk t).view.emb (ValueIdx.ix3 a g l)) = _
  refine congrArg _ (funext fun b => Fin.ext ?_)
  match b with
  | ⟨0, _⟩ => show win1_3.index t (0 : Fin 3) * 2 + 1 * a.val = 2 * (t.val % 37) + a.val; rw [idx3]; simp; omega
  | ⟨1, _⟩ => show win1_3.index t (1 : Fin 3) * 16 + 1 * g.val = g.val; rw [idx3]; simp
  | ⟨2, _⟩ => show win1_3.index t (2 : Fin 3) * 512 + 1 * l.val = 512 * (t.val / 37) + l.val; rw [idx3]; simp; omega

/-- The block of block scales. -/
theorem blk4 (t : Fin cfg1.N) (n : Fin 74) (l : Fin 512) :
    iblk V c 4 t (ValueIdx.ix2 n l) = (V c main_v6 : Vec F S74x3584 .f16)
      (ValueIdx.ix2 n (⟨512 * (t.val / 37) + l.val, by have := pt_lt t; omega⟩ : Fin 3584)) := by
  show V c main_v6 (((cfg1.win 4).blk t).view.emb (ValueIdx.ix2 n l)) = _
  refine congrArg _ (funext fun b => Fin.ext ?_)
  match b with
  | ⟨0, _⟩ => show win1_4.index t (0 : Fin 2) * 74 + 1 * n.val = n.val; rw [idx4]; simp
  | ⟨1, _⟩ => show win1_4.index t (1 : Fin 2) * 512 + 1 * l.val = 512 * (t.val / 37) + l.val; rw [idx4]; simp; omega

/-- The block of the bias row. -/
theorem blk5 (t : Fin cfg1.N) (n : Fin 1) (l : Fin 512) :
    iblk V c 5 t (ValueIdx.ix2 n l) = (V c main_v9 : Vec F S1x3584 .f32)
      (ValueIdx.ix2 n (⟨512 * (t.val / 37) + l.val, by have := pt_lt t; omega⟩ : Fin 3584)) := by
  show V c main_v9 (((cfg1.win 5).blk t).view.emb (ValueIdx.ix2 n l)) = _
  refine congrArg _ (funext fun b => Fin.ext ?_)
  match b with
  | ⟨0, _⟩ => show win1_5.index t (0 : Fin 2) * 1 + 1 * n.val = n.val; rw [idx5]; simp
  | ⟨1, _⟩ => show win1_5.index t (1 : Fin 2) * 512 + 1 * l.val = 512 * (t.val / 37) + l.val; rw [idx5]; simp; omega

end Blocks

section Host

variable (m : (ℓ : Loc nD τ sig) → Buf (Elt F) ℓ) (c : Dev nD)

/-- A buffer the norm call and the bias row leave alone is as the host prefix left it. -/
theorem kept (r : Ref sig .tc) (h9 : r ∉ hostOps1_W) (h8 : r ∉ ([main_v8] : List (Ref sig .tc))) :
    Whole.Vm m c r = StableHlo.after hostOps0 (V0 m c) r :=
  (V3_of m (Whole.outsN m) c r h9).trans (V2_of m (Whole.outsN m) c r h8)

/-- The low nibbles as the kernel is given them: row `128 n + 64 i + b` is byte `b` of half `i` of block `n`. -/
theorem host1 (n : Fin 74) (i : Fin 2) (b : Fin 64) (o : Fin 3584) (row : Fin 9472) (hr : row.val = 128 * n.val + 64 * i.val + b.val) :
    (Whole.Vm m c main_v2 : Vec F S9472x3584 .i8) (ValueIdx.ix2 row o) = (m ((c : Thread nD τ).loc main_arg1) : Vec F S3584x74x2x64 .i8) (ValueIdx.ix4 o n i b) := by
  rw [kept m c main_v2 (by decide) (by decide)]
  after_reads_at
  refine congrArg (m ((c : Thread nD τ).loc main_arg1)) (funext fun a => Fin.ext ?_)
  match a with
  | ⟨0, _⟩ => rfl
  | ⟨1, _⟩ => show row.val / 128 = n.val; omega
  | ⟨2, _⟩ => show row.val / 64 % 2 = i.val; omega
  | ⟨3, _⟩ => show row.val % 64 = b.val; omega

/-- The high bit pairs as the kernel is given them: row `64 n + 32 i + b` is byte `b` of half `i` of block `n`. -/
theorem host2 (n : Fin 74) (i : Fin 2) (b : Fin 32) (o : Fin 3584) (row : Fin 4736) (hr : row.val = 64 * n.val + 32 * i.val + b.val) :
    (Whole.Vm m c main_v4 : Vec F S4736x3584 .i8) (ValueIdx.ix2 row o) = (m ((c : Thread nD τ).loc main_arg2) : Vec F S3584x74x2x32 .i8) (ValueIdx.ix4 o n i b) := by
  rw [kept m c main_v4 (by decide) (by decide)]
  after_reads_at
  refine congrArg (m ((c : Thread nD τ).loc main_arg2)) (funext fun a => Fin.ext ?_)
  match a with
  | ⟨0, _⟩ => rfl
  | ⟨1, _⟩ => show row.val / 64 = n.val; omega
  | ⟨2, _⟩ => show row.val / 32 % 2 = i.val; omega
  | ⟨3, _⟩ => show row.val % 32 = b.val; omega

/-- The scale codes as the kernel is given them: outputs last. -/
theorem host3 (n : Fin 74) (g : Fin 16) (o : Fin 3584) :
    (Whole.Vm m c main_v5 : Vec F S74x16x3584 .i8) (ValueIdx.ix3 n g o) = (m ((c : Thread nD τ).loc main_arg3) : Vec F S3584x74x16 .i8) (ValueIdx.ix3 o n g) := by
  rw [kept m c main_v5 (by decide) (by decide)]
  after_reads_at
  refine congrArg (m ((c : Thread nD τ).loc main_arg3)) (funext fun a => Fin.ext ?_)
  match a with
  | ⟨0, _⟩ => rfl
  | ⟨1, _⟩ => rfl
  | ⟨2, _⟩ => rfl

/-- The block scales as the kernel is given them: outputs last. -/
theorem host4 (n : Fin 74) (o : Fin 3584) :
    (Whole.Vm m c main_v6 : Vec F S74x3584 .f16) (ValueIdx.ix2 n o) = (m ((c : Thread nD τ).loc main_arg4) : Vec F S3584x74 .f16) (ValueIdx.ix2 o n) := by
  rw [kept m c main_v6 (by decide) (by decide)]
  after_reads_at
  refine congrArg (m ((c : Thread nD τ).loc main_arg4)) (funext fun a => Fin.ext ?_)
  match a with
  | ⟨0, _⟩ => rfl
  | ⟨1, _⟩ => rfl

/-- The bias as the kernel is given it: one row. -/
theorem host5 (n : Fin 1) (o : Fin 3584) :
    (Whole.Vm m c main_v9 : Vec F S1x3584 .f32) (ValueIdx.ix2 n o) = (m ((c : Thread nD τ).loc main_arg6) : Vec F S3584 .f32) (ValueIdx.ix1 o) := by
  have h6 : V2 m (Whole.outsN m) c main_arg6 = m ((c : Thread nD τ).loc main_arg6) :=
    (V2_of m (Whole.outsN m) c main_arg6 (by decide)).trans (V1_of m c main_arg6 (by decide))
  rw [show Whole.Vm m c main_v9 = StableHlo.after hostOps1 (V2 m (Whole.outsN m) c) main_v9 from rfl]
  after_reads_at
  rw [h6]
  refine congrArg (m ((c : Thread nD τ).loc main_arg6)) (funext fun a => Fin.ext ?_)
  match a with
  | ⟨0, _⟩ => rfl

end Host

end Cert.KernelIdeal.Mat

end
-- ==== Proof.MatPoint.lean ====
/-
  The matrix-multiply kernel's array, over the ideal values: what its accumulator holds after every grid point, and what the
  output array holds at the end, as the bias plus the product of the activations with the weights.
-/
module

public import proofs.«01_k».proof.Proof.MatHalf
public import proofs.«01_k».proof.Proof.MatBlocks

@[expose] public section

set_option maxRecDepth 16384

noncomputable section

open Idealize.ShloMosaic Idealize.ShloMosaic.TcCoe Idealize.SL.Sem

namespace Cert.KernelIdeal.Mat

open Cert.KernelIdeal Cert.KernelIdeal.Gen Cert.Q6K

variable (m : (ℓ : Loc nD τ sig) → Buf (Elt Ideal) ℓ) (c : Dev nD)

/-- The activations the kernel is launched on. -/
abbrev actOf : (⟨2, ![768, 18944]⟩ : Shape).Idx → EReal := (Whole.Vm m c main_v8 : Vec Ideal S768x18944 .bf16)
/-- The low nibbles. -/
abbrev lowOf : LowBytes := (m ((c : Thread nD τ).loc main_arg1) : Vec Ideal S3584x74x2x64 .i8)
/-- The high bit pairs. -/
abbrev highOf : HighBytes := (m ((c : Thread nD τ).loc main_arg2) : Vec Ideal S3584x74x2x32 .i8)
/-- The scale codes. -/
abbrev codesOf : ScaleCodes := (m ((c : Thread nD τ).loc main_arg3) : Vec Ideal S3584x74x16 .i8)
/-- The block scales. -/
abbrev scalesOf : BlockScales := (m ((c : Thread nD τ).loc main_arg4) : Vec Ideal S3584x74 .f16)
/-- The bias. -/
abbrev biasOf : (⟨1, ![3584]⟩ : Shape).Idx → EReal := (m ((c : Thread nD τ).loc main_arg6) : Vec Ideal S3584 .f32)

/-- The output column of lane `l` at a grid point. -/
abbrev colOf (t : Fin cfg1.N) (l : Fin 512) : Fin 3584 := ⟨512 * (t.val / 37) + l.val, by have := pt_lt t; omega⟩
/-- The block of half `j` at a grid point. -/
abbrev blkOf (t : Fin cfg1.N) (j : Fin 2) : Fin 74 := ⟨2 * (t.val % 37) + j.val, by omega⟩

/-- Where a half's block scales are read. -/
theorem off_eq (t : Fin cfg1.N) (j : Fin 2) : k1_off1 (grid1.coords t) (BitVec.ofNat 32 j.val) = ![2 * (t.val % 37) + j.val, 0] := by
  rw [k1_off1_eq]
  have h : (grid1.coords t 1).val = t.val / 1 % 37 := Pipeline.Grid.coords_val t 1 (by decide) rfl
  rw [h, Nat.div_one]

/-- The weight a half of a grid point uses is the weight of its column, block and position. -/
theorem hw_eq (t : Fin cfg1.N) (j : Fin 2) (o1 : Nat) (o2 : Nat) (h1 : o1 = 128 * j.val) (h2 : o2 = 64 * j.val) (o3 : Fin 2 → Nat)
    (h3 : o3 = ![2 * (t.val % 37) + j.val, 0]) (o4 : Nat) (h4 : o4 = j.val)
    (b1 : ∀ a, (![o1, 0] : Fin S256x512.rank → Nat) a + (![128, 512] : Fin S256x512.rank → Nat) a ≤ S256x512.size a)
    (b2 : ∀ a, (![o2, 0] : Fin S128x512.rank → Nat) a + (![64, 512] : Fin S128x512.rank → Nat) a ≤ S128x512.size a)
    (b3 : ∀ a, o3 a + (![1, 512] : Fin S74x512.rank → Nat) a ≤ S74x512.size a)
    (b4 : ∀ a, (![o4, 0, 0] : Fin S2x16x512.rank → Nat) a + (![1, 16, 512] : Fin S2x16x512.rank → Nat) a ≤ S2x16x512.size a)
    (r : Fin 256) (l : Fin 512) :
    hw (View.ld (iblk (Whole.Vm m) c 1 t : Vec Ideal S256x512 .i8) (Rect.unit ![o1, 0] ![128, 512] b1))
      (View.ld (iblk (Whole.Vm m) c 2 t : Vec Ideal S128x512 .i8) (Rect.unit ![o2, 0] ![64, 512] b2))
      (View.ld (iblk (Whole.Vm m) c 4 t : Vec Ideal S74x512 .f16) (Rect.unit (s := S74x512) o3 ![1, 512] b3))
      (View.ld (iblk (Whole.Vm m) c 3 t : Vec Ideal S2x16x512 .i8) (Rect.unit ![o4, 0, 0] ![1, 16, 512] b4)) r l
      = wt (lowOf m c) (highOf m c) (codesOf m c) (scalesOf m c) (colOf t l) (blkOf t j) r := by
  subst h1 h2 h3 h4
  unfold hw wt
  have hr := r.isLt
  have hj := j.isLt
  have hk : t.val % 37 < 37 := Nat.mod_lt _ (by decide)
  rw [View.ld_unit_apply_of (iblk (Whole.Vm m) c 1 t : Vec Ideal S256x512 .i8) _ _ b1 _
      (ValueIdx.ix2 (⟨128 * j.val + (64 * (r.val / 128) + r.val % 64), by omega⟩ : Fin 256) l)
      (fun a => by match a with | ⟨0, _⟩ => rfl | ⟨1, _⟩ => exact (Nat.zero_add _).symm),
    View.ld_unit_apply_of (iblk (Whole.Vm m) c 2 t : Vec Ideal S128x512 .i8) _ _ b2 _
      (ValueIdx.ix2 (⟨64 * j.val + (32 * (r.val / 128) + r.val % 32), by omega⟩ : Fin 128) l)
      (fun a => by match a with | ⟨0, _⟩ => rfl | ⟨1, _⟩ => exact (Nat.zero_add _).symm),
    View.ld_unit_apply_of (iblk (Whole.Vm m) c 4 t : Vec Ideal S74x512 .f16) _ _ b3 _
      (ValueIdx.ix2 (blkOf t j) l)
      (fun a => by match a with | ⟨0, _⟩ => rfl | ⟨1, _⟩ => exact (Nat.zero_add _).symm),
    View.ld_unit_apply_of (iblk (Whole.Vm m) c 3 t : Vec Ideal S2x16x512 .i8) _ _ b4 _
      (ValueIdx.ix3 j (⟨r.val / 16, by omega⟩ : Fin 16) l)
      (fun a => by match a with | ⟨0, _⟩ => rfl | ⟨1, _⟩ => exact (Nat.zero_add _).symm | ⟨2, _⟩ => exact (Nat.zero_add _).symm),
    blk1, blk2, blk3, blk4,
    host1 m c (blkOf t j) ⟨r.val / 128, by omega⟩ ⟨r.val % 64, by omega⟩ _ _ (by dsimp only; omega),
    host2 m c (blkOf t j) ⟨r.val / 128, by omega⟩ ⟨r.val % 32, by omega⟩ _ _ (by dsimp only; omega),
    host3, host4]

/-- A half's activations at a grid point. -/
theorem act_eq (t : Fin cfg1.N) (j : Fin 2) (o1 : Nat) (h1 : o1 = 256 * j.val)
    (b1 : ∀ a, (![0, o1] : Fin S768x512.rank → Nat) a + (![768, 256] : Fin S768x512.rank → Nat) a ≤ S768x512.size a)
    (p : Fin 768) (r : Fin 256) :
    View.ld (iblk (Whole.Vm m) c 0 t : Vec Ideal S768x512 .bf16) (Rect.unit ![0, o1] ![768, 256] b1) (ValueIdx.ix2 p r)
      = actOf m c (ValueIdx.ix2 p (⟨256 * (blkOf t j).val + r.val, by have := (blkOf t j).isLt; omega⟩ : Fin 18944)) := by
  subst h1
  have hj := j.isLt
  rw [View.ld_unit_apply_of (iblk (Whole.Vm m) c 0 t : Vec Ideal S768x512 .bf16) _ _ b1 _
      (ValueIdx.ix2 p (⟨256 * j.val + r.val, by omega⟩ : Fin 512))
      (fun a => by match a with | ⟨0, _⟩ => exact (Nat.zero_add _).symm | ⟨1, _⟩ => rfl), blk0]
  refine congrArg (actOf m c) (congrArg (ValueIdx.ix2 p) (Fin.ext ?_))
  dsimp only
  omega

/-- The term of the product for the kernel's own arrays. -/
abbrev trm (p : Fin 768) (o : Fin 3584) (n : Fin 74) (r : Fin 256) : EReal :=
  term (actOf m c) (lowOf m c) (highOf m c) (codesOf m c) (scalesOf m c) p o n r

/-- What a grid point adds to the accumulator at an index: the products of its two blocks. -/
theorem step_apply (t : Fin cfg1.N) (acc : Vec Ideal S768x512 .f32) (p : Fin 768) (l : Fin 512) :
    step (F := Ideal) (grid1.coords t) (iblk (Whole.Vm m) c 0 t) (iblk (Whole.Vm m) c 1 t) (iblk (Whole.Vm m) c 2 t) (iblk (Whole.Vm m) c 3 t) (iblk (Whole.Vm m) c 4 t) acc (ValueIdx.ix2 p l)
      = acc (ValueIdx.ix2 p l) + (∑ r, trm m c p (colOf t l) (blkOf t 0) r + ∑ r, trm m c p (colOf t l) (blkOf t 1) r) := by
  unfold step
  rw [half_apply, half_apply, ← add_assoc]
  refine congrArg₂ (· + ·) (congrArg (acc (ValueIdx.ix2 p l) + ·) ?_) ?_
  · refine Finset.sum_congr rfl fun r _ => ?_
    rw [hw_eq m c t 0 0 0 rfl rfl (k1_off1 (grid1.coords t) 0#32) (off_eq t 0) 0 rfl, act_eq m c t 0 0 rfl]
    rfl
  · refine Finset.sum_congr rfl fun r _ => ?_
    rw [hw_eq m c t 1 128 64 rfl rfl (k1_off1 (grid1.coords t) 1#32) (off_eq t 1) 1 rfl, act_eq m c t 1 256 rfl]
    rfl

/-- The bias row spread over the block. -/
theorem init_apply (t : Fin cfg1.N) (p : Fin 768) (l : Fin 512) :
    k1_pay7 (F := Ideal) (iblk (Whole.Vm m) c 5 t) (ValueIdx.ix2 p l) = biasOf m c (ValueIdx.ix1 (colOf t l)) := by
  unfold k1_pay7
  rw [shapeCast_self, shapeCast_self, shapeCast_self]
  refine (broadcastTo_apply _ _ (ValueIdx.ix2 p l) (ValueIdx.ix2 (0 : Fin 1) l) (fun a => ?_)).trans ?_
  · match a with
    | ⟨0, _⟩ => rfl
    | ⟨1, _⟩ => rfl
  · rw [blk5, host5]

/-- What the kernel adds at place `k` of a run, for one row and column. -/
def pair (p : Fin 768) (o : Fin 3584) (k : Nat) : EReal :=
  if h : k < 37 then (∑ r, trm m c p o ⟨2 * k, by omega⟩ r) + ∑ r, trm m c p o ⟨2 * k + 1, by omega⟩ r else 0

theorem pair_at (t : Fin cfg1.N) (p : Fin 768) (o : Fin 3584) :
    (∑ r, trm m c p o (blkOf t 0) r) + ∑ r, trm m c p o (blkOf t 1) r = pair m c p o (t.val % 37) := by
  unfold pair
  rw [dif_pos (Nat.mod_lt _ (by decide))]
  rfl

/-- THE ACCUMULATOR after place `k` of run `q`: the bias plus the products of the blocks so far. -/
theorem acc_eq (q : Nat) (hq : q < 7) (p : Fin 768) (l : Fin 512) : ∀ (k : Nat) (hk : k < 37) (h : 37 * q + k < cfg1.N),
    (outsAt1 (Whole.Vm m) c (37 * q + k) h).2 (ValueIdx.ix2 p l)
      = biasOf m c (ValueIdx.ix1 (⟨512 * q + l.val, by omega⟩ : Fin 3584))
        + ∑ i ∈ Finset.range (k + 1), pair m c p ⟨512 * q + l.val, by omega⟩ i
  | 0, _, h => by
      have ht : (⟨37 * q + 0, h⟩ : Fin cfg1.N).val % 37 = 0 := by dsimp only; omega
      have e := outsAt1_A (Whole.Vm m) c ⟨37 * q + 0, h⟩ ht (by omega)
      have hc : ∀ l, colOf ⟨37 * q + 0, h⟩ l = ⟨512 * q + l.val, by omega⟩ := fun l => Fin.ext (by show 512 * ((37 * q + 0) / 37) + l.val = 512 * q + l.val; omega)
      refine (congrFun (congrArg Prod.snd e) _).trans ?_
      dsimp only
      rw [sout_A, step_apply, init_apply, pair_at, ht, hc, Finset.sum_range_one]
  | k + 1, hk, h => by
      have ht : (⟨37 * q + (k + 1), h⟩ : Fin cfg1.N).val % 37 = k + 1 := by dsimp only; omega
      have hc : ∀ l, colOf ⟨37 * q + (k + 1), h⟩ l = ⟨512 * q + l.val, by omega⟩ := fun l => Fin.ext (by show 512 * ((37 * q + (k + 1)) / 37) + l.val = 512 * q + l.val; omega)
      have ih := acc_eq q hq p l k (by omega) (by omega)
      rw [Finset.sum_range_succ]
      refine Eq.trans ?_ (add_assoc _ _ _)
      rw [← ih]
      by_cases h36 : k + 1 = 36
      · have e := outsAt1_C (Whole.Vm m) c ⟨37 * q + (k + 1), h⟩ (by omega) (by omega)
        refine (congrFun (congrArg Prod.snd e) _).trans ?_
        dsimp only
        rw [sout_C, step_apply, pair_at, ht, hc]
        rfl
      · have e := outsAt1_B (Whole.Vm m) c ⟨37 * q + (k + 1), h⟩ (by omega) (by omega)
        refine (congrFun (congrArg Prod.snd e) _).trans ?_
        dsimp only
        rw [sout_B, step_apply, pair_at, ht, hc]
        rfl

/-- The block written back at the end of a run. -/
theorem out_eq (t : Fin cfg1.N) (h36 : t.val % 37 = 36) (p : Fin 768) (l : Fin 512) :
    (outsAt1 (Whole.Vm m) c t.val t.isLt).1 (ValueIdx.ix2 p l)
      = outVal (actOf m c) (lowOf m c) (highOf m c) (codesOf m c) (scalesOf m c) (biasOf m c) p (colOf t l) := by
  have ht := pt_lt t
  have e := outsAt1_C (Whole.Vm m) c t (by omega) h36
  have e2 : (outsAt1 (Whole.Vm m) c t.val t.isLt).1 (ValueIdx.ix2 p l) = (outsAt1 (Whole.Vm m) c t.val t.isLt).2 (ValueIdx.ix2 p l) := by
    rw [congrArg Prod.fst e, congrArg Prod.snd e]
    dsimp only
    rw [out_C, sout_C]
    rfl
  rw [e2]
  have hv : ∀ n (hn : n < cfg1.N), n = t.val → (outsAt1 (Whole.Vm m) c t.val t.isLt).2 = (outsAt1 (Whole.Vm m) c n hn).2 := fun n hn e => by subst e; rfl
  rw [hv (37 * (t.val / 37) + 36) (by rw [← h36, Nat.div_add_mod]; exact t.isLt) (by omega),
    acc_eq m c (t.val / 37) (by omega) p l 36 (by decide)]
  unfold outVal
  refine congrArg (biasOf m c (ValueIdx.ix1 (colOf t l)) + ·) ?_
  rw [← sum_pairs, ← Fin.sum_univ_eq_sum_range (fun i => pair m c p ⟨512 * (t.val / 37) + l.val, by omega⟩ i) 37]
  refine Finset.sum_congr rfl fun k _ => ?_
  unfold pair
  rw [dif_pos k.isLt]

/-- The output array as mathematics. -/
def outArr : Vec Ideal S768x3584 .bf16 := fun i =>
  outVal (actOf m c) (lowOf m c) (highOf m c) (codesOf m c) (scalesOf m c) (biasOf m c) (i 0) (i 1)

/-- THE ARRAY after the run: at every index the bias plus the product. -/
theorem arr_eq : (dat (Whole.Vm m) c).arrAt 6 cfg1.N = outArr m c := by
  refine (dat (Whole.Vm m) c).arrAt_eq_of_covers 6 _ (by decide +kernel) fun t hf y => ?_
  have h36 : t.val % 37 = 36 := (flush1_6 t).mp hf
  have hy : y = ValueIdx.ix2 (⟨(y 0).val, (y 0).isLt⟩ : Fin 768) (⟨(y 1).val, (y 1).isLt⟩ : Fin 512) := by
    funext a; match a with | ⟨0, _⟩ => rfl | ⟨1, _⟩ => rfl
  show (dat (Whole.Vm m) c).after 6 t y = _
  rw [after1_6]
  have e := out_eq m c t h36 ⟨(y 0).val, (y 0).isLt⟩ ⟨(y 1).val, (y 1).isLt⟩
  rw [← hy] at e
  refine e.trans ?_
  unfold outArr
  have e0 : ((cfg1.win 6).blk t).view.emb y 0 = (⟨(y 0).val, (y 0).isLt⟩ : Fin 768) := Fin.ext (by
    show win1_6.index t (0 : Fin 2) * 768 + 1 * (y 0).val = (y 0).val; rw [idx6]; simp)
  have e1 : ((cfg1.win 6).blk t).view.emb y 1 = colOf t (⟨(y 1).val, (y 1).isLt⟩ : Fin 512) := Fin.ext (by
    show win1_6.index t (1 : Fin 2) * 512 + 1 * (y 1).val = 512 * (t.val / 37) + (y 1).val; rw [idx6]; simp; omega)
  rw [e0, e1]

end Cert.KernelIdeal.Mat

end
-- ==== Proof.KernelValue.lean ====
/-
  The result of the whole kernel: the norm's result goes into the matrix product, and the product's rows are split by batch.
-/
module

public import proofs.«01_k».proof.Proof.NormPoint
public import proofs.«01_k».proof.Proof.MatPoint

@[expose] public section

set_option maxRecDepth 16384

noncomputable section

open Idealize.ShloMosaic Idealize.ShloMosaic.TcCoe Idealize.SL.Sem

namespace Cert.KernelIdeal.Whole

open Cert.KernelIdeal Cert.KernelIdeal.Gen Cert.Q6K

variable (m : (ℓ : Loc nD τ sig) → Buf (Elt Ideal) ℓ) (c : Dev nD)

/-- The normalised activations of the run, as one matrix. -/
abbrev normOf : (⟨2, ![768, 18944]⟩ : Shape).Idx → EReal := fun i =>
  normVal (m ((c : Thread nD τ).loc main_arg0)) (m ((c : Thread nD τ).loc main_arg5)) (i 0) (i 1)

/-- The matrix product is given what the norm call leaves. -/
theorem act_eq : Vm m c main_v8 = normOf m c :=
  (V3_of m (outsN m) c main_v8 (by decide)).trans
    (((congrFun (V2_eq m c) (Proc.devRef .tc main_v8)).symm.trans (V2_v8 m c)).trans (Norm.arr_eq m c))

/-- The matrix product as its call leaves it: the bias plus the product of the normalised activations with the weights. -/
theorem yOut_apply (p : Fin 768) (o : Fin 3584) : yOut m c (ValueIdx.ix2 p o)
    = outVal (normOf m c) (m ((c : Thread nD τ).loc main_arg1)) (m ((c : Thread nD τ).loc main_arg2))
        (m ((c : Thread nD τ).loc main_arg3)) (m ((c : Thread nD τ).loc main_arg4)) (m ((c : Thread nD τ).loc main_arg6)) p o := by
  unfold yOut
  rw [Mat.arr_eq]
  unfold Mat.outArr
  rw [show Mat.actOf m c = normOf m c from act_eq m c]

/-- The kernel's result at batch `a`, row `b` and column `o`. -/
theorem out_apply (a : Fin 3) (b : Fin 256) (o : Fin 3584) : V5 m (outs m) c main_v11 (ValueIdx.ix3 a b o)
    = outVal (normOf m c) (m ((c : Thread nD τ).loc main_arg1)) (m ((c : Thread nD τ).loc main_arg2))
        (m ((c : Thread nD τ).loc main_arg3)) (m ((c : Thread nD τ).loc main_arg4)) (m ((c : Thread nD τ).loc main_arg6))
        (⟨256 * a.val + b.val, by omega⟩ : Fin 768) o := by
  rw [← yOut_apply, ← V4_v10]
  rw [show V5 m (outs m) c main_v11 = StableHlo.after hostOps2 (V4 m (outs m) c) main_v11 from rfl]
  after_reads_at
  refine congrArg (V4 m (outs m) c main_v10) (funext fun d => Fin.ext ?_)
  match d with
  | ⟨0, _⟩ => show a.val * 256 + b.val = 256 * a.val + b.val; omega
  | ⟨1, _⟩ => rfl

end Cert.KernelIdeal.Whole

end
-- ==== Proof.MatRef.lean ====
/-
  What the reference of the matrix product computes, at an index, over the ideal values.
-/
module

public import proofs.«01_k».proof.Proof.Gen.ReferenceIdeal.Run
public import proofs.«01_k».proof.Proof.Gen.ReferenceIdeal.Read
public import Idealize.ShloMosaic.Lib.Pipeline.ValueKit
public import Idealize.ShloMosaic.Lib.Tactic.WordOmega
public import proofs.«01_k».proof.Proof.Spec

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Q6K

variable {F : FTy → Type} [FloatOps F]

variable (x1 : (⟨S3584x74x2x64, .i8⟩ : BufTy).Contents (Elt F)) (x2 : (⟨S3584x74x2x32, .i8⟩ : BufTy).Contents (Elt F))
  (r0 : (⟨S3584x74x16, .bf16⟩ : BufTy).Contents (Elt F))

/-- The code word of a low position. -/
theorem v42_apply (o : Fin 3584) (n : Fin 74) (i j : Fin 2) (b : Fin 32) :
    Read.val_main_v42 (F := F) x1 x2 (ValueIdx.ix5 o n i j b) = IntOp.ori (IntOp.andi (BitVec.setWidth 32 (x1 (ValueIdx.ix4 o n i (⟨32 * j.val + b.val, by omega⟩ : Fin 64)))) 15#32)
      (IntOp.shli .host (IntOp.andi (IntOp.shrsi .host (BitVec.setWidth 32 (x2 (ValueIdx.ix4 o n i b))) (IntOp.muli 2#32 (BitVec.ofNat 32 j.val))) 3#32) 4#32) := by
  have e1 : Read.idx_main_v25 (ValueIdx.ix5 o n i j b) = ValueIdx.ix4 o n i (⟨32 * j.val + b.val, by omega⟩ : Fin 64) := by
    have ho := o.isLt; have hn := n.isLt; have hi := i.isLt; have hj := j.isLt; have hb := b.isLt
    funext a
    match a with
    | ⟨0, _⟩ => refine Fin.ext ?_; show ((((o.val * 74 + n.val) * 2 + i.val) * 2 + j.val) * 32 + b.val) / 9472 = o.val; omega
    | ⟨1, _⟩ => refine Fin.ext ?_; show ((((o.val * 74 + n.val) * 2 + i.val) * 2 + j.val) * 32 + b.val) / 128 % 74 = n.val; omega
    | ⟨2, _⟩ => refine Fin.ext ?_; show ((((o.val * 74 + n.val) * 2 + i.val) * 2 + j.val) * 32 + b.val) / 64 % 2 = i.val; omega
    | ⟨3, _⟩ => refine Fin.ext ?_; show ((((o.val * 74 + n.val) * 2 + i.val) * 2 + j.val) * 32 + b.val) % 64 = 32 * j.val + b.val; omega
  have e2 : Read.idx_main_v31 (Read.idx_main_v35 (ValueIdx.ix5 o n i j b)) = ValueIdx.ix4 o n i b := by
    funext a
    match a with
    | ⟨0, _⟩ => rfl
    | ⟨1, _⟩ => rfl
    | ⟨2, _⟩ => rfl
    | ⟨3, _⟩ => rfl
  rw [Read.val_main_v42_apply,
    Read.val_main_v33_apply,
    Read.val_main_v25_apply,
    Read.val_main_v24_apply,
    Read.val_main_v32_apply,
    Read.val_main_c_2_apply,
    Read.val_main_v41_apply,
    Read.val_main_v39_apply,
    Read.val_main_v37_apply,
    Read.val_main_v35_apply,
    Read.val_main_v31_apply,
    Read.val_main_v30_apply,
    Read.val_main_v36_apply,
    Read.val_main_v34_apply,
    Read.val_main_v29_apply,
    Read.val_main_v28_apply,
    Read.val_main_c_apply,
    Read.val_main_v27_apply,
    Read.val_main_v26_apply,
    Read.val_main_v38_apply,
    Read.val_main_c_3_apply,
    Read.val_main_v40_apply,
    Read.val_main_c_4_apply, e1, e2]

/-- The code word of a high position. -/
theorem v55_apply (o : Fin 3584) (n : Fin 74) (i j : Fin 2) (b : Fin 32) :
    Read.val_main_v55 (F := F) x1 x2 (ValueIdx.ix5 o n i j b) = IntOp.ori (IntOp.shrsi .host (BitVec.setWidth 32 (x1 (ValueIdx.ix4 o n i (⟨32 * j.val + b.val, by omega⟩ : Fin 64)))) 4#32)
      (IntOp.shli .host (IntOp.andi (IntOp.shrsi .host (BitVec.setWidth 32 (x2 (ValueIdx.ix4 o n i b))) (IntOp.addi (IntOp.muli 2#32 (BitVec.ofNat 32 j.val)) 4#32)) 3#32) 4#32) := by
  have e1 : Read.idx_main_v25 (ValueIdx.ix5 o n i j b) = ValueIdx.ix4 o n i (⟨32 * j.val + b.val, by omega⟩ : Fin 64) := by
    have ho := o.isLt; have hn := n.isLt; have hi := i.isLt; have hj := j.isLt; have hb := b.isLt
    funext a
    match a with
    | ⟨0, _⟩ => refine Fin.ext ?_; show ((((o.val * 74 + n.val) * 2 + i.val) * 2 + j.val) * 32 + b.val) / 9472 = o.val; omega
    | ⟨1, _⟩ => refine Fin.ext ?_; show ((((o.val * 74 + n.val) * 2 + i.val) * 2 + j.val) * 32 + b.val) / 128 % 74 = n.val; omega
    | ⟨2, _⟩ => refine Fin.ext ?_; show ((((o.val * 74 + n.val) * 2 + i.val) * 2 + j.val) * 32 + b.val) / 64 % 2 = i.val; omega
    | ⟨3, _⟩ => refine Fin.ext ?_; show ((((o.val * 74 + n.val) * 2 + i.val) * 2 + j.val) * 32 + b.val) % 64 = 32 * j.val + b.val; omega
  have e2 : Read.idx_main_v31 (Read.idx_main_v48 (ValueIdx.ix5 o n i j b)) = ValueIdx.ix4 o n i b := by
    funext a
    match a with
    | ⟨0, _⟩ => rfl
    | ⟨1, _⟩ => rfl
    | ⟨2, _⟩ => rfl
    | ⟨3, _⟩ => rfl
  rw [Read.val_main_v55_apply,
    Read.val_main_v44_apply,
    Read.val_main_v25_apply,
    Read.val_main_v24_apply,
    Read.val_main_v43_apply,
    Read.val_main_c_5_apply,
    Read.val_main_v54_apply,
    Read.val_main_v52_apply,
    Read.val_main_v50_apply,
    Read.val_main_v48_apply,
    Read.val_main_v31_apply,
    Read.val_main_v30_apply,
    Read.val_main_v49_apply,
    Read.val_main_v47_apply,
    Read.val_main_v46_apply,
    Read.val_main_v29_apply,
    Read.val_main_v28_apply,
    Read.val_main_c_apply,
    Read.val_main_v27_apply,
    Read.val_main_v26_apply,
    Read.val_main_v45_apply,
    Read.val_main_c_6_apply,
    Read.val_main_v51_apply,
    Read.val_main_c_7_apply,
    Read.val_main_v53_apply,
    Read.val_main_c_8_apply, e1, e2]

/-- The sixteen scales of a block, split by half, low or high, sub-half and quarter. -/
theorem v23_apply (o : Fin 3584) (n : Fin 74) (i b j v : Fin 2) :
    Read.val_main_v23 (F := F) r0 (ValueIdx.ix6 o n i b j v)
      = r0 (ValueIdx.ix3 o n (⟨8 * i.val + 4 * b.val + 2 * j.val + v.val, by omega⟩ : Fin 16)) := by
  unfold Read.val_main_v23
  pointwise
  refine congrArg r0 (funext fun a => Fin.ext ?_)
  match a with
  | ⟨0, _⟩ => rfl
  | ⟨1, _⟩ => rfl
  | ⟨2, _⟩ => show i.val * 8 + b.val * 4 + j.val * 2 + v.val = 8 * i.val + 4 * b.val + 2 * j.val + v.val; omega

/-- The low half's scales without the axis of length one. -/
theorem v57_apply (o : Fin 3584) (n : Fin 74) (i j v : Fin 2) :
    Read.val_main_v57 (F := F) r0 (ValueIdx.ix5 o n i j v) = Read.val_main_v56 (F := F) r0 (ValueIdx.ix6 o n i (0 : Fin 1) j v) := by
  unfold Read.val_main_v57
  generalize Read.val_main_v56 (F := F) r0 = y
  pointwise
  rfl

/-- The scale of a low position. -/
theorem lo_scale (o : Fin 3584) (n : Fin 74) (i j v : Fin 2) (u : Fin 16) :
    Read.val_main_v63 (F := F) r0 (ValueIdx.ix6 o n i j v u)
      = r0 (ValueIdx.ix3 o n (⟨8 * i.val + 4 * ((0 : Fin 2)).val + 2 * j.val + v.val, by have h : ((0 : Fin 2)).val = 0 := rfl; omega⟩ : Fin 16)) := by
  have e1 : Read.idx_main_v62 (Read.idx_main_v63 (ValueIdx.ix6 o n i j v u)) = ValueIdx.ix5 o n i j v := by
    funext a
    match a with
    | ⟨0, _⟩ => rfl
    | ⟨1, _⟩ => rfl
    | ⟨2, _⟩ => rfl
    | ⟨3, _⟩ => rfl
    | ⟨4, _⟩ => rfl
  have e2 : Read.idx_main_v56 (ValueIdx.ix6 o n i (0 : Fin 1) j v) = ValueIdx.ix6 o n i (0 : Fin 2) j v := by
    funext a
    match a with
    | ⟨0, _⟩ => exact Fin.ext (by simp [ValueIdx.ix6])
    | ⟨1, _⟩ => exact Fin.ext (by simp [ValueIdx.ix6])
    | ⟨2, _⟩ => exact Fin.ext (by simp [ValueIdx.ix6])
    | ⟨3, _⟩ => rfl
    | ⟨4, _⟩ => exact Fin.ext (by simp [ValueIdx.ix6])
    | ⟨5, _⟩ => exact Fin.ext (by simp [ValueIdx.ix6])
  rw [Read.val_main_v63_apply, Read.val_main_v62_apply, e1, v57_apply, Read.val_main_v56_apply, e2, v23_apply]

/-- The high half's scales without the axis of length one. -/
theorem v67_apply (o : Fin 3584) (n : Fin 74) (i j v : Fin 2) :
    Read.val_main_v67 (F := F) r0 (ValueIdx.ix5 o n i j v) = Read.val_main_v66 (F := F) r0 (ValueIdx.ix6 o n i (0 : Fin 1) j v) := by
  unfold Read.val_main_v67
  generalize Read.val_main_v66 (F := F) r0 = y
  pointwise
  rfl

/-- The scale of a high position. -/
theorem hi_scale (o : Fin 3584) (n : Fin 74) (i j v : Fin 2) (u : Fin 16) :
    Read.val_main_v73 (F := F) r0 (ValueIdx.ix6 o n i j v u)
      = r0 (ValueIdx.ix3 o n (⟨8 * i.val + 4 * ((1 : Fin 2)).val + 2 * j.val + v.val, by have h : ((1 : Fin 2)).val = 1 := rfl; omega⟩ : Fin 16)) := by
  have e1 : Read.idx_main_v72 (Read.idx_main_v73 (ValueIdx.ix6 o n i j v u)) = ValueIdx.ix5 o n i j v := by
    funext a
    match a with
    | ⟨0, _⟩ => rfl
    | ⟨1, _⟩ => rfl
    | ⟨2, _⟩ => rfl
    | ⟨3, _⟩ => rfl
    | ⟨4, _⟩ => rfl
  have e2 : Read.idx_main_v66 (ValueIdx.ix6 o n i (0 : Fin 1) j v) = ValueIdx.ix6 o n i (1 : Fin 2) j v := by
    funext a
    match a with
    | ⟨0, _⟩ => exact Fin.ext (by simp [ValueIdx.ix6])
    | ⟨1, _⟩ => exact Fin.ext (by simp [ValueIdx.ix6])
    | ⟨2, _⟩ => exact Fin.ext (by simp [ValueIdx.ix6])
    | ⟨3, _⟩ => rfl
    | ⟨4, _⟩ => exact Fin.ext (by simp [ValueIdx.ix6])
    | ⟨5, _⟩ => exact Fin.ext (by simp [ValueIdx.ix6])
  rw [Read.val_main_v73_apply, Read.val_main_v72_apply, e1, v67_apply, Read.val_main_v66_apply, e2, v23_apply]

/-- The low codes split into sixteens. -/
theorem v61_apply (o : Fin 3584) (n : Fin 74) (i j v : Fin 2) (u : Fin 16) :
    Read.val_main_v61 (F := F) x1 x2 (ValueIdx.ix6 o n i j v u)
      = Read.val_main_v60 (F := F) x1 x2 (ValueIdx.ix5 o n i j (⟨16 * v.val + u.val, by omega⟩ : Fin 32)) := by
  unfold Read.val_main_v61
  pointwise
  refine congrArg (Read.val_main_v60 (F := F) x1 x2) (funext fun a => Fin.ext ?_)
  match a with
  | ⟨0, _⟩ => rfl
  | ⟨1, _⟩ => rfl
  | ⟨2, _⟩ => rfl
  | ⟨3, _⟩ => rfl
  | ⟨4, _⟩ => show v.val * 16 + u.val = 16 * v.val + u.val; omega

/-- The low weights with their positions in one axis. -/
theorem v65_apply (o : Fin 3584) (k : Fin 9472) :
    Read.val_main_v65 (F := F) x1 x2 r0 (ValueIdx.ix2 o k) = Read.val_main_v64 (F := F) x1 x2 r0 (ValueIdx.ix6 o (⟨k.val / 128, by omega⟩ : Fin 74) (⟨k.val / 64 % 2, by omega⟩ : Fin 2)
      (⟨k.val / 32 % 2, by omega⟩ : Fin 2) (⟨k.val / 16 % 2, by omega⟩ : Fin 2) (⟨k.val % 16, by omega⟩ : Fin 16)) := by
  unfold Read.val_main_v65
  pointwise
  rfl

/-- The high codes split into sixteens. -/
theorem v71_apply (o : Fin 3584) (n : Fin 74) (i j v : Fin 2) (u : Fin 16) :
    Read.val_main_v71 (F := F) x1 x2 (ValueIdx.ix6 o n i j v u)
      = Read.val_main_v70 (F := F) x1 x2 (ValueIdx.ix5 o n i j (⟨16 * v.val + u.val, by omega⟩ : Fin 32)) := by
  unfold Read.val_main_v71
  pointwise
  refine congrArg (Read.val_main_v70 (F := F) x1 x2) (funext fun a => Fin.ext ?_)
  match a with
  | ⟨0, _⟩ => rfl
  | ⟨1, _⟩ => rfl
  | ⟨2, _⟩ => rfl
  | ⟨3, _⟩ => rfl
  | ⟨4, _⟩ => show v.val * 16 + u.val = 16 * v.val + u.val; omega

/-- The high weights with their positions in one axis. -/
theorem v75_apply (o : Fin 3584) (k : Fin 9472) :
    Read.val_main_v75 (F := F) x1 x2 r0 (ValueIdx.ix2 o k) = Read.val_main_v74 (F := F) x1 x2 r0 (ValueIdx.ix6 o (⟨k.val / 128, by omega⟩ : Fin 74) (⟨k.val / 64 % 2, by omega⟩ : Fin 2)
      (⟨k.val / 32 % 2, by omega⟩ : Fin 2) (⟨k.val / 16 % 2, by omega⟩ : Fin 2) (⟨k.val % 16, by omega⟩ : Fin 16)) := by
  unfold Read.val_main_v75
  pointwise
  rfl

end Cert.ReferenceIdeal.Hand

end
-- ==== Proof.RefCode.lean ====
/-
  The codes as the reference unpacks them, in thirty-two-bit words: nibbles and bit pairs masked, shifted and joined give
  the same code as the bytes' division form.
-/
module

public import Idealize.ShloMosaic.PureOps
public import proofs.«01_k».proof.Proof.Code

@[expose] public section

set_option maxRecDepth 16384

noncomputable section

namespace Cert.Q6K

open Idealize.ShloMosaic

/-- The low nibble of a byte, widened. -/
theorem low_nibble : ∀ a : BitVec 8, IntOp.andi (BitVec.setWidth 32 a) 15#32 = BitVec.ofNat 32 (a.toNat % 16) := by decide +kernel

/-- The high nibble of a byte, widened. -/
theorem high_nibble : ∀ a : BitVec 8, IntOp.shrsi .host (BitVec.setWidth 32 a) 4#32 = BitVec.ofNat 32 (a.toNat / 16) := by decide +kernel

/-- A bit pair of a byte, moved up by four. -/
theorem bit_pair_lo : ∀ (h : BitVec 8) (j : Fin 2),
    IntOp.shli .host (IntOp.andi (IntOp.shrsi .host (BitVec.setWidth 32 h) (IntOp.muli 2#32 (BitVec.ofNat 32 j.val))) 3#32) 4#32
      = BitVec.ofNat 32 (16 * (h.toNat / 4 ^ j.val % 4)) := by decide +kernel

/-- The same for the two upper bit pairs. -/
theorem bit_pair_hi : ∀ (h : BitVec 8) (j : Fin 2),
    IntOp.shli .host (IntOp.andi (IntOp.shrsi .host (BitVec.setWidth 32 h) (IntOp.addi (IntOp.muli 2#32 (BitVec.ofNat 32 j.val)) 4#32)) 3#32) 4#32
      = BitVec.ofNat 32 (16 * (h.toNat / 4 ^ (j.val + 2) % 4)) := by decide +kernel

/-- A nibble and a bit pair above it, joined. -/
theorem join_nibble : ∀ (x : Fin 16) (y : Fin 4),
    (IntOp.ori (BitVec.ofNat 32 x.val) (BitVec.ofNat 32 (16 * y.val))).toInt = ((x.val + 16 * y.val : Nat) : Int) := by decide +kernel

/-- The reference's code word of a low position, less 32. -/
theorem code_lo (a h : BitVec 8) (j : Fin 2) :
    (IntOp.ori (IntOp.andi (BitVec.setWidth 32 a) 15#32)
      (IntOp.shli .host (IntOp.andi (IntOp.shrsi .host (BitVec.setWidth 32 h) (IntOp.muli 2#32 (BitVec.ofNat 32 j.val))) 3#32) 4#32)).toInt - 32
      = codeZ j.val a h := by
  rw [low_nibble, bit_pair_lo, join_nibble ⟨a.toNat % 16, Nat.mod_lt _ (by decide)⟩ ⟨h.toNat / 4 ^ j.val % 4, Nat.mod_lt _ (by decide)⟩]
  unfold codeZ
  rw [if_pos j.isLt]

/-- The reference's code word of a high position, less 32. -/
theorem code_hi (a h : BitVec 8) (j : Fin 2) :
    (IntOp.ori (IntOp.shrsi .host (BitVec.setWidth 32 a) 4#32)
      (IntOp.shli .host (IntOp.andi (IntOp.shrsi .host (BitVec.setWidth 32 h) (IntOp.addi (IntOp.muli 2#32 (BitVec.ofNat 32 j.val)) 4#32)) 3#32) 4#32)).toInt - 32
      = codeZ (j.val + 2) a h := by
  have ha : a.toNat / 16 < 16 := by have := a.isLt; omega
  rw [high_nibble, bit_pair_hi, join_nibble ⟨a.toNat / 16, ha⟩ ⟨h.toNat / 4 ^ (j.val + 2) % 4, Nat.mod_lt _ (by decide)⟩]
  unfold codeZ
  rw [if_neg (by omega)]

end Cert.Q6K

end
-- ==== Proof.MatRefVal.lean ====
/-
  The reference's weights, read at an index: they are the weights the packed codes and the scales stand for.
-/
module

public import proofs.«01_k».proof.Proof.MatRef
public import proofs.«01_k».proof.Proof.RefCode

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Q6K

/-- The offset of the codes. -/
theorem offset_val : (FloatOps.ofBits .bf16 0x4200#16 : Ideal .bf16) = (((32 : ℝ)) : EReal) := by
  simp [FloatOps.ofBits, Ideal.ofBits, Ideal.ieee, -EReal.coe_mul]; norm_num

/-- Subtracting the offset from an integer code. -/
theorem sub_offset (z : Int) : ((z : ℝ) : EReal) - (((32 : ℝ)) : EReal) = (((z - 32 : Int) : ℝ) : EReal) := by
  rw [← EReal.coe_sub]; push_cast; rfl

variable (x1 : LowBytes) (x2 : HighBytes) (r0 : (⟨S3584x74x16, .bf16⟩ : BufTy).Contents (Elt Ideal))
  (SC : ScaleCodes) (D : BlockScales)

/-- The code of a low position, less the offset. -/
theorem v60_apply (o : Fin 3584) (n : Fin 74) (i j : Fin 2) (b : Fin 32) :
    Read.val_main_v60 (F := Ideal) x1 x2 (ValueIdx.ix5 o n i j b)
      = (((codeZ j.val (x1 (ValueIdx.ix4 o n i (⟨32 * j.val + b.val, by omega⟩ : Fin 64))) (x2 (ValueIdx.ix4 o n i b)) : Int) : ℝ) : EReal) := by
  rw [Read.val_main_v60_apply, Read.val_main_v58_apply, Read.val_main_v59_apply, Read.val_main_cst_9_apply, offset_val, v42_apply, ← code_lo]
  exact sub_offset _

/-- The code of a high position, less the offset. -/
theorem v70_apply (o : Fin 3584) (n : Fin 74) (i j : Fin 2) (b : Fin 32) :
    Read.val_main_v70 (F := Ideal) x1 x2 (ValueIdx.ix5 o n i j b)
      = (((codeZ (j.val + 2) (x1 (ValueIdx.ix4 o n i (⟨32 * j.val + b.val, by omega⟩ : Fin 64))) (x2 (ValueIdx.ix4 o n i b)) : Int) : ℝ) : EReal) := by
  rw [Read.val_main_v70_apply, Read.val_main_v68_apply, Read.val_main_v69_apply, Read.val_main_cst_10_apply, offset_val, v55_apply, ← code_hi]
  exact sub_offset _

/-- The position in its block of place `s` of the low half. -/
abbrev loPos (s : Fin 128) : Fin 256 := ⟨128 * (s.val / 64) + s.val % 64, by omega⟩
/-- The position in its block of place `s` of the high half. -/
abbrev hiPos (s : Fin 128) : Fin 256 := ⟨128 * (s.val / 64) + s.val % 64 + 64, by omega⟩

variable (hr : ∀ (o : Fin 3584) (n : Fin 74) (g : Fin 16),
  r0 (ValueIdx.ix3 o n g) = D (ValueIdx.ix2 o n) * (((SC (ValueIdx.ix3 o n g)).toInt : ℝ) : EReal))

include hr

/-- The reference's low weights are the weights of the low positions. -/
theorem w_lo (o : Fin 3584) (n : Fin 74) (s : Fin 128) (k : Fin 9472) (hk : k.val = 128 * n.val + s.val) :
    Read.val_main_v65 (F := Ideal) x1 x2 r0 (ValueIdx.ix2 o k) = wt x1 x2 SC D o n (loPos s) := by
  have hs := s.isLt
  have hn := n.isLt
  have h0 : ((0 : Fin 2)).val = 0 := rfl
  rw [v65_apply, Read.val_main_v64_apply, v61_apply, v60_apply, lo_scale, hr]
  unfold wt
  refine congrArg₂ (fun a b : EReal => a * b) ?_ (congrArg₂ (fun a b : EReal => a * b) ?_ ?_)
  · have a1 : (k.val / 32 % 2) = (loPos s).val / 32 % 4 := by dsimp only [loPos]; omega
    refine congrArg (fun z : Int => ((z : ℝ) : EReal)) ?_
    refine (congrArg (fun q => codeZ q _ _) a1).trans (congrArg₂ (codeZ _) (congrArg x1 ?_) (congrArg x2 ?_))
    · funext a
      refine Fin.ext ?_
      match a with
      | ⟨0, _⟩ => rfl
      | ⟨1, _⟩ => show k.val / 128 = n.val; omega
      | ⟨2, _⟩ => show k.val / 64 % 2 = (128 * (s.val / 64) + s.val % 64) / 128; omega
      | ⟨3, _⟩ => show 32 * (k.val / 32 % 2) + (16 * (k.val / 16 % 2) + k.val % 16) = (128 * (s.val / 64) + s.val % 64) % 64; omega
    · funext a
      refine Fin.ext ?_
      match a with
      | ⟨0, _⟩ => rfl
      | ⟨1, _⟩ => show k.val / 128 = n.val; omega
      | ⟨2, _⟩ => show k.val / 64 % 2 = (128 * (s.val / 64) + s.val % 64) / 128; omega
      | ⟨3, _⟩ => show (16 * (k.val / 16 % 2) + k.val % 16) = (128 * (s.val / 64) + s.val % 64) % 32; omega
  · refine congrArg D (funext fun a => Fin.ext ?_)
    match a with
    | ⟨0, _⟩ => rfl
    | ⟨1, _⟩ => show k.val / 128 = n.val; omega
  · refine congrArg (fun z : BitVec 8 => ((z.toInt : ℝ) : EReal)) (congrArg SC (funext fun a => Fin.ext ?_))
    match a with
    | ⟨0, _⟩ => rfl
    | ⟨1, _⟩ => show k.val / 128 = n.val; omega
    | ⟨2, _⟩ =>
      show 8 * (k.val / 64 % 2) + 4 * (0 : Fin 2).val + 2 * (k.val / 32 % 2) + (k.val / 16 % 2) = (128 * (s.val / 64) + s.val % 64) / 16
      omega

/-- The reference's high weights are the weights of the high positions. -/
theorem w_hi (o : Fin 3584) (n : Fin 74) (s : Fin 128) (k : Fin 9472) (hk : k.val = 128 * n.val + s.val) :
    Read.val_main_v75 (F := Ideal) x1 x2 r0 (ValueIdx.ix2 o k) = wt x1 x2 SC D o n (hiPos s) := by
  have hs := s.isLt
  have hn := n.isLt
  have h0 : ((1 : Fin 2)).val = 1 := rfl
  rw [v75_apply, Read.val_main_v74_apply, v71_apply, v70_apply, hi_scale, hr]
  unfold wt
  refine congrArg₂ (fun a b : EReal => a * b) ?_ (congrArg₂ (fun a b : EReal => a * b) ?_ ?_)
  · have a1 : (k.val / 32 % 2 + 2) = (hiPos s).val / 32 % 4 := by dsimp only [hiPos]; omega
    refine congrArg (fun z : Int => ((z : ℝ) : EReal)) ?_
    refine (congrArg (fun q => codeZ q _ _) a1).trans (congrArg₂ (codeZ _) (congrArg x1 ?_) (congrArg x2 ?_))
    · funext a
      refine Fin.ext ?_
      match a with
      | ⟨0, _⟩ => rfl
      | ⟨1, _⟩ => show k.val / 128 = n.val; omega
      | ⟨2, _⟩ => show k.val / 64 % 2 = (128 * (s.val / 64) + s.val % 64 + 64) / 128; omega
      | ⟨3, _⟩ => show 32 * (k.val / 32 % 2) + (16 * (k.val / 16 % 2) + k.val % 16) = (128 * (s.val / 64) + s.val % 64 + 64) % 64; omega
    · funext a
      refine Fin.ext ?_
      match a with
      | ⟨0, _⟩ => rfl
      | ⟨1, _⟩ => show k.val / 128 = n.val; omega
      | ⟨2, _⟩ => show k.val / 64 % 2 = (128 * (s.val / 64) + s.val % 64 + 64) / 128; omega
      | ⟨3, _⟩ => show (16 * (k.val / 16 % 2) + k.val % 16) = (128 * (s.val / 64) + s.val % 64 + 64) % 32; omega
  · refine congrArg D (funext fun a => Fin.ext ?_)
    match a with
    | ⟨0, _⟩ => rfl
    | ⟨1, _⟩ => show k.val / 128 = n.val; omega
  · refine congrArg (fun z : BitVec 8 => ((z.toInt : ℝ) : EReal)) (congrArg SC (funext fun a => Fin.ext ?_))
    match a with
    | ⟨0, _⟩ => rfl
    | ⟨1, _⟩ => show k.val / 128 = n.val; omega
    | ⟨2, _⟩ =>
      show 8 * (k.val / 64 % 2) + 4 * (1 : Fin 2).val + 2 * (k.val / 32 % 2) + (k.val / 16 % 2) = (128 * (s.val / 64) + s.val % 64 + 64) / 16
      omega

end Cert.ReferenceIdeal.Hand

end
-- ==== Proof.NormRead.lean ====
/-
  The norm of the reference program, one operation at a time: the value each operation writes, and that value at an index.
-/
module

public import proofs.«01_k».proof.Proof.Gen.ReferenceIdeal.Run
public import Idealize.ShloMosaic.Lib.Pipeline.Value
public import Idealize.ShloMosaic.PureOps.Ideal.Laws

@[expose] public section

noncomputable section

namespace Cert.ReferenceIdeal.NormRead

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S3x256x18944, .bf16⟩ : BufTy).Contents (Elt F)) : (⟨S3x256x18944, .f32⟩ : BufTy).Contents (Elt F) :=
  extf .f32 (x0) bitsLt_bf16_f32
theorem val_main_v0_apply (x0 : (⟨S3x256x18944, .bf16⟩ : BufTy).Contents (Elt F)) (i : S3x256x18944.Idx) :
    val_main_v0 (F := F) x0 i = FloatOps.extf .f32 bitsLt_bf16_f32 (x0 i) := rfl

def val_main_v1 (x0 : (⟨S3x256x18944, .bf16⟩ : BufTy).Contents (Elt F)) : (⟨S3x256x18944, .f32⟩ : BufTy).Contents (Elt F) :=
  mulf (val_main_v0 (F := F) x0) (val_main_v0 (F := F) x0)
theorem val_main_v1_apply (x0 : (⟨S3x256x18944, .bf16⟩ : BufTy).Contents (Elt F)) (i : S3x256x18944.Idx) :
    val_main_v1 (F := F) x0 i = FloatOps.mulf (val_main_v0 (F := F) x0 i) (val_main_v0 (F := F) x0 i) := rfl

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v2 (x0 : (⟨S3x256x18944, .bf16⟩ : BufTy).Contents (Elt F)) : (⟨S3x256, .f32⟩ : BufTy).Contents (Elt F) :=
  Host.reduceAdd (val_main_v1 (F := F) x0) (val_main_cst (F := F)) reducesTo_S3x256x18944_S3x256_d2 h_S_
abbrev idx_main_v2 (i : S3x256.Idx) (k : Fin 18944) : S3x256x18944.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v2_apply (x0 : (⟨S3x256x18944, .bf16⟩ : BufTy).Contents (Elt Ideal)) (i : S3x256.Idx) :
    val_main_v2 (F := Ideal) x0 i = (val_main_cst (F := Ideal)) (Shape.Idx.first h_S_) + ∑ k : Fin 18944, (val_main_v1 (F := Ideal) x0) (idx_main_v2 i k) := by
  unfold val_main_v2
  generalize val_main_v1 (F := Ideal) x0 = y0
  simp only [Host.reduceAdd, Ideal.hostReduceAdd_def]
  rw [Ideal.hostReduceAdd_single reducesTo_S3x256x18944_S3x256_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v3 (x0 : (⟨S3x256x18944, .bf16⟩ : BufTy).Contents (Elt F)) : (⟨S3x256x1, .f32⟩ : BufTy).Contents (Elt F) :=
  broadcastInDim S3x256x1 ![0, 1] bcast_S3x256_S3x256x1_0_1 (val_main_v2 (F := F) x0)
abbrev idx_main_v3 (i : S3x256x1.Idx) : S3x256.Idx := fun a => match a with
  | ⟨0, _⟩ => ⟨(i 0).val, (i 0).isLt⟩
  | ⟨1, _⟩ => ⟨(i 1).val, (i 1).isLt⟩
theorem val_main_v3_apply (x0 : (⟨S3x256x18944, .bf16⟩ : BufTy).Contents (Elt F)) (i : S3x256x1.Idx) :
    val_main_v3 (F := F) x0 i = val_main_v2 (F := F) x0 (idx_main_v3 i) := by
  unfold val_main_v3
  generalize val_main_v2 (F := F) x0 = y
  exact broadcastInDim_apply _ bcast_S3x256_S3x256x1_0_1 y i (idx_main_v3 i) (fun a => match a with
    | ⟨0, _⟩ => by show (i 0).val = if (3 : Nat) = 1 then 0 else (i 0).val; rw [if_neg (by decide)]
    | ⟨1, _⟩ => by show (i 1).val = if (256 : Nat) = 1 then 0 else (i 1).val; rw [if_neg (by decide)])

def val_main_cst_0 : (⟨S_, .f32⟩ : BufTy).Contents (Elt F) :=
  constant S_ .f32 0x46940000#32
theorem val_main_cst_0_apply (i : S_.Idx) :
    val_main_cst_0 (F := F) i = FloatOps.ofBits .f32 0x46940000#32 := rfl

def val_main_v4 : (⟨S3x256x1, .f32⟩ : BufTy).Contents (Elt F) :=
  broadcastInDim S3x256x1 ![] bcast_S_S3x256x1 (val_main_cst_0 (F := F))
abbrev idx_main_v4 (i : S3x256x1.Idx) : S_.Idx := fun a => a.elim0
theorem val_main_v4_apply (i : S3x256x1.Idx) :
    val_main_v4 (F := F) i = val_main_cst_0 (F := F) (idx_main_v4 i) := by
  unfold val_main_v4
  generalize val_main_cst_0 (F := F) = y
  exact broadcastInDim_apply _ bcast_S_S3x256x1 y i (idx_main_v4 i) (fun a => a.elim0)

def val_main_v5 (x0 : (⟨S3x256x18944, .bf16⟩ : BufTy).Contents (Elt F)) : (⟨S3x256x1, .f32⟩ : BufTy).Contents (Elt F) :=
  Host.divf (val_main_v3 (F := F) x0) (val_main_v4 (F := F))
theorem val_main_v5_apply (x0 : (⟨S3x256x18944, .bf16⟩ : BufTy).Contents (Elt F)) (i : S3x256x1.Idx) :
    val_main_v5 (F := F) x0 i = FloatOps.hostDivf (val_main_v3 (F := F) x0 i) (val_main_v4 (F := F) i) := rfl

def val_main_cst_1 : (⟨S_, .f32⟩ : BufTy).Contents (Elt F) :=
  constant S_ .f32 0x358637BD#32
theorem val_main_cst_1_apply (i : S_.Idx) :
    val_main_cst_1 (F := F) i = FloatOps.ofBits .f32 0x358637BD#32 := rfl

def val_main_v6 : (⟨S3x256x1, .f32⟩ : BufTy).Contents (Elt F) :=
  broadcastInDim S3x256x1 ![] bcast_S_S3x256x1 (val_main_cst_1 (F := F))
abbrev idx_main_v6 (i : S3x256x1.Idx) : S_.Idx := fun a => a.elim0
theorem val_main_v6_apply (i : S3x256x1.Idx) :
    val_main_v6 (F := F) i = val_main_cst_1 (F := F) (idx_main_v6 i) := by
  unfold val_main_v6
  generalize val_main_cst_1 (F := F) = y
  exact broadcastInDim_apply _ bcast_S_S3x256x1 y i (idx_main_v6 i) (fun a => a.elim0)

def val_main_v7 (x0 : (⟨S3x256x18944, .bf16⟩ : BufTy).Contents (Elt F)) : (⟨S3x256x1, .f32⟩ : BufTy).Contents (Elt F) :=
  addf (val_main_v5 (F := F) x0) (val_main_v6 (F := F))
theorem val_main_v7_apply (x0 : (⟨S3x256x18944, .bf16⟩ : BufTy).Contents (Elt F)) (i : S3x256x1.Idx) :
    val_main_v7 (F := F) x0 i = FloatOps.addf (val_main_v5 (F := F) x0 i) (val_main_v6 (F := F) i) := rfl

def val_main_v8 (x0 : (⟨S3x256x18944, .bf16⟩ : BufTy).Contents (Elt F)) : (⟨S3x256x1, .f32⟩ : BufTy).Contents (Elt F) :=
  Host.rsqrt (val_main_v7 (F := F) x0)
theorem val_main_v8_apply (x0 : (⟨S3x256x18944, .bf16⟩ : BufTy).Contents (Elt F)) (i : S3x256x1.Idx) :
    val_main_v8 (F := F) x0 i = FloatOps.hostUnary .rsqrt (val_main_v7 (F := F) x0 i) := rfl

def val_main_v9 (x0 : (⟨S3x256x18944, .bf16⟩ : BufTy).Contents (Elt F)) : (⟨S3x256x18944, .f32⟩ : BufTy).Contents (Elt F) :=
  broadcastInDim S3x256x18944 ![0, 1, 2] bcast_S3x256x1_S3x256x18944_0_1_2 (val_main_v8 (F := F) x0)
abbrev idx_main_v9 (i : S3x256x18944.Idx) : S3x256x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v9_apply (x0 : (⟨S3x256x18944, .bf16⟩ : BufTy).Contents (Elt F)) (i : S3x256x18944.Idx) :
    val_main_v9 (F := F) x0 i = val_main_v8 (F := F) x0 (idx_main_v9 i) := by
  unfold val_main_v9
  generalize val_main_v8 (F := F) x0 = y
  exact broadcastInDim_apply _ bcast_S3x256x1_S3x256x18944_0_1_2 y i (idx_main_v9 i) (fun a => match a with
    | ⟨0, _⟩ => by show (i 0).val = if (3 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl])

def val_main_v10 (x0 : (⟨S3x256x18944, .bf16⟩ : BufTy).Contents (Elt F)) : (⟨S3x256x18944, .f32⟩ : BufTy).Contents (Elt F) :=
  mulf (val_main_v0 (F := F) x0) (val_main_v9 (F := F) x0)
theorem val_main_v10_apply (x0 : (⟨S3x256x18944, .bf16⟩ : BufTy).Contents (Elt F)) (i : S3x256x18944.Idx) :
    val_main_v10 (F := F) x0 i = FloatOps.mulf (val_main_v0 (F := F) x0 i) (val_main_v9 (F := F) x0 i) := rfl

def val_main_v11 (x1 : (⟨S18944, .f32⟩ : BufTy).Contents (Elt F)) : (⟨S1x1x18944, .f32⟩ : BufTy).Contents (Elt F) :=
  broadcastInDim S1x1x18944 ![2] bcast_S18944_S1x1x18944_2 (x1)
abbrev idx_main_v11 (i : S1x1x18944.Idx) : S18944.Idx := fun a => match a with
  | ⟨0, _⟩ => ⟨(i 2).val, (i 2).isLt⟩
theorem val_main_v11_apply (x1 : (⟨S18944, .f32⟩ : BufTy).Contents (Elt F)) (i : S1x1x18944.Idx) :
    val_main_v11 (F := F) x1 i = x1 (idx_main_v11 i) := by
  unfold val_main_v11
  exact broadcastInDim_apply _ bcast_S18944_S1x1x18944_2 x1 i (idx_main_v11 i) (fun a => match a with
    | ⟨0, _⟩ => by show (i 2).val = if (18944 : Nat) = 1 then 0 else (i 2).val; rw [if_neg (by decide)])

def val_main_v12 (x1 : (⟨S18944, .f32⟩ : BufTy).Contents (Elt F)) : (⟨S3x256x18944, .f32⟩ : BufTy).Contents (Elt F) :=
  broadcastInDim S3x256x18944 ![0, 1, 2] bcast_S1x1x18944_S3x256x18944_0_1_2 (val_main_v11 (F := F) x1)
abbrev idx_main_v12 (i : S3x256x18944.Idx) : S1x1x18944.Idx := fun a => match a with
  | ⟨0, _⟩ => ⟨0, Nat.one_pos⟩
  | ⟨1, _⟩ => ⟨0, Nat.one_pos⟩
  | ⟨2, _⟩ => ⟨(i 2).val, (i 2).isLt⟩
theorem val_main_v12_apply (x1 : (⟨S18944, .f32⟩ : BufTy).Contents (Elt F)) (i : S3x256x18944.Idx) :
    val_main_v12 (F := F) x1 i = val_main_v11 (F := F) x1 (idx_main_v12 i) := by
  unfold val_main_v12
  generalize val_main_v11 (F := F) x1 = y
  exact broadcastInDim_apply _ bcast_S1x1x18944_S3x256x18944_0_1_2 y i (idx_main_v12 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (18944 : Nat) = 1 then 0 else (i 2).val; rw [if_neg (by decide)])

def val_main_v13 (x0 : (⟨S3x256x18944, .bf16⟩ : BufTy).Contents (Elt F)) (x1 : (⟨S18944, .f32⟩ : BufTy).Contents (Elt F)) : (⟨S3x256x18944, .f32⟩ : BufTy).Contents (Elt F) :=
  mulf (val_main_v10 (F := F) x0) (val_main_v12 (F := F) x1)
theorem val_main_v13_apply (x0 : (⟨S3x256x18944, .bf16⟩ : BufTy).Contents (Elt F)) (x1 : (⟨S18944, .f32⟩ : BufTy).Contents (Elt F)) (i : S3x256x18944.Idx) :
    val_main_v13 (F := F) x0 x1 i = FloatOps.mulf (val_main_v10 (F := F) x0 i) (val_main_v12 (F := F) x1 i) := rfl

def val_main_v14 (x0 : (⟨S3x256x18944, .bf16⟩ : BufTy).Contents (Elt F)) (x1 : (⟨S18944, .f32⟩ : BufTy).Contents (Elt F)) : (⟨S3x256x18944, .bf16⟩ : BufTy).Contents (Elt F) :=
  truncf .bf16 (val_main_v13 (F := F) x0 x1) bitsLt_bf16_f32
theorem val_main_v14_apply (x0 : (⟨S3x256x18944, .bf16⟩ : BufTy).Contents (Elt F)) (x1 : (⟨S18944, .f32⟩ : BufTy).Contents (Elt F)) (i : S3x256x18944.Idx) :
    val_main_v14 (F := F) x0 x1 i = FloatOps.truncf .bf16 bitsLt_bf16_f32 (val_main_v13 (F := F) x0 x1 i) := rfl

end Cert.ReferenceIdeal.NormRead

end
-- ==== Proof.NormRef.lean ====
/-
  The reference of the norm is the norm.
-/
module

public import proofs.«01_k».proof.Proof.NormSpec
public import proofs.«01_k».proof.Proof.NormRead

@[expose] public section

set_option maxRecDepth 16384

noncomputable section

open Idealize.ShloMosaic Idealize.ShloMosaic.TcCoe Idealize.SL.Sem

namespace Cert.ReferenceIdeal.Hand

open Cert.ReferenceIdeal Cert.Q6K

variable (X : (⟨S3x256x18944, .bf16⟩ : BufTy).Contents (Elt Ideal)) (G : (⟨S18944, .f32⟩ : BufTy).Contents (Elt Ideal))

/-- The reference's sum of squares of a row. -/
theorem sq_apply (p : Fin 768) :
    NormRead.val_main_v2 (F := Ideal) X (ValueIdx.ix2 (⟨p.val / 256, by omega⟩ : Fin 3) (⟨p.val % 256, by omega⟩ : Fin 256))
      = ∑ k : Fin 18944, rowAt X p k * rowAt X p k := by
  rw [NormRead.val_main_v2_apply, NormRead.val_main_cst_apply]
  have z : (FloatOps.ofBits .f32 0x00000000#32 : Ideal .f32) = (0 : EReal) := by
    simp [FloatOps.ofBits, Ideal.ofBits, Ideal.ieee, -EReal.coe_mul]
  rw [z]
  refine (zero_add _).trans (Finset.sum_congr rfl fun k _ => ?_)
  have i1 : NormRead.idx_main_v2 (ValueIdx.ix2 (⟨p.val / 256, by omega⟩ : Fin 3) (⟨p.val % 256, by omega⟩ : Fin 256)) k
      = ValueIdx.ix3 (⟨p.val / 256, by omega⟩ : Fin 3) (⟨p.val % 256, by omega⟩ : Fin 256) k :=
    funext fun a => match a with | ⟨0, _⟩ => rfl | ⟨1, _⟩ => rfl | ⟨2, _⟩ => rfl
  rw [i1]
  rfl

/-- The reference's normalised activations. -/
theorem norm_apply (p : Fin 768) (e : Fin 18944) :
    NormRead.val_main_v14 (F := Ideal) X G (ValueIdx.ix3 (⟨p.val / 256, by omega⟩ : Fin 3) (⟨p.val % 256, by omega⟩ : Fin 256) e) = normVal X G p e := by
  rw [NormRead.val_main_v14_apply, NormRead.val_main_v13_apply, NormRead.val_main_v10_apply, NormRead.val_main_v12_apply,
    NormRead.val_main_v11_apply, NormRead.val_main_v9_apply, NormRead.val_main_v8_apply, NormRead.val_main_v7_apply, NormRead.val_main_v5_apply,
    NormRead.val_main_v3_apply, NormRead.val_main_v4_apply, NormRead.val_main_v6_apply, NormRead.val_main_cst_0_apply, NormRead.val_main_cst_1_apply]
  have i2 : NormRead.idx_main_v3 (NormRead.idx_main_v9 (ValueIdx.ix3 (⟨p.val / 256, by omega⟩ : Fin 3) (⟨p.val % 256, by omega⟩ : Fin 256) e))
      = ValueIdx.ix2 (⟨p.val / 256, by omega⟩ : Fin 3) (⟨p.val % 256, by omega⟩ : Fin 256) :=
    funext fun a => match a with | ⟨0, _⟩ => rfl | ⟨1, _⟩ => rfl
  have i3 : NormRead.idx_main_v11 (NormRead.idx_main_v12 (ValueIdx.ix3 (⟨p.val / 256, by omega⟩ : Fin 3) (⟨p.val % 256, by omega⟩ : Fin 256) e))
      = ValueIdx.ix1 e := funext fun a => match a with | ⟨0, _⟩ => rfl
  rw [i2, i3, sq_apply, Ideal.hostUnary_rsqrt_def, Ideal.hostDivf_def]
  unfold normVal scaleVal
  rfl

end Cert.ReferenceIdeal.Hand

end
-- ==== Proof.MatRefAct.lean ====
/-
  The reference's activations, cut into its low and its high half, read at an index.
-/
module

public import proofs.«01_k».proof.Proof.MatRef
public import proofs.«01_k».proof.Proof.NormRef

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Q6K

variable {F : FTy → Type} [FloatOps F]

/-- The activations with the two row axes joined and the positions of a block split in four. -/
theorem split_apply (X : (⟨S3x256x18944, .bf16⟩ : BufTy).Contents (Elt F)) (p : Fin 768) (n : Fin 74) (i b j : Fin 2) (u : Fin 32) :
    shapeCast S768x74x2x2x2x32 X shapeCasts_S3x256x18944_S768x74x2x2x2x32 (ValueIdx.ix6 p n i b j u)
      = X (ValueIdx.ix3 (⟨p.val / 256, by omega⟩ : Fin 3) (⟨p.val % 256, by omega⟩ : Fin 256)
          (⟨256 * n.val + 128 * i.val + 64 * b.val + 32 * j.val + u.val, by omega⟩ : Fin 18944)) := by
  pointwise
  refine congrArg X (funext fun a => Fin.ext ?_)
  have hp := p.isLt; have hn := n.isLt; have hi := i.isLt; have hb := b.isLt; have hj := j.isLt; have hu := u.isLt
  match a with
  | ⟨0, _⟩ => rfl
  | ⟨1, _⟩ => rfl
  | ⟨2, _⟩ =>
    show n.val * 256 + i.val * 128 + b.val * 64 + j.val * 32 + u.val = 256 * n.val + 128 * i.val + 64 * b.val + 32 * j.val + u.val
    omega

/-- The half's axis of length one dropped. -/
theorem drop_apply (Y : (⟨S768x74x2x1x2x32, .bf16⟩ : BufTy).Contents (Elt F)) (p : Fin 768) (n : Fin 74) (i j : Fin 2) (u : Fin 32) :
    shapeCast S768x74x2x2x32 Y shapeCasts_S768x74x2x1x2x32_S768x74x2x2x32 (ValueIdx.ix5 p n i j u)
      = Y (ValueIdx.ix6 p n i (0 : Fin 1) j u) := by
  pointwise
  try rfl

/-- The half of the activations as a matrix. -/
theorem join_apply (Y : (⟨S768x74x2x2x32, .bf16⟩ : BufTy).Contents (Elt F)) (p : Fin 768) (k : Fin 9472) :
    shapeCast S768x9472 Y shapeCasts_S768x74x2x2x32_S768x9472 (ValueIdx.ix2 p k)
      = Y (ValueIdx.ix5 p (⟨k.val / 128, by omega⟩ : Fin 74) (⟨k.val / 64 % 2, by omega⟩ : Fin 2) (⟨k.val / 32 % 2, by omega⟩ : Fin 2) (⟨k.val % 32, by omega⟩ : Fin 32)) := by
  pointwise
  try rfl

/-- The low half of a block's positions. -/
theorem low_apply (Y : (⟨S768x74x2x2x2x32, .bf16⟩ : BufTy).Contents (Elt F)) (p : Fin 768) (n : Fin 74) (i j : Fin 2) (u : Fin 32) :
    extractStridedSlice S768x74x2x1x2x32 ![0, 0, 0, 0, 0, 0] Y slices_S768x74x2x2x2x32_S768x74x2x1x2x32_0_0_0_0_0_0 (ValueIdx.ix6 p n i (0 : Fin 1) j u)
      = Y (ValueIdx.ix6 p n i (0 : Fin 2) j u) := by
  refine congrArg Y (funext fun a => Fin.ext ?_)
  match a with
  | ⟨0, _⟩ | ⟨1, _⟩ | ⟨2, _⟩ | ⟨3, _⟩ | ⟨4, _⟩ | ⟨5, _⟩ => simp

/-- The high half of a block's positions. -/
theorem high_apply (Y : (⟨S768x74x2x2x2x32, .bf16⟩ : BufTy).Contents (Elt F)) (p : Fin 768) (n : Fin 74) (i j : Fin 2) (u : Fin 32) :
    extractStridedSlice S768x74x2x1x2x32 ![0, 0, 0, 1, 0, 0] Y slices_S768x74x2x2x2x32_S768x74x2x1x2x32_0_0_0_1_0_0 (ValueIdx.ix6 p n i (0 : Fin 1) j u)
      = Y (ValueIdx.ix6 p n i (1 : Fin 2) j u) := by
  refine congrArg Y (funext fun a => Fin.ext ?_)
  match a with
  | ⟨0, _⟩ | ⟨1, _⟩ | ⟨2, _⟩ | ⟨3, _⟩ | ⟨4, _⟩ | ⟨5, _⟩ => simp

end Cert.ReferenceIdeal.Hand

end
-- ==== Proof.MatRefScale.lean ====
/-
  The reference's scales, read at an index: each is its block's scale times its code.
-/
module

public import proofs.«01_k».proof.Proof.MatRef

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Q6K

/-- The scale of a sixteenth of a block, before its rounding: the block's scale times the integer scale code. -/
theorem pay_apply (v0 : Vec Ideal S3584x74 .f16) (v3 : Vec Ideal S3584x74x16 .i8) (o : Fin 3584) (n : Fin 74) (g : Fin 16) :
    k0_pay1 v0 v3 (ValueIdx.ix3 o n g) = v0 (ValueIdx.ix2 o n) * (((v3 (ValueIdx.ix3 o n g)).toInt : ℝ) : EReal) := by
  unfold k0_pay1
  pointwise
  rfl

section
variable {F : FTy → Type} [FloatOps F] (m : (ℓ : Loc nD τ sig) → Buf (Elt F) ℓ) (c : Dev nD)

theorem sidx0 : ∀ t, win0_0.index t = ![0, 0] := (by decide +kernel : ∀ t : Fin grid0.N, _)
theorem sidx1 : ∀ t, win0_1.index t = ![0, 0, 0] := (by decide +kernel : ∀ t : Fin grid0.N, _)
theorem sidx2 : ∀ t, win0_2.index t = ![0, 0, 0] := (by decide +kernel : ∀ t : Fin grid0.N, _)

/-- The one block of the block scales is the whole of them. -/
theorem sblk0 (t : Fin cfg0.N) (y : S3584x74.Idx) : iblk m c 0 t y = m ((c : Thread nD τ).loc main_arg4) y := by
  show V m c main_arg4 (((cfg0.win 0).blk t).view.emb y) = _
  rw [V_main_arg4]
  refine congrArg _ (funext fun a => Fin.ext ?_)
  match a with
  | ⟨0, _⟩ => show win0_0.index t (0 : Fin _) * 3584 + 1 * (y 0).val = (y 0).val; rw [sidx0]; simp
  | ⟨1, _⟩ => show win0_0.index t (1 : Fin _) * 74 + 1 * (y 1).val = (y 1).val; rw [sidx0]; simp

/-- The one block of the scale codes is the whole of them. -/
theorem sblk1 (t : Fin cfg0.N) (y : S3584x74x16.Idx) : iblk m c 1 t y = m ((c : Thread nD τ).loc main_arg3) y := by
  show V m c main_arg3 (((cfg0.win 1).blk t).view.emb y) = _
  rw [V_main_arg3]
  refine congrArg _ (funext fun a => Fin.ext ?_)
  match a with
  | ⟨0, _⟩ => show win0_1.index t (0 : Fin _) * 3584 + 1 * (y 0).val = (y 0).val; rw [sidx1]; simp
  | ⟨1, _⟩ => show win0_1.index t (1 : Fin _) * 74 + 1 * (y 1).val = (y 1).val; rw [sidx1]; simp
  | ⟨2, _⟩ => show win0_1.index t (2 : Fin _) * 16 + 1 * (y 2).val = (y 2).val; rw [sidx1]; simp

/-- The block's place in the scales written is the place itself. -/
theorem semb2 (t : Fin cfg0.N) (y : S3584x74x16.Idx) : ((View.whole main_v22).slice (win0_2.rect t)).emb y = y := by
  refine funext fun a => Fin.ext ?_
  match a with
  | ⟨0, _⟩ => show win0_2.index t (0 : Fin _) * 3584 + 1 * (y 0).val = (y 0).val; rw [sidx2]; simp
  | ⟨1, _⟩ => show win0_2.index t (1 : Fin _) * 74 + 1 * (y 1).val = (y 1).val; rw [sidx2]; simp
  | ⟨2, _⟩ => show win0_2.index t (2 : Fin _) * 16 + 1 * (y 2).val = (y 2).val; rw [sidx2]; simp

/-- The array of scales after the run. -/
theorem scales_eq : (dats m 0 c).arrAt 2 cfg0.N = k0_pay1 (m ((c : Thread nD τ).loc main_arg4)) (m ((c : Thread nD τ).loc main_arg3)) := by
  refine (dats m 0 c).arrAt_eq_of_covers 2 _ (by decide +kernel) fun t hf y => ?_
  blk_simp
  rw [after0_2]
  frame_out
  have e0 : iblk m c 0 t = m ((c : Thread nD τ).loc main_arg4) := funext (sblk0 m c t)
  have e1 : iblk m c 1 t = m ((c : Thread nD τ).loc main_arg3) := funext (sblk1 m c t)
  rw [e0, e1]
  exact congrArg _ (semb2 t y).symm

end

variable (m : (ℓ : Loc nD τ sig) → Buf (Elt Ideal) ℓ) (c : Dev nD)

/-- The block scales of the run. -/
abbrev dOf : BlockScales := m ((c : Thread nD τ).loc main_arg4)
/-- The scale codes of the run. -/
abbrev scOf : ScaleCodes := m ((c : Thread nD τ).loc main_arg3)

/-- The scales the reference computes. -/
theorem scales_apply (o : Fin 3584) (n : Fin 74) (g : Fin 16) :
    Value.reg_main_v22 m c (ValueIdx.ix3 o n g)
      = dOf m c (ValueIdx.ix2 o n) * (((scOf m c (ValueIdx.ix3 o n g)).toInt : ℝ) : EReal) := by
  unfold Value.reg_main_v22
  rw [scales_eq, pay_apply]

end Cert.ReferenceIdeal.Hand

end
-- ==== Proof.MatRefOut.lean ====
/-
  The result of the matrix product's reference: its two sums over half the positions are the one sum over all of them.
-/
module

public import proofs.«01_k».proof.Proof.MatRef
public import proofs.«01_k».proof.Proof.MatRefVal
public import proofs.«01_k».proof.Proof.MatRefAct
public import proofs.«01_k».proof.Proof.MatRefScale

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Q6K

/-- The reference's low activations are the activations at the low positions. -/
theorem act_lo (X : (⟨S3x256x18944, .bf16⟩ : BufTy).Contents (Elt Ideal)) (p : Fin 768) (n : Fin 74) (s : Fin 128) (k : Fin 9472) (hk : k.val = 128 * n.val + s.val) :
    (shapeCast S768x9472 (shapeCast S768x74x2x2x32 (extractStridedSlice S768x74x2x1x2x32 ![0, 0, 0, 0, 0, 0] (shapeCast S768x74x2x2x2x32 X shapeCasts_S3x256x18944_S768x74x2x2x2x32) slices_S768x74x2x2x2x32_S768x74x2x1x2x32_0_0_0_0_0_0) shapeCasts_S768x74x2x1x2x32_S768x74x2x2x32) shapeCasts_S768x74x2x2x32_S768x9472 : (⟨S768x9472, .bf16⟩ : BufTy).Contents (Elt Ideal)) (ValueIdx.ix2 p k)
      = X (ValueIdx.ix3 (⟨p.val / 256, by omega⟩ : Fin 3) (⟨p.val % 256, by omega⟩ : Fin 256) (⟨256 * n.val + (loPos s).val, by have := (loPos s).isLt; omega⟩ : Fin 18944)) := by
  have hs := s.isLt
  have hn := n.isLt
  rw [join_apply, drop_apply, low_apply, split_apply]
  refine congrArg X (funext fun a => Fin.ext ?_)
  match a with
  | ⟨0, _⟩ => rfl
  | ⟨1, _⟩ => rfl
  | ⟨2, _⟩ =>
    show 256 * (k.val / 128) + 128 * (k.val / 64 % 2) + 64 * (0 : Fin 2).val + 32 * (k.val / 32 % 2) + k.val % 32 = 256 * n.val + (128 * (s.val / 64) + s.val % 64)
    have h0 : ((0 : Fin 2)).val = 0 := rfl
    omega

/-- The reference's high activations are the activations at the high positions. -/
theorem act_hi (X : (⟨S3x256x18944, .bf16⟩ : BufTy).Contents (Elt Ideal)) (p : Fin 768) (n : Fin 74) (s : Fin 128) (k : Fin 9472) (hk : k.val = 128 * n.val + s.val) :
    (shapeCast S768x9472 (shapeCast S768x74x2x2x32 (extractStridedSlice S768x74x2x1x2x32 ![0, 0, 0, 1, 0, 0] (shapeCast S768x74x2x2x2x32 X shapeCasts_S3x256x18944_S768x74x2x2x2x32) slices_S768x74x2x2x2x32_S768x74x2x1x2x32_0_0_0_1_0_0) shapeCasts_S768x74x2x1x2x32_S768x74x2x2x32) shapeCasts_S768x74x2x2x32_S768x9472 : (⟨S768x9472, .bf16⟩ : BufTy).Contents (Elt Ideal)) (ValueIdx.ix2 p k)
      = X (ValueIdx.ix3 (⟨p.val / 256, by omega⟩ : Fin 3) (⟨p.val % 256, by omega⟩ : Fin 256) (⟨256 * n.val + (hiPos s).val, by have := (hiPos s).isLt; omega⟩ : Fin 18944)) := by
  have hs := s.isLt
  have hn := n.isLt
  rw [join_apply, drop_apply, high_apply, split_apply]
  refine congrArg X (funext fun a => Fin.ext ?_)
  match a with
  | ⟨0, _⟩ => rfl
  | ⟨1, _⟩ => rfl
  | ⟨2, _⟩ =>
    show 256 * (k.val / 128) + 128 * (k.val / 64 % 2) + 64 * (1 : Fin 2).val + 32 * (k.val / 32 % 2) + k.val % 32 = 256 * n.val + (128 * (s.val / 64) + s.val % 64 + 64)
    have h0 : ((1 : Fin 2)).val = 1 := rfl
    omega

/-- A sum over the positions of one half of all blocks, block by block. -/
theorem sum_blocks (f : Fin 9472 → EReal) (g : Fin 74 → Fin 128 → EReal)
    (h : ∀ (k : Fin 9472) (n : Fin 74) (s : Fin 128), k.val = 128 * n.val + s.val → f k = g n s) :
    ∑ k : Fin 9472, f k = ∑ n : Fin 74, ∑ s : Fin 128, g n s := by
  rw [← Fin.sum_divmod_fin (A := 74) (S := 128) (N := 9472) (f := g)]
  refine Finset.sum_congr rfl fun k _ => h k _ _ ?_
  show k.val = 128 * (k.val / 128) + k.val % 128
  omega

variable (x1 : LowBytes) (x2 : HighBytes) (x5 : (⟨S3584, .f32⟩ : BufTy).Contents (Elt Ideal)) (r0 : (⟨S3584x74x16, .bf16⟩ : BufTy).Contents (Elt Ideal))
  (SC : ScaleCodes) (D : BlockScales) (X : (⟨2, ![768, 18944]⟩ : Shape).Idx → EReal)
  (e0 e1 : (⟨S768x9472, .bf16⟩ : BufTy).Contents (Elt Ideal))

/-- The reference's result: the bias plus the product of the activations with the weights. -/
theorem res_apply
    (hr : ∀ (o : Fin 3584) (n : Fin 74) (g : Fin 16),
      r0 (ValueIdx.ix3 o n g) = D (ValueIdx.ix2 o n) * (((SC (ValueIdx.ix3 o n g)).toInt : ℝ) : EReal))
    (h0 : ∀ (p : Fin 768) (n : Fin 74) (s : Fin 128) (k : Fin 9472), k.val = 128 * n.val + s.val →
      e0 (ValueIdx.ix2 p k) = X (ValueIdx.ix2 p (⟨256 * n.val + (loPos s).val, by have := (loPos s).isLt; omega⟩ : Fin 18944)))
    (h1 : ∀ (p : Fin 768) (n : Fin 74) (s : Fin 128) (k : Fin 9472), k.val = 128 * n.val + s.val →
      e1 (ValueIdx.ix2 p k) = X (ValueIdx.ix2 p (⟨256 * n.val + (hiPos s).val, by have := (hiPos s).isLt; omega⟩ : Fin 18944)))
    (p : Fin 768) (o : Fin 3584) :
    Read.val_main_v82 (F := Ideal) x1 x2 x5 r0 e0 e1 (ValueIdx.ix2 p o) = outVal X x1 x2 SC D x5 p o := by
  have sl : Read.val_main_v76 (F := Ideal) x1 x2 r0 e0 (ValueIdx.ix2 p o)
      = ∑ n : Fin 74, ∑ s : Fin 128, term X x1 x2 SC D p o n (loPos s) := by
    rw [Read.val_main_v76_apply]
    refine sum_blocks _ _ fun k n s hk => ?_
    have i1 : Read.lidx_main_v76 (ValueIdx.ix2 p o) k = ValueIdx.ix2 p k := funext fun a => match a with | ⟨0, _⟩ => rfl | ⟨1, _⟩ => rfl
    have i2 : Read.ridx_main_v76 (ValueIdx.ix2 p o) k = ValueIdx.ix2 o k := funext fun a => match a with | ⟨0, _⟩ => rfl | ⟨1, _⟩ => rfl
    rw [i1, i2, h0 p n s k hk, w_lo x1 x2 r0 SC D hr o n s k hk]
    rfl
  have sh : Read.val_main_v77 (F := Ideal) x1 x2 r0 e1 (ValueIdx.ix2 p o)
      = ∑ n : Fin 74, ∑ s : Fin 128, term X x1 x2 SC D p o n (hiPos s) := by
    rw [Read.val_main_v77_apply]
    refine sum_blocks _ _ fun k n s hk => ?_
    have i1 : Read.lidx_main_v77 (ValueIdx.ix2 p o) k = ValueIdx.ix2 p k := funext fun a => match a with | ⟨0, _⟩ => rfl | ⟨1, _⟩ => rfl
    have i2 : Read.ridx_main_v77 (ValueIdx.ix2 p o) k = ValueIdx.ix2 o k := funext fun a => match a with | ⟨0, _⟩ => rfl | ⟨1, _⟩ => rfl
    rw [i1, i2, h1 p n s k hk, w_hi x1 x2 r0 SC D hr o n s k hk]
    rfl
  have hb : Read.val_main_v79 (F := Ideal) x5 (ValueIdx.ix2 p o) = x5 (ValueIdx.ix1 o) := by
    rw [Read.val_main_v79_apply, Read.val_main_v78_apply]
    exact congrArg x5 (funext fun a => match a with | ⟨0, _⟩ => rfl)
  rw [Read.val_main_v82_apply, Read.val_main_v81_apply, Read.val_main_v80_apply, sl, sh, hb]
  unfold outVal
  show (x5 (ValueIdx.ix1 o) + _) + _ = _
  rw [add_assoc, ← Finset.sum_add_distrib]
  refine congrArg (fun z : EReal => x5 (ValueIdx.ix1 o) + z) (Finset.sum_congr rfl fun n _ => ?_)
  exact (sum_lo_hi _).symm

section
variable (m : (ℓ : Loc nD τ sig) → Buf (Elt Ideal) ℓ) (c : Dev nD)

/-- The normalised activations of the run, as one matrix. -/
abbrev actOf : (⟨2, ![768, 18944]⟩ : Shape).Idx → EReal := fun i => normVal (m ((c : Thread nD τ).loc main_arg0)) (m ((c : Thread nD τ).loc main_arg5)) (i 0) (i 1)

/-- The result the reference leaves, of the arguments as launched. -/
theorem out_apply (a : Fin 3) (b : Fin 256) (o : Fin 3584) :
    Read.val_main_v83 (F := Ideal) (Value.exitV m c (Proc.devRef .tc main_arg1)) (Value.exitV m c (Proc.devRef .tc main_arg2))
        (Value.exitV m c (Proc.devRef .tc main_arg6)) (Value.exitV m c (Proc.devRef .tc main_v22))
        (Value.exitV m c (Proc.devRef .tc main_v18)) (Value.exitV m c (Proc.devRef .tc main_v21)) (ValueIdx.ix3 a b o)
      = outVal (actOf m c) (m ((c : Thread nD τ).loc main_arg1)) (m ((c : Thread nD τ).loc main_arg2))
          (m ((c : Thread nD τ).loc main_arg3)) (m ((c : Thread nD τ).loc main_arg4)) (m ((c : Thread nD τ).loc main_arg6))
          (⟨256 * a.val + b.val, by omega⟩ : Fin 768) o := by
  rw [Value.exit_main_arg1, Value.exit_main_arg2, Value.exit_main_arg6, Value.exit_main_v22, Value.exit_main_v18, Value.exit_main_v21]
  have i1 : Read.idx_main_v83 (ValueIdx.ix3 a b o) = ValueIdx.ix2 (⟨256 * a.val + b.val, by omega⟩ : Fin 768) o := by
    funext d
    refine Fin.ext ?_
    have ha := a.isLt; have hb := b.isLt; have ho := o.isLt
    match d with
    | ⟨0, _⟩ => show ((a.val * 256 + b.val) * 3584 + o.val) / 3584 = 256 * a.val + b.val; omega
    | ⟨1, _⟩ => show ((a.val * 256 + b.val) * 3584 + o.val) % 3584 = o.val; omega
  rw [Read.val_main_v83_apply, i1]
  exact res_apply _ _ _ _ _ _ (actOf m c) _ _ (scales_apply m c)
    (fun p n s k hk => (act_lo (NormRead.val_main_v14 (F := Ideal) (m ((c : Thread nD τ).loc main_arg0)) (m ((c : Thread nD τ).loc main_arg5))) p n s k hk).trans (norm_apply _ _ p _))
    (fun p n s k hk => (act_hi (NormRead.val_main_v14 (F := Ideal) (m ((c : Thread nD τ).loc main_arg0)) (m ((c : Thread nD τ).loc main_arg5))) p n s k hk).trans (norm_apply _ _ p _)) _ o

end

end Cert.ReferenceIdeal.Hand

end
-- ==== Proof.CallMatStep.lean ====
/-
  What one grid point of the matrix-multiply kernel leaves in its accumulator: the accumulator it finds, plus the product of
  the first half of the activation block with the first block of weights, plus that of the second halves.
-/
module

public import proofs.«01_k».proof.Proof.Gen.MatMulIdeal.Frame
public import Idealize.ShloMosaic.Lib.Pipeline.ValueKit
public import Idealize.ShloMosaic.Lib.Pipeline.ReadBack
public import proofs.«01_k».proof.Proof.Tile

@[expose] public section

set_option maxRecDepth 16384

noncomputable section

open Idealize.ShloMosaic Idealize.ShloMosaic.TcCoe Idealize.SL.Sem
open Idealize.ShloMosaic.Pipeline (Dat)

namespace Cert.MatMulIdeal.Hand

open Cert.MatMulIdeal Cert.MatMulIdeal.Gen Cert.Q6K

variable {F : FTy → Type} [FloatOps F]

theorem hz : (![0, 0] : Fin 2 → Nat) = fun _ => 0 := funext fun a => by fin_cases a <;> rfl

/-- The accumulator after adding the product of one half block of activations `h` with one block of weights, given by its
    packed bytes `q`, `g`, its scale codes `sc` and its block scale `d`. -/
def half (q : Vec F S128x512 .i8) (g : Vec F S64x512 .i8) (d : Vec F S1x512 .f16) (sc : Vec F S1x16x512 .i8)
    (h : Vec F S768x256 .bf16) (acc : Vec F S768x512 .f32) : Vec F S768x512 .f32 :=
  k0_pay5 (tile (k0_pay8 q) (k0_pay9 g) (k0_pay10 d sc)) acc h

/-- The accumulator a grid point leaves, from the blocks it reads and the accumulator it finds. -/
def step (i : grid0.Coords) (x0 : Vec F S768x512 .bf16) (x1 : Vec F S256x512 .i8) (x2 : Vec F S128x512 .i8) (x3 : Vec F S2x16x512 .i8)
    (x4 : Vec F S74x512 .f16) (acc : Vec F S768x512 .f32) : Vec F S768x512 .f32 :=
  half (View.ld x1 (Rect.unit ![128, 0] ![128, 512] inb_S256x512_S128x512_128_0)) (View.ld x2 (Rect.unit ![64, 0] ![64, 512] inb_S128x512_S64x512_64_0))
    (View.ld x4 (Rect.unit (s := S74x512) (k0_off1 i 1#32) ![1, 512] (k0_off1_inb i 1))) (View.ld x3 (Rect.unit ![1, 0, 0] ![1, 16, 512] inb_S2x16x512_S1x16x512_1_0_0))
    (View.ld x0 (Rect.unit ![0, 256] ![768, 256] inb_S768x512_S768x256_0_256))
    (half (View.ld x1 (Rect.unit ![0, 0] ![128, 512] inb_S256x512_S128x512_0_0)) (View.ld x2 (Rect.unit ![0, 0] ![64, 512] inb_S128x512_S64x512_0_0))
      (View.ld x4 (Rect.unit (s := S74x512) (k0_off1 i 0#32) ![1, 512] (k0_off1_inb i 0))) (View.ld x3 (Rect.unit ![0, 0, 0] ![1, 16, 512] inb_S2x16x512_S1x16x512_0_0_0))
      (View.ld x0 (Rect.unit ![0, 0] ![768, 256] inb_S768x512_S768x256_0_0)) acc)

theorem piece0_0 (q : Vec F S128x512 .i8) (g : Vec F S64x512 .i8) (d : Vec F S1x512 .f16) (sc : Vec F S1x16x512 .i8) :
    k0_pay14 (k0_pay12 q g) (k0_pay13 d sc) = piece (k0_pay8 q) (k0_pay9 g) (k0_pay10 d sc) 0 := rfl
theorem piece0_1 (q : Vec F S128x512 .i8) (g : Vec F S64x512 .i8) (d : Vec F S1x512 .f16) (sc : Vec F S1x16x512 .i8) :
    k0_pay15 (k0_pay10 d sc) (k0_pay12 q g) = piece (k0_pay8 q) (k0_pay9 g) (k0_pay10 d sc) 1 := rfl
theorem piece0_2 (q : Vec F S128x512 .i8) (g : Vec F S64x512 .i8) (d : Vec F S1x512 .f16) (sc : Vec F S1x16x512 .i8) :
    k0_pay17 (k0_pay8 q) (k0_pay10 d sc) (k0_pay11 g) = piece (k0_pay8 q) (k0_pay9 g) (k0_pay10 d sc) 2 := rfl
theorem piece0_3 (q : Vec F S128x512 .i8) (g : Vec F S64x512 .i8) (d : Vec F S1x512 .f16) (sc : Vec F S1x16x512 .i8) :
    k0_pay18 (k0_pay8 q) (k0_pay10 d sc) (k0_pay11 g) = piece (k0_pay8 q) (k0_pay9 g) (k0_pay10 d sc) 3 := rfl
theorem piece0_4 (q : Vec F S128x512 .i8) (g : Vec F S64x512 .i8) (d : Vec F S1x512 .f16) (sc : Vec F S1x16x512 .i8) :
    k0_pay20 (k0_pay8 q) (k0_pay10 d sc) (k0_pay11 g) = piece (k0_pay8 q) (k0_pay9 g) (k0_pay10 d sc) 4 := rfl
theorem piece0_5 (q : Vec F S128x512 .i8) (g : Vec F S64x512 .i8) (d : Vec F S1x512 .f16) (sc : Vec F S1x16x512 .i8) :
    k0_pay23 (k0_pay21 (k0_pay10 d sc)) (k0_pay22 (k0_pay8 q) (k0_pay11 g)) = piece (k0_pay8 q) (k0_pay9 g) (k0_pay10 d sc) 5 := rfl
theorem piece0_6 (q : Vec F S128x512 .i8) (g : Vec F S64x512 .i8) (d : Vec F S1x512 .f16) (sc : Vec F S1x16x512 .i8) :
    k0_pay25 (k0_pay8 q) (k0_pay10 d sc) (k0_pay11 g) = piece (k0_pay8 q) (k0_pay9 g) (k0_pay10 d sc) 6 := rfl
theorem piece0_7 (q : Vec F S128x512 .i8) (g : Vec F S64x512 .i8) (d : Vec F S1x512 .f16) (sc : Vec F S1x16x512 .i8) :
    k0_pay26 (k0_pay8 q) (k0_pay10 d sc) (k0_pay11 g) = piece (k0_pay8 q) (k0_pay9 g) (k0_pay10 d sc) 7 := rfl
theorem piece0_8 (q : Vec F S128x512 .i8) (g : Vec F S64x512 .i8) (d : Vec F S1x512 .f16) (sc : Vec F S1x16x512 .i8) :
    k0_pay29 (k0_pay8 q) (k0_pay9 g) (k0_pay10 d sc) = piece (k0_pay8 q) (k0_pay9 g) (k0_pay10 d sc) 8 := rfl
theorem piece0_9 (q : Vec F S128x512 .i8) (g : Vec F S64x512 .i8) (d : Vec F S1x512 .f16) (sc : Vec F S1x16x512 .i8) :
    k0_pay30 (k0_pay8 q) (k0_pay9 g) (k0_pay10 d sc) = piece (k0_pay8 q) (k0_pay9 g) (k0_pay10 d sc) 9 := rfl
theorem piece0_10 (q : Vec F S128x512 .i8) (g : Vec F S64x512 .i8) (d : Vec F S1x512 .f16) (sc : Vec F S1x16x512 .i8) :
    k0_pay34 (k0_pay10 d sc) (k0_pay27 (k0_pay9 g)) (k0_pay31 (k0_pay8 q)) k0_pay32 = piece (k0_pay8 q) (k0_pay9 g) (k0_pay10 d sc) 10 := rfl
theorem piece0_11 (q : Vec F S128x512 .i8) (g : Vec F S64x512 .i8) (d : Vec F S1x512 .f16) (sc : Vec F S1x16x512 .i8) :
    k0_pay35 (k0_pay10 d sc) (k0_pay27 (k0_pay9 g)) (k0_pay31 (k0_pay8 q)) k0_pay32 = piece (k0_pay8 q) (k0_pay9 g) (k0_pay10 d sc) 11 := rfl
theorem piece0_12 (q : Vec F S128x512 .i8) (g : Vec F S64x512 .i8) (d : Vec F S1x512 .f16) (sc : Vec F S1x16x512 .i8) :
    k0_pay37 (k0_pay8 q) (k0_pay10 d sc) (k0_pay27 (k0_pay9 g)) = piece (k0_pay8 q) (k0_pay9 g) (k0_pay10 d sc) 12 := rfl
theorem piece0_13 (q : Vec F S128x512 .i8) (g : Vec F S64x512 .i8) (d : Vec F S1x512 .f16) (sc : Vec F S1x16x512 .i8) :
    k0_pay38 (k0_pay8 q) (k0_pay10 d sc) (k0_pay27 (k0_pay9 g)) = piece (k0_pay8 q) (k0_pay9 g) (k0_pay10 d sc) 13 := rfl

/-- The body's first block, product and sum are `half` of its loads. -/
theorem half0 (q : Vec F S128x512 .i8) (g : Vec F S64x512 .i8) (d : Vec F S1x512 .f16) (sc : Vec F S1x16x512 .i8) (h : Vec F S768x256 .bf16) (acc : Vec F S768x512 .f32) :
    k0_pay41 (k0_pay10 d sc) (k0_pay14 (k0_pay12 q g) (k0_pay13 d sc)) (k0_pay15 (k0_pay10 d sc) (k0_pay12 q g)) (k0_pay17 (k0_pay8 q) (k0_pay10 d sc) (k0_pay11 g)) (k0_pay18 (k0_pay8 q) (k0_pay10 d sc) (k0_pay11 g)) (k0_pay20 (k0_pay8 q) (k0_pay10 d sc) (k0_pay11 g)) (k0_pay23 (k0_pay21 (k0_pay10 d sc)) (k0_pay22 (k0_pay8 q) (k0_pay11 g))) (k0_pay25 (k0_pay8 q) (k0_pay10 d sc) (k0_pay11 g)) (k0_pay26 (k0_pay8 q) (k0_pay10 d sc) (k0_pay11 g)) (k0_pay29 (k0_pay8 q) (k0_pay9 g) (k0_pay10 d sc)) (k0_pay30 (k0_pay8 q) (k0_pay9 g) (k0_pay10 d sc)) (k0_pay34 (k0_pay10 d sc) (k0_pay27 (k0_pay9 g)) (k0_pay31 (k0_pay8 q)) k0_pay32) (k0_pay35 (k0_pay10 d sc) (k0_pay27 (k0_pay9 g)) (k0_pay31 (k0_pay8 q)) k0_pay32) (k0_pay37 (k0_pay8 q) (k0_pay10 d sc) (k0_pay27 (k0_pay9 g))) (k0_pay38 (k0_pay8 q) (k0_pay10 d sc) (k0_pay27 (k0_pay9 g))) (k0_pay39 (k0_pay8 q) (k0_pay27 (k0_pay9 g))) (k0_pay40 (k0_pay10 d sc)) acc h = half q g d sc h acc := by
  unfold half
  rw [tile_eq_list]
  unfold k0_pay41
  rfl

theorem piece1_0 (q : Vec F S128x512 .i8) (g : Vec F S64x512 .i8) (d : Vec F S1x512 .f16) (sc : Vec F S1x16x512 .i8) :
    k0_pay47 (k0_pay42 q) (k0_pay44 d sc) (k0_pay45 g) = piece (k0_pay8 q) (k0_pay9 g) (k0_pay10 d sc) 0 := rfl
theorem piece1_1 (q : Vec F S128x512 .i8) (g : Vec F S64x512 .i8) (d : Vec F S1x512 .f16) (sc : Vec F S1x16x512 .i8) :
    k0_pay48 (k0_pay42 q) (k0_pay44 d sc) (k0_pay45 g) = piece (k0_pay8 q) (k0_pay9 g) (k0_pay10 d sc) 1 := rfl
theorem piece1_2 (q : Vec F S128x512 .i8) (g : Vec F S64x512 .i8) (d : Vec F S1x512 .f16) (sc : Vec F S1x16x512 .i8) :
    k0_pay50 (k0_pay42 q) (k0_pay44 d sc) (k0_pay45 g) = piece (k0_pay8 q) (k0_pay9 g) (k0_pay10 d sc) 2 := rfl
theorem piece1_3 (q : Vec F S128x512 .i8) (g : Vec F S64x512 .i8) (d : Vec F S1x512 .f16) (sc : Vec F S1x16x512 .i8) :
    k0_pay51 (k0_pay42 q) (k0_pay44 d sc) (k0_pay45 g) = piece (k0_pay8 q) (k0_pay9 g) (k0_pay10 d sc) 3 := rfl
theorem piece1_4 (q : Vec F S128x512 .i8) (g : Vec F S64x512 .i8) (d : Vec F S1x512 .f16) (sc : Vec F S1x16x512 .i8) :
    k0_pay55 (k0_pay44 d sc) (k0_pay52 (k0_pay42 q)) (k0_pay53 (k0_pay45 g)) 1010580540#32 = piece (k0_pay8 q) (k0_pay9 g) (k0_pay10 d sc) 4 := rfl
theorem piece1_5 (q : Vec F S128x512 .i8) (g : Vec F S64x512 .i8) (d : Vec F S1x512 .f16) (sc : Vec F S1x16x512 .i8) :
    k0_pay56 (k0_pay44 d sc) (k0_pay52 (k0_pay42 q)) (k0_pay53 (k0_pay45 g)) 1010580540#32 = piece (k0_pay8 q) (k0_pay9 g) (k0_pay10 d sc) 5 := rfl
theorem piece1_6 (q : Vec F S128x512 .i8) (g : Vec F S64x512 .i8) (d : Vec F S1x512 .f16) (sc : Vec F S1x16x512 .i8) :
    k0_pay58 (k0_pay42 q) (k0_pay44 d sc) (k0_pay45 g) = piece (k0_pay8 q) (k0_pay9 g) (k0_pay10 d sc) 6 := rfl
theorem piece1_7 (q : Vec F S128x512 .i8) (g : Vec F S64x512 .i8) (d : Vec F S1x512 .f16) (sc : Vec F S1x16x512 .i8) :
    k0_pay59 (k0_pay42 q) (k0_pay44 d sc) (k0_pay45 g) = piece (k0_pay8 q) (k0_pay9 g) (k0_pay10 d sc) 7 := rfl
theorem piece1_8 (q : Vec F S128x512 .i8) (g : Vec F S64x512 .i8) (d : Vec F S1x512 .f16) (sc : Vec F S1x16x512 .i8) :
    k0_pay63 (k0_pay44 d sc) (k0_pay61 (k0_pay42 q) (k0_pay43 g)) = piece (k0_pay8 q) (k0_pay9 g) (k0_pay10 d sc) 8 := rfl
theorem piece1_9 (q : Vec F S128x512 .i8) (g : Vec F S64x512 .i8) (d : Vec F S1x512 .f16) (sc : Vec F S1x16x512 .i8) :
    k0_pay64 (k0_pay44 d sc) (k0_pay61 (k0_pay42 q) (k0_pay43 g)) = piece (k0_pay8 q) (k0_pay9 g) (k0_pay10 d sc) 9 := rfl
theorem piece1_10 (q : Vec F S128x512 .i8) (g : Vec F S64x512 .i8) (d : Vec F S1x512 .f16) (sc : Vec F S1x16x512 .i8) :
    k0_pay66 (k0_pay42 q) (k0_pay44 d sc) (k0_pay60 (k0_pay43 g)) = piece (k0_pay8 q) (k0_pay9 g) (k0_pay10 d sc) 10 := rfl
theorem piece1_11 (q : Vec F S128x512 .i8) (g : Vec F S64x512 .i8) (d : Vec F S1x512 .f16) (sc : Vec F S1x16x512 .i8) :
    k0_pay67 (k0_pay42 q) (k0_pay44 d sc) (k0_pay60 (k0_pay43 g)) = piece (k0_pay8 q) (k0_pay9 g) (k0_pay10 d sc) 11 := rfl
theorem piece1_12 (q : Vec F S128x512 .i8) (g : Vec F S64x512 .i8) (d : Vec F S1x512 .f16) (sc : Vec F S1x16x512 .i8) :
    k0_pay69 (k0_pay42 q) (k0_pay44 d sc) (k0_pay60 (k0_pay43 g)) = piece (k0_pay8 q) (k0_pay9 g) (k0_pay10 d sc) 12 := rfl
theorem piece1_13 (q : Vec F S128x512 .i8) (g : Vec F S64x512 .i8) (d : Vec F S1x512 .f16) (sc : Vec F S1x16x512 .i8) :
    k0_pay1 (k0_pay68 (k0_pay42 q) (k0_pay60 (k0_pay43 g))) (k0_pay70 (k0_pay44 d sc)) = piece (k0_pay8 q) (k0_pay9 g) (k0_pay10 d sc) 13 := rfl
theorem piece1_14 (q : Vec F S128x512 .i8) (g : Vec F S64x512 .i8) (d : Vec F S1x512 .f16) (sc : Vec F S1x16x512 .i8) :
    k0_pay3 (k0_pay44 d sc) (k0_pay2 (k0_pay42 q) (k0_pay60 (k0_pay43 g))) = piece (k0_pay8 q) (k0_pay9 g) (k0_pay10 d sc) 14 := rfl
theorem piece1_15 (q : Vec F S128x512 .i8) (g : Vec F S64x512 .i8) (d : Vec F S1x512 .f16) (sc : Vec F S1x16x512 .i8) :
    k0_pay4 (k0_pay44 d sc) (k0_pay2 (k0_pay42 q) (k0_pay60 (k0_pay43 g))) = piece (k0_pay8 q) (k0_pay9 g) (k0_pay10 d sc) 15 := rfl

/-- … and the second block. -/
theorem half1 (q : Vec F S128x512 .i8) (g : Vec F S64x512 .i8) (d : Vec F S1x512 .f16) (sc : Vec F S1x16x512 .i8) (h : Vec F S768x256 .bf16) (acc : Vec F S768x512 .f32) :
    k0_pay5 (concatenate S256x512 0 [⟨S16x512, k0_pay47 (k0_pay42 q) (k0_pay44 d sc) (k0_pay45 g)⟩, ⟨S16x512, k0_pay48 (k0_pay42 q) (k0_pay44 d sc) (k0_pay45 g)⟩, ⟨S16x512, k0_pay50 (k0_pay42 q) (k0_pay44 d sc) (k0_pay45 g)⟩, ⟨S16x512, k0_pay51 (k0_pay42 q) (k0_pay44 d sc) (k0_pay45 g)⟩, ⟨S16x512, k0_pay55 (k0_pay44 d sc) (k0_pay52 (k0_pay42 q)) (k0_pay53 (k0_pay45 g)) 1010580540#32⟩, ⟨S16x512, k0_pay56 (k0_pay44 d sc) (k0_pay52 (k0_pay42 q)) (k0_pay53 (k0_pay45 g)) 1010580540#32⟩, ⟨S16x512, k0_pay58 (k0_pay42 q) (k0_pay44 d sc) (k0_pay45 g)⟩, ⟨S16x512, k0_pay59 (k0_pay42 q) (k0_pay44 d sc) (k0_pay45 g)⟩, ⟨S16x512, k0_pay63 (k0_pay44 d sc) (k0_pay61 (k0_pay42 q) (k0_pay43 g))⟩, ⟨S16x512, k0_pay64 (k0_pay44 d sc) (k0_pay61 (k0_pay42 q) (k0_pay43 g))⟩, ⟨S16x512, k0_pay66 (k0_pay42 q) (k0_pay44 d sc) (k0_pay60 (k0_pay43 g))⟩, ⟨S16x512, k0_pay67 (k0_pay42 q) (k0_pay44 d sc) (k0_pay60 (k0_pay43 g))⟩, ⟨S16x512, k0_pay69 (k0_pay42 q) (k0_pay44 d sc) (k0_pay60 (k0_pay43 g))⟩, ⟨S16x512, k0_pay1 (k0_pay68 (k0_pay42 q) (k0_pay60 (k0_pay43 g))) (k0_pay70 (k0_pay44 d sc))⟩, ⟨S16x512, k0_pay3 (k0_pay44 d sc) (k0_pay2 (k0_pay42 q) (k0_pay60 (k0_pay43 g)))⟩, ⟨S16x512, k0_pay4 (k0_pay44 d sc) (k0_pay2 (k0_pay42 q) (k0_pay60 (k0_pay43 g)))⟩] concatenates_S16x512_S16x512_S16x512_S16x512_S16x512_S16x512_S16x512_S16x512_S16x512_S16x512_S16x512_S16x512_S16x512_S16x512_S16x512_S16x512_S256x512_d0) acc h
      = half q g d sc h acc := by
  unfold half
  rw [tile_eq_list]
  rfl

/-- The accumulator at a point that is neither first nor last of its column. -/
theorem sout_B (c : Dev nD) (i : grid0.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond0_0 i) (hc1 : ¬cond0_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) :
    sout0_B_0 c i arg2 harg2 arg3 harg3 arg4 harg4 arg5 harg5 arg6 harg6 arg7 harg7 arg8 harg8 arg9 harg9 hc0 hc1 x0 x1 x2 x3 x4 x5 xs0 = step i x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_cons_unit_zero (S := S768x512) hz, View.readCov_cons_toLoadRect]
  refine (half1 _ _ _ _ _ _).trans ?_
  rw [half0]
  simp only [View.readAt_eq_ld, harg2.read_unread, harg3.read_unread, harg4.read_unread, harg5.read_unread, harg6.read_unread, harg7.read_unread, harg9.read_unread, View.ld_unit_zero (S := S768x512) hz, View.ld_unit_zero (S := S1x512) hz]
  rfl

/-- The accumulator at the last point of a column. -/
theorem sout_C (c : Dev nD) (i : grid0.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond0_0 i) (hc1 : cond0_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) :
    sout0_C_0 c i arg2 harg2 arg3 harg3 arg4 harg4 arg5 harg5 arg6 harg6 arg7 harg7 arg8 harg8 arg9 harg9 hc0 hc1 x0 x1 x2 x3 x4 x5 xs0 = step i x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_cons_unit_zero (S := S768x512) hz, View.readCov_cons_toLoadRect]
  refine (half1 _ _ _ _ _ _).trans ?_
  rw [half0]
  simp only [View.readAt_eq_ld, harg2.read_unread, harg3.read_unread, harg4.read_unread, harg5.read_unread, harg6.read_unread, harg7.read_unread, harg9.read_unread, View.ld_unit_zero (S := S768x512) hz, View.ld_unit_zero (S := S1x512) hz]
  rfl

/-- The accumulator at the first point of a column: it starts from the bias row, repeated. -/
theorem sout_A (c : Dev nD) (i : grid0.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : cond0_0 i) (hc1 : ¬cond0_1 i)
    (x0 : Vec F S768x512 .bf16) (x1 : Vec F S256x512 .i8) (x2 : Vec F S128x512 .i8) (x3 : Vec F S2x16x512 .i8) (x4 : Vec F S74x512 .f16) (x5 : Vec F S1x512 .f32) :
    sout0_A_0 c i arg2 harg2 arg3 harg3 arg4 harg4 arg5 harg5 arg6 harg6 arg7 harg7 arg8 harg8 arg9 harg9 hc0 hc1 x0 x1 x2 x3 x4 x5 = step i x0 x1 x2 x3 x4 (k0_pay7 x5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S768x512) hz, View.readCov_cons_toLoadRect, View.readCov_cons_toLoadRect]
  refine (half1 _ _ _ _ _ _).trans ?_
  rw [half0]
  simp only [View.readAt_eq_ld, harg2.read_unread, harg3.read_unread, harg4.read_unread, harg5.read_unread, harg6.read_unread, harg7.read_unread, harg9.read_unread, View.ld_unit_zero (S := S768x512) hz, View.ld_unit_zero (S := S1x512) hz]
  rfl

/-- The output block at the last point of a column: the accumulator it leaves, cast to the output's type. -/
theorem out_C (c : Dev nD) (i : grid0.Coords) (arg2 : Memref sig .tc .vmem S768x512 .bf16) (harg2 : arg2.IsWhole) (arg3 : Memref sig .tc .vmem S256x512 .i8) (harg3 : arg3.IsWhole) (arg4 : Memref sig .tc .vmem S128x512 .i8) (harg4 : arg4.IsWhole) (arg5 : Memref sig .tc .vmem S2x16x512 .i8) (harg5 : arg5.IsWhole) (arg6 : Memref sig .tc .vmem S74x512 .f16) (harg6 : arg6.IsWhole) (arg7 : Memref sig .tc .vmem S1x512 .f32) (harg7 : arg7.IsWhole) (arg8 : Memref sig .tc .vmem S768x512 .bf16) (harg8 : arg8.IsWhole) (arg9 : Memref sig .tc .vmem S768x512 .f32) (harg9 : arg9.IsWhole) (hc0 : ¬cond0_0 i) (hc1 : cond0_1 i)
    (x0 : Vec F S768x512 .bf16) (x1 : Vec F S256x512 .i8) (x2 : Vec F S128x512 .i8) (x3 : Vec F S2x16x512 .i8) (x4 : Vec F S74x512 .f16) (x5 : Vec F S1x512 .f32) (xs0 : Vec F S768x512 .f32) :
    out0_C_6 c i arg2 harg2 arg3 harg3 arg4 harg4 arg5 harg5 arg6 harg6 arg7 harg7 arg8 harg8 arg9 harg9 hc0 hc1 x0 x1 x2 x3 x4 x5 xs0 = k0_pay6 (step i x0 x1 x2 x3 x4 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S768x512) hz, View.readCov_cons_toLoadRect, View.readCov_cons_toLoadRect]
  refine congrArg k0_pay6 ((half1 _ _ _ _ _ _).trans ?_)
  rw [half0]
  simp only [View.readAt_eq_ld, harg2.read_unread, harg3.read_unread, harg4.read_unread, harg5.read_unread, harg6.read_unread, harg7.read_unread, harg9.read_unread, View.ld_unit_zero (S := S768x512) hz, View.ld_unit_zero (S := S1x512) hz]
  rfl

end Cert.MatMulIdeal.Hand

end

end
-- ==== Proof.CallMatHalf.lean ====
/-
  The matrix-multiply kernel's grid point at an index, over the ideal values: each half adds the sum of 256 products of an
  activation with a weight.
-/
module

public import proofs.«01_k».proof.Proof.CallMatStep
public import proofs.«01_k».proof.Proof.Spec

@[expose] public section

set_option maxRecDepth 16384

noncomputable section

open Idealize.ShloMosaic Idealize.ShloMosaic.TcCoe Idealize.SL.Sem

namespace Cert.MatMulIdeal.Hand

open Cert.MatMulIdeal Cert.MatMulIdeal.Gen Cert.Q6K

/-- The constant by which the kernel shrinks the scales is a quarter. -/
theorem quarter : (Scalar.ofBits .bf16 0x3E80#16 : Ideal .bf16) = (((1 / 4 : ℝ)) : EReal) := by
  simp [Scalar.ofBits, FloatOps.ofBits, Ideal.ofBits, Ideal.ieee, -EReal.coe_mul]; norm_num

/-- A half's scales at an index: block scale times scale code times a quarter. -/
theorem scale_apply (d : Vec Ideal S1x512 .f16) (sc : Vec Ideal S1x16x512 .i8) (g : Fin 16) (l : Fin 512) :
    k0_pay10 (F := Ideal) d sc (ValueIdx.ix2 g l)
      = (d (ValueIdx.ix2 (0 : Fin 1) l) * (((BitVec.toInt (sc (ValueIdx.ix3 (0 : Fin 1) g l)) : ℝ)) : EReal)) * (((1 / 4 : ℝ)) : EReal) := by
  unfold k0_pay10
  rw [← quarter, shapeCast_self]
  have hd : broadcastTo S16x512 (extf (F := Ideal) .f32 d bitsLt_f16_f32) broadcasts_S1x512_S16x512 (ValueIdx.ix2 g l) = d (ValueIdx.ix2 (0 : Fin 1) l) := by
    pointwise; rfl
  have hs : shapeCast S16x512 sc shapeCasts_S1x16x512_S16x512 (ValueIdx.ix2 g l) = sc (ValueIdx.ix3 (0 : Fin 1) g l) := by
    pointwise; rfl
  rw [← hd, ← hs]
  rfl

/-- The weight a half uses at row `r` and lane `l`. -/
def hw (q : IVec S128x512 8) (g : IVec S64x512 8) (d : S1x512.Idx → EReal) (sc : IVec S1x16x512 8) (r : Fin 256) (l : Fin 512) : EReal :=
  (((codeZ (r.val / 32 % 4) (q (ValueIdx.ix2 (⟨64 * (r.val / 128) + r.val % 64, by omega⟩ : Fin 128) l))
      (g (ValueIdx.ix2 (⟨32 * (r.val / 128) + r.val % 32, by omega⟩ : Fin 64) l)) : Int) : ℝ) : EReal)
    * (d (ValueIdx.ix2 (0 : Fin 1) l) * (((sc (ValueIdx.ix3 (0 : Fin 1) (⟨r.val / 16, by omega⟩ : Fin 16) l)).toInt : ℝ) : EReal))

/-- What a half adds to the accumulator at an index. -/
theorem half_apply (q : Vec Ideal S128x512 .i8) (g : Vec Ideal S64x512 .i8) (d : Vec Ideal S1x512 .f16) (sc : Vec Ideal S1x16x512 .i8)
    (h : Vec Ideal S768x256 .bf16) (acc : Vec Ideal S768x512 .f32) (p : Fin 768) (l : Fin 512) :
    half (F := Ideal) q g d sc h acc (ValueIdx.ix2 p l)
      = acc (ValueIdx.ix2 p l) + ∑ r : Fin 256, h (ValueIdx.ix2 p r) * hw q g d sc r l := by
  unfold half k0_pay5
  rw [shapeCast_self]
  refine congrArg (acc (ValueIdx.ix2 p l) + ·) ?_
  refine (Ideal.matmul_apply dot_S768x256_S256x512_S768x512_1_0_0_1_n_n none h _ _ _).trans ?_
  have hz : (constant (F := Ideal) S768x512 .f32 0x00000000#32 : FVec Ideal S768x512 .f32) (ValueIdx.ix2 p l) = (0 : EReal) := by
    pointwise
  rw [hz]
  refine (zero_add _).trans ?_
  refine (Fintype.sum_equiv (ValueIdx.contrEquiv1 dot_S768x256_S256x512_S768x512_1_0_0_1_n_n 256 rfl rfl) _ _ fun k => ?_)
  obtain ⟨r, rfl⟩ := (ValueIdx.contrEquiv1 dot_S768x256_S256x512_S768x512_1_0_0_1_n_n 256 rfl rfl).symm.surjective k
  rw [Equiv.apply_symm_apply]
  have e1 : dot_S768x256_S256x512_S768x512_1_0_0_1_n_n.lhsIdx (ValueIdx.ix2 p l)
      ((ValueIdx.contrEquiv1 dot_S768x256_S256x512_S768x512_1_0_0_1_n_n 256 rfl rfl).symm r) = ValueIdx.ix2 p r := by
    funext a; match a with | ⟨0, _⟩ => rfl | ⟨1, _⟩ => rfl
  have e2 : dot_S768x256_S256x512_S768x512_1_0_0_1_n_n.rhsIdx (ValueIdx.ix2 p l)
      ((ValueIdx.contrEquiv1 dot_S768x256_S256x512_S768x512_1_0_0_1_n_n 256 rfl rfl).symm r) = ValueIdx.ix2 r l := by
    funext a; match a with | ⟨0, _⟩ => rfl | ⟨1, _⟩ => rfl
  rw [e1, e2]
  refine congrArg (h (ValueIdx.ix2 p r) * ·) ?_
  unfold k0_pay8 k0_pay9
  dsimp only
  rw [shapeCast_self, shapeCast_self]
  refine (tile_apply q g _ _ _ r l).trans ?_
  rw [scale_apply, four_quarter]
  rfl

end Cert.MatMulIdeal.Hand

end
-- ==== Proof.CallMatBlocks.lean ====
/-
  Which elements of the arguments the blocks of a grid point of the matrix-multiply kernel hold.
-/
module

public import proofs.«01_k».proof.Proof.Gen.MatMulIdeal.Frame
public import Idealize.ShloMosaic.Lib.Pipeline.ValueKit
public import Idealize.ShloMosaic.Lib.StableHlo.ReadAt
public import Idealize.ShloMosaic.Lib.Tactic.WordOmega

@[expose] public section

set_option maxRecDepth 16384

noncomputable section

open Idealize.ShloMosaic Idealize.ShloMosaic.TcCoe Idealize.SL.Sem

namespace Cert.MatMulIdeal.Hand

open Cert.MatMulIdeal Cert.MatMulIdeal.Gen

/-- The block numbers of the six inputs at a grid point. -/
theorem idx0 : ∀ t : Fin cfg0.N, win0_0.index t = ![0, t.val % 37] := (by decide +kernel : ∀ t : Fin grid0.N, _)
theorem idx1 : ∀ t : Fin cfg0.N, win0_1.index t = ![t.val % 37, t.val / 37] := (by decide +kernel : ∀ t : Fin grid0.N, _)
theorem idx2 : ∀ t : Fin cfg0.N, win0_2.index t = ![t.val % 37, t.val / 37] := (by decide +kernel : ∀ t : Fin grid0.N, _)
theorem idx3 : ∀ t : Fin cfg0.N, win0_3.index t = ![t.val % 37, 0, t.val / 37] := (by decide +kernel : ∀ t : Fin grid0.N, _)
theorem idx4 : ∀ t : Fin cfg0.N, win0_4.index t = ![0, t.val / 37] := (by decide +kernel : ∀ t : Fin grid0.N, _)
theorem idx5 : ∀ t : Fin cfg0.N, win0_5.index t = ![0, t.val / 37] := (by decide +kernel : ∀ t : Fin grid0.N, _)
theorem idx6 : ∀ t : Fin cfg0.N, win0_6.index t = ![0, t.val / 37] := (by decide +kernel : ∀ t : Fin grid0.N, _)

/-- The grid has seven runs of thirty-seven points. -/
theorem pt_lt (t : Fin cfg0.N) : t.val < 259 := lt_of_lt_of_eq t.isLt N_0

variable {F : FTy → Type} [FloatOps F]
variable (m : (ℓ : Loc nD τ sig) → Buf (Elt F) ℓ) (c : Dev nD)

/-- The activation block. -/
theorem blk0 (t : Fin cfg0.N) (p : Fin 768) (j : Fin 512) :
    iblk m c 0 t (ValueIdx.ix2 p j) = (V m c main_arg0 : Vec F S768x18944 .bf16)
      (ValueIdx.ix2 p (⟨512 * (t.val % 37) + j.val, by omega⟩ : Fin 18944)) := by
  show V m c main_arg0 (((cfg0.win 0).blk t).view.emb (ValueIdx.ix2 p j)) = _
  refine congrArg _ (funext fun a => Fin.ext ?_)
  match a with
  | ⟨0, _⟩ => show win0_0.index t (0 : Fin 2) * 768 + 1 * p.val = p.val; rw [idx0]; simp
  | ⟨1, _⟩ => show win0_0.index t (1 : Fin 2) * 512 + 1 * j.val = 512 * (t.val % 37) + j.val; rw [idx0]; simp; omega

/-- The block of low nibbles. -/
theorem blk1 (t : Fin cfg0.N) (a : Fin 256) (l : Fin 512) :
    iblk m c 1 t (ValueIdx.ix2 a l) = (V m c main_v1 : Vec F S9472x3584 .i8)
      (ValueIdx.ix2 (⟨256 * (t.val % 37) + a.val, by omega⟩ : Fin 9472) (⟨512 * (t.val / 37) + l.val, by have := pt_lt t; omega⟩ : Fin 3584)) := by
  show V m c main_v1 (((cfg0.win 1).blk t).view.emb (ValueIdx.ix2 a l)) = _
  refine congrArg _ (funext fun b => Fin.ext ?_)
  match b with
  | ⟨0, _⟩ => show win0_1.index t (0 : Fin 2) * 256 + 1 * a.val = 256 * (t.val % 37) + a.val; rw [idx1]; simp; omega
  | ⟨1, _⟩ => show win0_1.index t (1 : Fin 2) * 512 + 1 * l.val = 512 * (t.val / 37) + l.val; rw [idx1]; simp; omega

/-- The block of high bit pairs. -/
theorem blk2 (t : Fin cfg0.N) (a : Fin 128) (l : Fin 512) :
    iblk m c 2 t (ValueIdx.ix2 a l) = (V m c main_v3 : Vec F S4736x3584 .i8)
      (ValueIdx.ix2 (⟨128 * (t.val % 37) + a.val, by omega⟩ : Fin 4736) (⟨512 * (t.val / 37) + l.val, by have := pt_lt t; omega⟩ : Fin 3584)) := by
  show V m c main_v3 (((cfg0.win 2).blk t).view.emb (ValueIdx.ix2 a l)) = _
  refine congrArg _ (funext fun b => Fin.ext ?_)
  match b with
  | ⟨0, _⟩ => show win0_2.index t (0 : Fin 2) * 128 + 1 * a.val = 128 * (t.val % 37) + a.val; rw [idx2]; simp; omega
  | ⟨1, _⟩ => show win0_2.index t (1 : Fin 2) * 512 + 1 * l.val = 512 * (t.val / 37) + l.val; rw [idx2]; simp; omega

/-- The block of scale codes. -/
theorem blk3 (t : Fin cfg0.N) (a : Fin 2) (g : Fin 16) (l : Fin 512) :
    iblk m c 3 t (ValueIdx.ix3 a g l) = (V m c main_v4 : Vec F S74x16x3584 .i8)
      (ValueIdx.ix3 (⟨2 * (t.val % 37) + a.val, by omega⟩ : Fin 74) g (⟨512 * (t.val / 37) + l.val, by have := pt_lt t; omega⟩ : Fin 3584)) := by
  show V m c main_v4 (((cfg0.win 3).blk t).view.emb (ValueIdx.ix3 a g l)) = _
  refine congrArg _ (funext fun b => Fin.ext ?_)
  match b with
  | ⟨0, _⟩ => show win0_3.index t (0 : Fin 3) * 2 + 1 * a.val = 2 * (t.val % 37) + a.val; rw [idx3]; simp; omega
  | ⟨1, _⟩ => show win0_3.index t (1 : Fin 3) * 16 + 1 * g.val = g.val; rw [idx3]; simp
  | ⟨2, _⟩ => show win0_3.index t (2 : Fin 3) * 512 + 1 * l.val = 512 * (t.val / 37) + l.val; rw [idx3]; simp; omega

/-- The block of block scales. -/
theorem blk4 (t : Fin cfg0.N) (n : Fin 74) (l : Fin 512) :
    iblk m c 4 t (ValueIdx.ix2 n l) = (V m c main_v5 : Vec F S74x3584 .f16)
      (ValueIdx.ix2 n (⟨512 * (t.val / 37) + l.val, by have := pt_lt t; omega⟩ : Fin 3584)) := by
  show V m c main_v5 (((cfg0.win 4).blk t).view.emb (ValueIdx.ix2 n l)) = _
  refine congrArg _ (funext fun b => Fin.ext ?_)
  match b with
  | ⟨0, _⟩ => show win0_4.index t (0 : Fin 2) * 74 + 1 * n.val = n.val; rw [idx4]; simp
  | ⟨1, _⟩ => show win0_4.index t (1 : Fin 2) * 512 + 1 * l.val = 512 * (t.val / 37) + l.val; rw [idx4]; simp; omega

/-- The block of the bias row. -/
theorem blk5 (t : Fin cfg0.N) (n : Fin 1) (l : Fin 512) :
    iblk m c 5 t (ValueIdx.ix2 n l) = (V m c main_v6 : Vec F S1x3584 .f32)
      (ValueIdx.ix2 n (⟨512 * (t.val / 37) + l.val, by have := pt_lt t; omega⟩ : Fin 3584)) := by
  show V m c main_v6 (((cfg0.win 5).blk t).view.emb (ValueIdx.ix2 n l)) = _
  refine congrArg _ (funext fun b => Fin.ext ?_)
  match b with
  | ⟨0, _⟩ => show win0_5.index t (0 : Fin 2) * 1 + 1 * n.val = n.val; rw [idx5]; simp
  | ⟨1, _⟩ => show win0_5.index t (1 : Fin 2) * 512 + 1 * l.val = 512 * (t.val / 37) + l.val; rw [idx5]; simp; omega

/-- The low nibbles as the kernel is given them: row `128 n + 64 i + b` is byte `b` of half `i` of block `n`. -/
theorem host1 (n : Fin 74) (i : Fin 2) (b : Fin 64) (o : Fin 3584) (row : Fin 9472) (hr : row.val = 128 * n.val + 64 * i.val + b.val) :
    (V m c main_v1 : Vec F S9472x3584 .i8) (ValueIdx.ix2 row o) = (m ((c : Thread nD τ).loc main_arg1) : Vec F S3584x74x2x64 .i8) (ValueIdx.ix4 o n i b) := by
  unfold V
  after_reads_at
  refine congrArg (m ((c : Thread nD τ).loc main_arg1)) (funext fun a => Fin.ext ?_)
  match a with
  | ⟨0, _⟩ => rfl
  | ⟨1, _⟩ => show row.val / 128 = n.val; omega
  | ⟨2, _⟩ => show row.val / 64 % 2 = i.val; omega
  | ⟨3, _⟩ => show row.val % 64 = b.val; omega

/-- The high bit pairs as the kernel is given them: row `64 n + 32 i + b` is byte `b` of half `i` of block `n`. -/
theorem host2 (n : Fin 74) (i : Fin 2) (b : Fin 32) (o : Fin 3584) (row : Fin 4736) (hr : row.val = 64 * n.val + 32 * i.val + b.val) :
    (V m c main_v3 : Vec F S4736x3584 .i8) (ValueIdx.ix2 row o) = (m ((c : Thread nD τ).loc main_arg2) : Vec F S3584x74x2x32 .i8) (ValueIdx.ix4 o n i b) := by
  unfold V
  after_reads_at
  refine congrArg (m ((c : Thread nD τ).loc main_arg2)) (funext fun a => Fin.ext ?_)
  match a with
  | ⟨0, _⟩ => rfl
  | ⟨1, _⟩ => show row.val / 64 = n.val; omega
  | ⟨2, _⟩ => show row.val / 32 % 2 = i.val; omega
  | ⟨3, _⟩ => show row.val % 32 = b.val; omega

/-- The scale codes as the kernel is given them: outputs last. -/
theorem host3 (n : Fin 74) (g : Fin 16) (o : Fin 3584) :
    (V m c main_v4 : Vec F S74x16x3584 .i8) (ValueIdx.ix3 n g o) = (m ((c : Thread nD τ).loc main_arg3) : Vec F S3584x74x16 .i8) (ValueIdx.ix3 o n g) := by
  unfold V
  after_reads_at
  refine congrArg (m ((c : Thread nD τ).loc main_arg3)) (funext fun a => Fin.ext ?_)
  match a with
  | ⟨0, _⟩ => rfl
  | ⟨1, _⟩ => rfl
  | ⟨2, _⟩ => rfl

/-- The block scales as the kernel is given them: outputs last. -/
theorem host4 (n : Fin 74) (o : Fin 3584) :
    (V m c main_v5 : Vec F S74x3584 .f16) (ValueIdx.ix2 n o) = (m ((c : Thread nD τ).loc main_arg4) : Vec F S3584x74 .f16) (ValueIdx.ix2 o n) := by
  unfold V
  after_reads_at
  refine congrArg (m ((c : Thread nD τ).loc main_arg4)) (funext fun a => Fin.ext ?_)
  match a with
  | ⟨0, _⟩ => rfl
  | ⟨1, _⟩ => rfl

/-- The bias as the kernel is given it: one row. -/
theorem host5 (n : Fin 1) (o : Fin 3584) :
    (V m c main_v6 : Vec F S1x3584 .f32) (ValueIdx.ix2 n o) = (m ((c : Thread nD τ).loc main_arg5) : Vec F S3584 .f32) (ValueIdx.ix1 o) := by
  unfold V
  after_reads_at
  refine congrArg (m ((c : Thread nD τ).loc main_arg5)) (funext fun a => Fin.ext ?_)
  match a with
  | ⟨0, _⟩ => rfl

/-- The activations reach the kernel unchanged. -/
theorem host0 : (V m c main_arg0 : Vec F S768x18944 .bf16) = m ((c : Thread nD τ).loc main_arg0) := by
  unfold V
  funext j
  after_reads_at

end Cert.MatMulIdeal.Hand

end
-- ==== Proof.CallMatPoint.lean ====
/-
  The matrix-multiply kernel's array, over the ideal values: what its accumulator holds after every grid point, and what the
  output array holds at the end, as the bias plus the product of the activations with the weights.
-/
module

public import proofs.«01_k».proof.Proof.CallMatHalf
public import proofs.«01_k».proof.Proof.CallMatBlocks

@[expose] public section

set_option maxRecDepth 16384

noncomputable section

open Idealize.ShloMosaic Idealize.ShloMosaic.TcCoe Idealize.SL.Sem

namespace Cert.MatMulIdeal.Hand

open Cert.MatMulIdeal Cert.MatMulIdeal.Gen Cert.Q6K

variable (m : (ℓ : Loc nD τ sig) → Buf (Elt Ideal) ℓ) (c : Dev nD)

/-- The activations the kernel is launched on. -/
abbrev actOf : (⟨2, ![768, 18944]⟩ : Shape).Idx → EReal := (V m c main_arg0 : Vec Ideal S768x18944 .bf16)
/-- The low nibbles. -/
abbrev lowOf : LowBytes := (m ((c : Thread nD τ).loc main_arg1) : Vec Ideal S3584x74x2x64 .i8)
/-- The high bit pairs. -/
abbrev highOf : HighBytes := (m ((c : Thread nD τ).loc main_arg2) : Vec Ideal S3584x74x2x32 .i8)
/-- The scale codes. -/
abbrev codesOf : ScaleCodes := (m ((c : Thread nD τ).loc main_arg3) : Vec Ideal S3584x74x16 .i8)
/-- The block scales. -/
abbrev scalesOf : BlockScales := (m ((c : Thread nD τ).loc main_arg4) : Vec Ideal S3584x74 .f16)
/-- The bias. -/
abbrev biasOf : (⟨1, ![3584]⟩ : Shape).Idx → EReal := (m ((c : Thread nD τ).loc main_arg5) : Vec Ideal S3584 .f32)

/-- The output column of lane `l` at a grid point. -/
abbrev colOf (t : Fin cfg0.N) (l : Fin 512) : Fin 3584 := ⟨512 * (t.val / 37) + l.val, by have := pt_lt t; omega⟩
/-- The block of half `j` at a grid point. -/
abbrev blkOf (t : Fin cfg0.N) (j : Fin 2) : Fin 74 := ⟨2 * (t.val % 37) + j.val, by omega⟩

/-- Where a half's block scales are read. -/
theorem off_eq (t : Fin cfg0.N) (j : Fin 2) : k0_off1 (grid0.coords t) (BitVec.ofNat 32 j.val) = ![2 * (t.val % 37) + j.val, 0] := by
  rw [k0_off1_eq]
  have h : (grid0.coords t 1).val = t.val / 1 % 37 := Pipeline.Grid.coords_val t 1 (by decide) rfl
  rw [h, Nat.div_one]

/-- The weight a half of a grid point uses is the weight of its column, block and position. -/
theorem hw_eq (t : Fin cfg0.N) (j : Fin 2) (o1 : Nat) (o2 : Nat) (h1 : o1 = 128 * j.val) (h2 : o2 = 64 * j.val) (o3 : Fin 2 → Nat)
    (h3 : o3 = ![2 * (t.val % 37) + j.val, 0]) (o4 : Nat) (h4 : o4 = j.val)
    (b1 : ∀ a, (![o1, 0] : Fin S256x512.rank → Nat) a + (![128, 512] : Fin S256x512.rank → Nat) a ≤ S256x512.size a)
    (b2 : ∀ a, (![o2, 0] : Fin S128x512.rank → Nat) a + (![64, 512] : Fin S128x512.rank → Nat) a ≤ S128x512.size a)
    (b3 : ∀ a, o3 a + (![1, 512] : Fin S74x512.rank → Nat) a ≤ S74x512.size a)
    (b4 : ∀ a, (![o4, 0, 0] : Fin S2x16x512.rank → Nat) a + (![1, 16, 512] : Fin S2x16x512.rank → Nat) a ≤ S2x16x512.size a)
    (r : Fin 256) (l : Fin 512) :
    hw (View.ld (iblk m c 1 t : Vec Ideal S256x512 .i8) (Rect.unit ![o1, 0] ![128, 512] b1))
      (View.ld (iblk m c 2 t : Vec Ideal S128x512 .i8) (Rect.unit ![o2, 0] ![64, 512] b2))
      (View.ld (iblk m c 4 t : Vec Ideal S74x512 .f16) (Rect.unit (s := S74x512) o3 ![1, 512] b3))
      (View.ld (iblk m c 3 t : Vec Ideal S2x16x512 .i8) (Rect.unit ![o4, 0, 0] ![1, 16, 512] b4)) r l
      = wt (lowOf m c) (highOf m c) (codesOf m c) (scalesOf m c) (colOf t l) (blkOf t j) r := by
  subst h1 h2 h3 h4
  unfold hw wt
  have hr := r.isLt
  have hj := j.isLt
  have hk : t.val % 37 < 37 := Nat.mod_lt _ (by decide)
  rw [View.ld_unit_apply_of (iblk m c 1 t : Vec Ideal S256x512 .i8) _ _ b1 _
      (ValueIdx.ix2 (⟨128 * j.val + (64 * (r.val / 128) + r.val % 64), by omega⟩ : Fin 256) l)
      (fun a => by match a with | ⟨0, _⟩ => rfl | ⟨1, _⟩ => exact (Nat.zero_add _).symm),
    View.ld_unit_apply_of (iblk m c 2 t : Vec Ideal S128x512 .i8) _ _ b2 _
      (ValueIdx.ix2 (⟨64 * j.val + (32 * (r.val / 128) + r.val % 32), by omega⟩ : Fin 128) l)
      (fun a => by match a with | ⟨0, _⟩ => rfl | ⟨1, _⟩ => exact (Nat.zero_add _).symm),
    View.ld_unit_apply_of (iblk m c 4 t : Vec Ideal S74x512 .f16) _ _ b3 _
      (ValueIdx.ix2 (blkOf t j) l)
      (fun a => by match a with | ⟨0, _⟩ => rfl | ⟨1, _⟩ => exact (Nat.zero_add _).symm),
    View.ld_unit_apply_of (iblk m c 3 t : Vec Ideal S2x16x512 .i8) _ _ b4 _
      (ValueIdx.ix3 j (⟨r.val / 16, by omega⟩ : Fin 16) l)
      (fun a => by match a with | ⟨0, _⟩ => rfl | ⟨1, _⟩ => exact (Nat.zero_add _).symm | ⟨2, _⟩ => exact (Nat.zero_add _).symm),
    blk1, blk2, blk3, blk4,
    host1 m c (blkOf t j) ⟨r.val / 128, by omega⟩ ⟨r.val % 64, by omega⟩ _ _ (by dsimp only; omega),
    host2 m c (blkOf t j) ⟨r.val / 128, by omega⟩ ⟨r.val % 32, by omega⟩ _ _ (by dsimp only; omega),
    host3, host4]

/-- A half's activations at a grid point. -/
theorem act_eq (t : Fin cfg0.N) (j : Fin 2) (o1 : Nat) (h1 : o1 = 256 * j.val)
    (b1 : ∀ a, (![0, o1] : Fin S768x512.rank → Nat) a + (![768, 256] : Fin S768x512.rank → Nat) a ≤ S768x512.size a)
    (p : Fin 768) (r : Fin 256) :
    View.ld (iblk m c 0 t : Vec Ideal S768x512 .bf16) (Rect.unit ![0, o1] ![768, 256] b1) (ValueIdx.ix2 p r)
      = actOf m c (ValueIdx.ix2 p (⟨256 * (blkOf t j).val + r.val, by have := (blkOf t j).isLt; omega⟩ : Fin 18944)) := by
  subst h1
  have hj := j.isLt
  rw [View.ld_unit_apply_of (iblk m c 0 t : Vec Ideal S768x512 .bf16) _ _ b1 _
      (ValueIdx.ix2 p (⟨256 * j.val + r.val, by omega⟩ : Fin 512))
      (fun a => by match a with | ⟨0, _⟩ => exact (Nat.zero_add _).symm | ⟨1, _⟩ => rfl), blk0]
  refine congrArg (actOf m c) (congrArg (ValueIdx.ix2 p) (Fin.ext ?_))
  dsimp only
  omega

/-- The term of the product for the kernel's own arrays. -/
abbrev trm (p : Fin 768) (o : Fin 3584) (n : Fin 74) (r : Fin 256) : EReal :=
  term (actOf m c) (lowOf m c) (highOf m c) (codesOf m c) (scalesOf m c) p o n r

/-- What a grid point adds to the accumulator at an index: the products of its two blocks. -/
theorem step_apply (t : Fin cfg0.N) (acc : Vec Ideal S768x512 .f32) (p : Fin 768) (l : Fin 512) :
    step (F := Ideal) (grid0.coords t) (iblk m c 0 t) (iblk m c 1 t) (iblk m c 2 t) (iblk m c 3 t) (iblk m c 4 t) acc (ValueIdx.ix2 p l)
      = acc (ValueIdx.ix2 p l) + (∑ r, trm m c p (colOf t l) (blkOf t 0) r + ∑ r, trm m c p (colOf t l) (blkOf t 1) r) := by
  unfold step
  rw [half_apply, half_apply, ← add_assoc]
  refine congrArg₂ (· + ·) (congrArg (acc (ValueIdx.ix2 p l) + ·) ?_) ?_
  · refine Finset.sum_congr rfl fun r _ => ?_
    rw [hw_eq m c t 0 0 0 rfl rfl (k0_off1 (grid0.coords t) 0#32) (off_eq t 0) 0 rfl, act_eq m c t 0 0 rfl]
    rfl
  · refine Finset.sum_congr rfl fun r _ => ?_
    rw [hw_eq m c t 1 128 64 rfl rfl (k0_off1 (grid0.coords t) 1#32) (off_eq t 1) 1 rfl, act_eq m c t 1 256 rfl]
    rfl

/-- The bias row spread over the block. -/
theorem init_apply (t : Fin cfg0.N) (p : Fin 768) (l : Fin 512) :
    k0_pay7 (F := Ideal) (iblk m c 5 t) (ValueIdx.ix2 p l) = biasOf m c (ValueIdx.ix1 (colOf t l)) := by
  unfold k0_pay7
  rw [shapeCast_self, shapeCast_self, shapeCast_self]
  refine (broadcastTo_apply _ _ (ValueIdx.ix2 p l) (ValueIdx.ix2 (0 : Fin 1) l) (fun a => ?_)).trans ?_
  · match a with
    | ⟨0, _⟩ => rfl
    | ⟨1, _⟩ => rfl
  · rw [blk5, host5]

/-- What the kernel adds at place `k` of a run, for one row and column. -/
def pair (p : Fin 768) (o : Fin 3584) (k : Nat) : EReal :=
  if h : k < 37 then (∑ r, trm m c p o ⟨2 * k, by omega⟩ r) + ∑ r, trm m c p o ⟨2 * k + 1, by omega⟩ r else 0

theorem pair_at (t : Fin cfg0.N) (p : Fin 768) (o : Fin 3584) :
    (∑ r, trm m c p o (blkOf t 0) r) + ∑ r, trm m c p o (blkOf t 1) r = pair m c p o (t.val % 37) := by
  unfold pair
  rw [dif_pos (Nat.mod_lt _ (by decide))]
  rfl

/-- THE ACCUMULATOR after place `k` of run `q`: the bias plus the products of the blocks so far. -/
theorem acc_eq (q : Nat) (hq : q < 7) (p : Fin 768) (l : Fin 512) : ∀ (k : Nat) (hk : k < 37) (h : 37 * q + k < cfg0.N),
    (outsAt0 m c (37 * q + k) h).2 (ValueIdx.ix2 p l)
      = biasOf m c (ValueIdx.ix1 (⟨512 * q + l.val, by omega⟩ : Fin 3584))
        + ∑ i ∈ Finset.range (k + 1), pair m c p ⟨512 * q + l.val, by omega⟩ i
  | 0, _, h => by
      have ht : (⟨37 * q + 0, h⟩ : Fin cfg0.N).val % 37 = 0 := by dsimp only; omega
      have e := outsAt0_A m c ⟨37 * q + 0, h⟩ ht (by omega)
      have hc : ∀ l, colOf ⟨37 * q + 0, h⟩ l = ⟨512 * q + l.val, by omega⟩ := fun l => Fin.ext (by show 512 * ((37 * q + 0) / 37) + l.val = 512 * q + l.val; omega)
      refine (congrFun (congrArg Prod.snd e) _).trans ?_
      dsimp only
      rw [sout_A, step_apply, init_apply, pair_at, ht, hc, Finset.sum_range_one]
  | k + 1, hk, h => by
      have ht : (⟨37 * q + (k + 1), h⟩ : Fin cfg0.N).val % 37 = k + 1 := by dsimp only; omega
      have hc : ∀ l, colOf ⟨37 * q + (k + 1), h⟩ l = ⟨512 * q + l.val, by omega⟩ := fun l => Fin.ext (by show 512 * ((37 * q + (k + 1)) / 37) + l.val = 512 * q + l.val; omega)
      have ih := acc_eq q hq p l k (by omega) (by omega)
      rw [Finset.sum_range_succ]
      refine Eq.trans ?_ (add_assoc _ _ _)
      rw [← ih]
      by_cases h36 : k + 1 = 36
      · have e := outsAt0_C m c ⟨37 * q + (k + 1), h⟩ (by omega) (by omega)
        refine (congrFun (congrArg Prod.snd e) _).trans ?_
        dsimp only
        rw [sout_C, step_apply, pair_at, ht, hc]
        rfl
      · have e := outsAt0_B m c ⟨37 * q + (k + 1), h⟩ (by omega) (by omega)
        refine (congrFun (congrArg Prod.snd e) _).trans ?_
        dsimp only
        rw [sout_B, step_apply, pair_at, ht, hc]
        rfl

/-- The block written back at the end of a run. -/
theorem out_eq (t : Fin cfg0.N) (h36 : t.val % 37 = 36) (p : Fin 768) (l : Fin 512) :
    (outsAt0 m c t.val t.isLt).1 (ValueIdx.ix2 p l)
      = outVal (actOf m c) (lowOf m c) (highOf m c) (codesOf m c) (scalesOf m c) (biasOf m c) p (colOf t l) := by
  have ht := pt_lt t
  have e := outsAt0_C m c t (by omega) h36
  have e2 : (outsAt0 m c t.val t.isLt).1 (ValueIdx.ix2 p l) = (outsAt0 m c t.val t.isLt).2 (ValueIdx.ix2 p l) := by
    rw [congrArg Prod.fst e, congrArg Prod.snd e]
    dsimp only
    rw [out_C, sout_C]
    rfl
  rw [e2]
  have hv : ∀ n (hn : n < cfg0.N), n = t.val → (outsAt0 m c t.val t.isLt).2 = (outsAt0 m c n hn).2 := fun n hn e => by subst e; rfl
  rw [hv (37 * (t.val / 37) + 36) (by rw [← h36, Nat.div_add_mod]; exact t.isLt) (by omega),
    acc_eq m c (t.val / 37) (by omega) p l 36 (by decide)]
  unfold outVal
  refine congrArg (biasOf m c (ValueIdx.ix1 (colOf t l)) + ·) ?_
  rw [← sum_pairs, ← Fin.sum_univ_eq_sum_range (fun i => pair m c p ⟨512 * (t.val / 37) + l.val, by omega⟩ i) 37]
  refine Finset.sum_congr rfl fun k _ => ?_
  unfold pair
  rw [dif_pos k.isLt]

/-- The output array as mathematics. -/
def outArr : Vec Ideal S768x3584 .bf16 := fun i =>
  outVal (actOf m c) (lowOf m c) (highOf m c) (codesOf m c) (scalesOf m c) (biasOf m c) (i 0) (i 1)

/-- THE ARRAY after the run: at every index the bias plus the product. -/
theorem arr_eq : (dats m 0 c).arrAt 6 cfg0.N = outArr m c := by
  refine (dats m 0 c).arrAt_eq_of_covers 6 _ (by decide +kernel) fun t hf y => ?_
  have h36 : t.val % 37 = 36 := (flush0_6 t).mp hf
  have hy : y = ValueIdx.ix2 (⟨(y 0).val, (y 0).isLt⟩ : Fin 768) (⟨(y 1).val, (y 1).isLt⟩ : Fin 512) := by
    funext a; match a with | ⟨0, _⟩ => rfl | ⟨1, _⟩ => rfl
  show (dats m 0 c).after 6 t y = _
  rw [after0_6]
  have e := out_eq m c t h36 ⟨(y 0).val, (y 0).isLt⟩ ⟨(y 1).val, (y 1).isLt⟩
  rw [← hy] at e
  refine e.trans ?_
  unfold outArr
  have e0 : ((cfg0.win 6).blk t).view.emb y 0 = (⟨(y 0).val, (y 0).isLt⟩ : Fin 768) := Fin.ext (by
    show win0_6.index t (0 : Fin 2) * 768 + 1 * (y 0).val = (y 0).val; rw [idx6]; simp)
  have e1 : ((cfg0.win 6).blk t).view.emb y 1 = colOf t (⟨(y 1).val, (y 1).isLt⟩ : Fin 512) := Fin.ext (by
    show win0_6.index t (1 : Fin 2) * 512 + 1 * (y 1).val = 512 * (t.val / 37) + (y 1).val; rw [idx6]; simp; omega)
  rw [e0, e1]

/-- The array of results in terms of the arguments as launched. -/
theorem outArr_eq : outArr m c = fun i => outVal (m ((c : Thread nD τ).loc main_arg0) : Vec Ideal S768x18944 .bf16) (lowOf m c) (highOf m c) (codesOf m c) (scalesOf m c) (biasOf m c) (i 0) (i 1) := by
  funext i
  exact congrArg (fun A : (⟨2, ![768, 18944]⟩ : Shape).Idx → EReal => outVal A (lowOf m c) (highOf m c) (codesOf m c) (scalesOf m c) (biasOf m c) (i 0) (i 1)) (host0 m c)

end Cert.MatMulIdeal.Hand

end
-- ==== Proof.CallMatRef.lean ====
/-
  What the reference of the matrix product computes, at an index, over the ideal values.
-/
module

public import proofs.«01_k».proof.Proof.Gen.MatMulRefIdeal.Run
public import proofs.«01_k».proof.Proof.Gen.MatMulRefIdeal.Read
public import Idealize.ShloMosaic.Lib.Pipeline.ValueKit
public import Idealize.ShloMosaic.Lib.Tactic.WordOmega
public import proofs.«01_k».proof.Proof.Spec

@[expose] public section

set_option maxRecDepth 16384

noncomputable section

open Idealize.ShloMosaic Idealize.ShloMosaic.TcCoe Idealize.SL.Sem

namespace Cert.MatMulRefIdeal.Hand

open Cert.MatMulRefIdeal Cert.MatMulRefIdeal.Gen Cert.Q6K

variable {F : FTy → Type} [FloatOps F]

variable (x1 : (⟨S3584x74x2x64, .i8⟩ : BufTy).Contents (Elt F)) (x2 : (⟨S3584x74x2x32, .i8⟩ : BufTy).Contents (Elt F))
  (r0 : (⟨S3584x74x16, .bf16⟩ : BufTy).Contents (Elt F))

/-- The code word of a low position. -/
theorem v27_apply (o : Fin 3584) (n : Fin 74) (i j : Fin 2) (b : Fin 32) :
    Read.val_main_v27 (F := F) x1 x2 (ValueIdx.ix5 o n i j b) = IntOp.ori (IntOp.andi (BitVec.setWidth 32 (x1 (ValueIdx.ix4 o n i (⟨32 * j.val + b.val, by omega⟩ : Fin 64)))) 15#32)
      (IntOp.shli .host (IntOp.andi (IntOp.shrsi .host (BitVec.setWidth 32 (x2 (ValueIdx.ix4 o n i b))) (IntOp.muli 2#32 (BitVec.ofNat 32 j.val))) 3#32) 4#32) := by
  have e1 : Read.idx_main_v10 (ValueIdx.ix5 o n i j b) = ValueIdx.ix4 o n i (⟨32 * j.val + b.val, by omega⟩ : Fin 64) := by
    have ho := o.isLt; have hn := n.isLt; have hi := i.isLt; have hj := j.isLt; have hb := b.isLt
    funext a
    match a with
    | ⟨0, _⟩ => refine Fin.ext ?_; show ((((o.val * 74 + n.val) * 2 + i.val) * 2 + j.val) * 32 + b.val) / 9472 = o.val; omega
    | ⟨1, _⟩ => refine Fin.ext ?_; show ((((o.val * 74 + n.val) * 2 + i.val) * 2 + j.val) * 32 + b.val) / 128 % 74 = n.val; omega
    | ⟨2, _⟩ => refine Fin.ext ?_; show ((((o.val * 74 + n.val) * 2 + i.val) * 2 + j.val) * 32 + b.val) / 64 % 2 = i.val; omega
    | ⟨3, _⟩ => refine Fin.ext ?_; show ((((o.val * 74 + n.val) * 2 + i.val) * 2 + j.val) * 32 + b.val) % 64 = 32 * j.val + b.val; omega
  have e2 : Read.idx_main_v16 (Read.idx_main_v20 (ValueIdx.ix5 o n i j b)) = ValueIdx.ix4 o n i b := by
    funext a
    match a with
    | ⟨0, _⟩ => rfl
    | ⟨1, _⟩ => rfl
    | ⟨2, _⟩ => rfl
    | ⟨3, _⟩ => rfl
  rw [Read.val_main_v27_apply,
    Read.val_main_v18_apply,
    Read.val_main_v10_apply,
    Read.val_main_v9_apply,
    Read.val_main_v17_apply,
    Read.val_main_c_0_apply,
    Read.val_main_v26_apply,
    Read.val_main_v24_apply,
    Read.val_main_v22_apply,
    Read.val_main_v20_apply,
    Read.val_main_v16_apply,
    Read.val_main_v15_apply,
    Read.val_main_v21_apply,
    Read.val_main_v19_apply,
    Read.val_main_v14_apply,
    Read.val_main_v13_apply,
    Read.val_main_c_apply,
    Read.val_main_v12_apply,
    Read.val_main_v11_apply,
    Read.val_main_v23_apply,
    Read.val_main_c_1_apply,
    Read.val_main_v25_apply,
    Read.val_main_c_2_apply, e1, e2]

/-- The code word of a high position. -/
theorem v40_apply (o : Fin 3584) (n : Fin 74) (i j : Fin 2) (b : Fin 32) :
    Read.val_main_v40 (F := F) x1 x2 (ValueIdx.ix5 o n i j b) = IntOp.ori (IntOp.shrsi .host (BitVec.setWidth 32 (x1 (ValueIdx.ix4 o n i (⟨32 * j.val + b.val, by omega⟩ : Fin 64)))) 4#32)
      (IntOp.shli .host (IntOp.andi (IntOp.shrsi .host (BitVec.setWidth 32 (x2 (ValueIdx.ix4 o n i b))) (IntOp.addi (IntOp.muli 2#32 (BitVec.ofNat 32 j.val)) 4#32)) 3#32) 4#32) := by
  have e1 : Read.idx_main_v10 (ValueIdx.ix5 o n i j b) = ValueIdx.ix4 o n i (⟨32 * j.val + b.val, by omega⟩ : Fin 64) := by
    have ho := o.isLt; have hn := n.isLt; have hi := i.isLt; have hj := j.isLt; have hb := b.isLt
    funext a
    match a with
    | ⟨0, _⟩ => refine Fin.ext ?_; show ((((o.val * 74 + n.val) * 2 + i.val) * 2 + j.val) * 32 + b.val) / 9472 = o.val; omega
    | ⟨1, _⟩ => refine Fin.ext ?_; show ((((o.val * 74 + n.val) * 2 + i.val) * 2 + j.val) * 32 + b.val) / 128 % 74 = n.val; omega
    | ⟨2, _⟩ => refine Fin.ext ?_; show ((((o.val * 74 + n.val) * 2 + i.val) * 2 + j.val) * 32 + b.val) / 64 % 2 = i.val; omega
    | ⟨3, _⟩ => refine Fin.ext ?_; show ((((o.val * 74 + n.val) * 2 + i.val) * 2 + j.val) * 32 + b.val) % 64 = 32 * j.val + b.val; omega
  have e2 : Read.idx_main_v16 (Read.idx_main_v33 (ValueIdx.ix5 o n i j b)) = ValueIdx.ix4 o n i b := by
    funext a
    match a with
    | ⟨0, _⟩ => rfl
    | ⟨1, _⟩ => rfl
    | ⟨2, _⟩ => rfl
    | ⟨3, _⟩ => rfl
  rw [Read.val_main_v40_apply,
    Read.val_main_v29_apply,
    Read.val_main_v10_apply,
    Read.val_main_v9_apply,
    Read.val_main_v28_apply,
    Read.val_main_c_3_apply,
    Read.val_main_v39_apply,
    Read.val_main_v37_apply,
    Read.val_main_v35_apply,
    Read.val_main_v33_apply,
    Read.val_main_v16_apply,
    Read.val_main_v15_apply,
    Read.val_main_v34_apply,
    Read.val_main_v32_apply,
    Read.val_main_v31_apply,
    Read.val_main_v14_apply,
    Read.val_main_v13_apply,
    Read.val_main_c_apply,
    Read.val_main_v12_apply,
    Read.val_main_v11_apply,
    Read.val_main_v30_apply,
    Read.val_main_c_4_apply,
    Read.val_main_v36_apply,
    Read.val_main_c_5_apply,
    Read.val_main_v38_apply,
    Read.val_main_c_6_apply, e1, e2]

/-- The sixteen scales of a block, split by half, low or high, sub-half and quarter. -/
theorem v8_apply (o : Fin 3584) (n : Fin 74) (i b j v : Fin 2) :
    Read.val_main_v8 (F := F) r0 (ValueIdx.ix6 o n i b j v)
      = r0 (ValueIdx.ix3 o n (⟨8 * i.val + 4 * b.val + 2 * j.val + v.val, by omega⟩ : Fin 16)) := by
  unfold Read.val_main_v8
  pointwise
  refine congrArg r0 (funext fun a => Fin.ext ?_)
  match a with
  | ⟨0, _⟩ => rfl
  | ⟨1, _⟩ => rfl
  | ⟨2, _⟩ => show i.val * 8 + b.val * 4 + j.val * 2 + v.val = 8 * i.val + 4 * b.val + 2 * j.val + v.val; omega

/-- The low half's scales without the axis of length one. -/
theorem v42_apply (o : Fin 3584) (n : Fin 74) (i j v : Fin 2) :
    Read.val_main_v42 (F := F) r0 (ValueIdx.ix5 o n i j v) = Read.val_main_v41 (F := F) r0 (ValueIdx.ix6 o n i (0 : Fin 1) j v) := by
  unfold Read.val_main_v42
  generalize Read.val_main_v41 (F := F) r0 = y
  pointwise
  rfl

/-- The scale of a low position. -/
theorem lo_scale (o : Fin 3584) (n : Fin 74) (i j v : Fin 2) (u : Fin 16) :
    Read.val_main_v48 (F := F) r0 (ValueIdx.ix6 o n i j v u)
      = r0 (ValueIdx.ix3 o n (⟨8 * i.val + 4 * ((0 : Fin 2)).val + 2 * j.val + v.val, by have h : ((0 : Fin 2)).val = 0 := rfl; omega⟩ : Fin 16)) := by
  have e1 : Read.idx_main_v47 (Read.idx_main_v48 (ValueIdx.ix6 o n i j v u)) = ValueIdx.ix5 o n i j v := by
    funext a
    match a with
    | ⟨0, _⟩ => rfl
    | ⟨1, _⟩ => rfl
    | ⟨2, _⟩ => rfl
    | ⟨3, _⟩ => rfl
    | ⟨4, _⟩ => rfl
  have e2 : Read.idx_main_v41 (ValueIdx.ix6 o n i (0 : Fin 1) j v) = ValueIdx.ix6 o n i (0 : Fin 2) j v := by
    funext a
    match a with
    | ⟨0, _⟩ => exact Fin.ext (by simp [ValueIdx.ix6])
    | ⟨1, _⟩ => exact Fin.ext (by simp [ValueIdx.ix6])
    | ⟨2, _⟩ => exact Fin.ext (by simp [ValueIdx.ix6])
    | ⟨3, _⟩ => rfl
    | ⟨4, _⟩ => exact Fin.ext (by simp [ValueIdx.ix6])
    | ⟨5, _⟩ => exact Fin.ext (by simp [ValueIdx.ix6])
  rw [Read.val_main_v48_apply, Read.val_main_v47_apply, e1, v42_apply, Read.val_main_v41_apply, e2, v8_apply]

/-- The high half's scales without the axis of length one. -/
theorem v52_apply (o : Fin 3584) (n : Fin 74) (i j v : Fin 2) :
    Read.val_main_v52 (F := F) r0 (ValueIdx.ix5 o n i j v) = Read.val_main_v51 (F := F) r0 (ValueIdx.ix6 o n i (0 : Fin 1) j v) := by
  unfold Read.val_main_v52
  generalize Read.val_main_v51 (F := F) r0 = y
  pointwise
  rfl

/-- The scale of a high position. -/
theorem hi_scale (o : Fin 3584) (n : Fin 74) (i j v : Fin 2) (u : Fin 16) :
    Read.val_main_v58 (F := F) r0 (ValueIdx.ix6 o n i j v u)
      = r0 (ValueIdx.ix3 o n (⟨8 * i.val + 4 * ((1 : Fin 2)).val + 2 * j.val + v.val, by have h : ((1 : Fin 2)).val = 1 := rfl; omega⟩ : Fin 16)) := by
  have e1 : Read.idx_main_v57 (Read.idx_main_v58 (ValueIdx.ix6 o n i j v u)) = ValueIdx.ix5 o n i j v := by
    funext a
    match a with
    | ⟨0, _⟩ => rfl
    | ⟨1, _⟩ => rfl
    | ⟨2, _⟩ => rfl
    | ⟨3, _⟩ => rfl
    | ⟨4, _⟩ => rfl
  have e2 : Read.idx_main_v51 (ValueIdx.ix6 o n i (0 : Fin 1) j v) = ValueIdx.ix6 o n i (1 : Fin 2) j v := by
    funext a
    match a with
    | ⟨0, _⟩ => exact Fin.ext (by simp [ValueIdx.ix6])
    | ⟨1, _⟩ => exact Fin.ext (by simp [ValueIdx.ix6])
    | ⟨2, _⟩ => exact Fin.ext (by simp [ValueIdx.ix6])
    | ⟨3, _⟩ => rfl
    | ⟨4, _⟩ => exact Fin.ext (by simp [ValueIdx.ix6])
    | ⟨5, _⟩ => exact Fin.ext (by simp [ValueIdx.ix6])
  rw [Read.val_main_v58_apply, Read.val_main_v57_apply, e1, v52_apply, Read.val_main_v51_apply, e2, v8_apply]

/-- The low codes split into sixteens. -/
theorem v46_apply (o : Fin 3584) (n : Fin 74) (i j v : Fin 2) (u : Fin 16) :
    Read.val_main_v46 (F := F) x1 x2 (ValueIdx.ix6 o n i j v u)
      = Read.val_main_v45 (F := F) x1 x2 (ValueIdx.ix5 o n i j (⟨16 * v.val + u.val, by omega⟩ : Fin 32)) := by
  unfold Read.val_main_v46
  pointwise
  refine congrArg (Read.val_main_v45 (F := F) x1 x2) (funext fun a => Fin.ext ?_)
  match a with
  | ⟨0, _⟩ => rfl
  | ⟨1, _⟩ => rfl
  | ⟨2, _⟩ => rfl
  | ⟨3, _⟩ => rfl
  | ⟨4, _⟩ => show v.val * 16 + u.val = 16 * v.val + u.val; omega

/-- The low weights with their positions in one axis. -/
theorem v50_apply (o : Fin 3584) (k : Fin 9472) :
    Read.val_main_v50 (F := F) x1 x2 r0 (ValueIdx.ix2 o k) = Read.val_main_v49 (F := F) x1 x2 r0 (ValueIdx.ix6 o (⟨k.val / 128, by omega⟩ : Fin 74) (⟨k.val / 64 % 2, by omega⟩ : Fin 2)
      (⟨k.val / 32 % 2, by omega⟩ : Fin 2) (⟨k.val / 16 % 2, by omega⟩ : Fin 2) (⟨k.val % 16, by omega⟩ : Fin 16)) := by
  unfold Read.val_main_v50
  pointwise
  rfl

/-- The high codes split into sixteens. -/
theorem v56_apply (o : Fin 3584) (n : Fin 74) (i j v : Fin 2) (u : Fin 16) :
    Read.val_main_v56 (F := F) x1 x2 (ValueIdx.ix6 o n i j v u)
      = Read.val_main_v55 (F := F) x1 x2 (ValueIdx.ix5 o n i j (⟨16 * v.val + u.val, by omega⟩ : Fin 32)) := by
  unfold Read.val_main_v56
  pointwise
  refine congrArg (Read.val_main_v55 (F := F) x1 x2) (funext fun a => Fin.ext ?_)
  match a with
  | ⟨0, _⟩ => rfl
  | ⟨1, _⟩ => rfl
  | ⟨2, _⟩ => rfl
  | ⟨3, _⟩ => rfl
  | ⟨4, _⟩ => show v.val * 16 + u.val = 16 * v.val + u.val; omega

/-- The high weights with their positions in one axis. -/
theorem v60_apply (o : Fin 3584) (k : Fin 9472) :
    Read.val_main_v60 (F := F) x1 x2 r0 (ValueIdx.ix2 o k) = Read.val_main_v59 (F := F) x1 x2 r0 (ValueIdx.ix6 o (⟨k.val / 128, by omega⟩ : Fin 74) (⟨k.val / 64 % 2, by omega⟩ : Fin 2)
      (⟨k.val / 32 % 2, by omega⟩ : Fin 2) (⟨k.val / 16 % 2, by omega⟩ : Fin 2) (⟨k.val % 16, by omega⟩ : Fin 16)) := by
  unfold Read.val_main_v60
  pointwise
  rfl

end Cert.MatMulRefIdeal.Hand

end
-- ==== Proof.CallMatRefVal.lean ====
/-
  The reference's weights, read at an index: they are the weights the packed codes and the scales stand for.
-/
module

public import proofs.«01_k».proof.Proof.CallMatRef
public import proofs.«01_k».proof.Proof.RefCode

@[expose] public section

set_option maxRecDepth 16384

noncomputable section

open Idealize.ShloMosaic Idealize.ShloMosaic.TcCoe Idealize.SL.Sem

namespace Cert.MatMulRefIdeal.Hand

open Cert.MatMulRefIdeal Cert.MatMulRefIdeal.Gen Cert.Q6K

/-- The offset of the codes. -/
theorem offset_val : (FloatOps.ofBits .bf16 0x4200#16 : Ideal .bf16) = (((32 : ℝ)) : EReal) := by
  simp [FloatOps.ofBits, Ideal.ofBits, Ideal.ieee, -EReal.coe_mul]; norm_num

/-- Subtracting the offset from an integer code. -/
theorem sub_offset (z : Int) : ((z : ℝ) : EReal) - (((32 : ℝ)) : EReal) = (((z - 32 : Int) : ℝ) : EReal) := by
  rw [← EReal.coe_sub]; push_cast; rfl

variable (x1 : LowBytes) (x2 : HighBytes) (r0 : (⟨S3584x74x16, .bf16⟩ : BufTy).Contents (Elt Ideal))
  (SC : ScaleCodes) (D : BlockScales)

/-- The code of a low position, less the offset. -/
theorem v45_apply (o : Fin 3584) (n : Fin 74) (i j : Fin 2) (b : Fin 32) :
    Read.val_main_v45 (F := Ideal) x1 x2 (ValueIdx.ix5 o n i j b)
      = (((codeZ j.val (x1 (ValueIdx.ix4 o n i (⟨32 * j.val + b.val, by omega⟩ : Fin 64))) (x2 (ValueIdx.ix4 o n i b)) : Int) : ℝ) : EReal) := by
  rw [Read.val_main_v45_apply, Read.val_main_v43_apply, Read.val_main_v44_apply, Read.val_main_cst_apply, offset_val, v27_apply, ← code_lo]
  exact sub_offset _

/-- The code of a high position, less the offset. -/
theorem v55_apply (o : Fin 3584) (n : Fin 74) (i j : Fin 2) (b : Fin 32) :
    Read.val_main_v55 (F := Ideal) x1 x2 (ValueIdx.ix5 o n i j b)
      = (((codeZ (j.val + 2) (x1 (ValueIdx.ix4 o n i (⟨32 * j.val + b.val, by omega⟩ : Fin 64))) (x2 (ValueIdx.ix4 o n i b)) : Int) : ℝ) : EReal) := by
  rw [Read.val_main_v55_apply, Read.val_main_v53_apply, Read.val_main_v54_apply, Read.val_main_cst_7_apply, offset_val, v40_apply, ← code_hi]
  exact sub_offset _

/-- The position in its block of place `s` of the low half. -/
abbrev loPos (s : Fin 128) : Fin 256 := ⟨128 * (s.val / 64) + s.val % 64, by omega⟩
/-- The position in its block of place `s` of the high half. -/
abbrev hiPos (s : Fin 128) : Fin 256 := ⟨128 * (s.val / 64) + s.val % 64 + 64, by omega⟩

variable (hr : ∀ (o : Fin 3584) (n : Fin 74) (g : Fin 16),
  r0 (ValueIdx.ix3 o n g) = D (ValueIdx.ix2 o n) * (((SC (ValueIdx.ix3 o n g)).toInt : ℝ) : EReal))

include hr

/-- The reference's low weights are the weights of the low positions. -/
theorem w_lo (o : Fin 3584) (n : Fin 74) (s : Fin 128) (k : Fin 9472) (hk : k.val = 128 * n.val + s.val) :
    Read.val_main_v50 (F := Ideal) x1 x2 r0 (ValueIdx.ix2 o k) = wt x1 x2 SC D o n (loPos s) := by
  have hs := s.isLt
  have hn := n.isLt
  have h0 : ((0 : Fin 2)).val = 0 := rfl
  rw [v50_apply, Read.val_main_v49_apply, v46_apply, v45_apply, lo_scale, hr]
  unfold wt
  refine congrArg₂ (fun a b : EReal => a * b) ?_ (congrArg₂ (fun a b : EReal => a * b) ?_ ?_)
  · have a1 : (k.val / 32 % 2) = (loPos s).val / 32 % 4 := by dsimp only [loPos]; omega
    refine congrArg (fun z : Int => ((z : ℝ) : EReal)) ?_
    refine (congrArg (fun q => codeZ q _ _) a1).trans (congrArg₂ (codeZ _) (congrArg x1 ?_) (congrArg x2 ?_))
    · funext a
      refine Fin.ext ?_
      match a with
      | ⟨0, _⟩ => rfl
      | ⟨1, _⟩ => show k.val / 128 = n.val; omega
      | ⟨2, _⟩ => show k.val / 64 % 2 = (128 * (s.val / 64) + s.val % 64) / 128; omega
      | ⟨3, _⟩ => show 32 * (k.val / 32 % 2) + (16 * (k.val / 16 % 2) + k.val % 16) = (128 * (s.val / 64) + s.val % 64) % 64; omega
    · funext a
      refine Fin.ext ?_
      match a with
      | ⟨0, _⟩ => rfl
      | ⟨1, _⟩ => show k.val / 128 = n.val; omega
      | ⟨2, _⟩ => show k.val / 64 % 2 = (128 * (s.val / 64) + s.val % 64) / 128; omega
      | ⟨3, _⟩ => show (16 * (k.val / 16 % 2) + k.val % 16) = (128 * (s.val / 64) + s.val % 64) % 32; omega
  · refine congrArg D (funext fun a => Fin.ext ?_)
    match a with
    | ⟨0, _⟩ => rfl
    | ⟨1, _⟩ => show k.val / 128 = n.val; omega
  · refine congrArg (fun z : BitVec 8 => ((z.toInt : ℝ) : EReal)) (congrArg SC (funext fun a => Fin.ext ?_))
    match a with
    | ⟨0, _⟩ => rfl
    | ⟨1, _⟩ => show k.val / 128 = n.val; omega
    | ⟨2, _⟩ =>
      show 8 * (k.val / 64 % 2) + 4 * (0 : Fin 2).val + 2 * (k.val / 32 % 2) + (k.val / 16 % 2) = (128 * (s.val / 64) + s.val % 64) / 16
      omega

/-- The reference's high weights are the weights of the high positions. -/
theorem w_hi (o : Fin 3584) (n : Fin 74) (s : Fin 128) (k : Fin 9472) (hk : k.val = 128 * n.val + s.val) :
    Read.val_main_v60 (F := Ideal) x1 x2 r0 (ValueIdx.ix2 o k) = wt x1 x2 SC D o n (hiPos s) := by
  have hs := s.isLt
  have hn := n.isLt
  have h0 : ((1 : Fin 2)).val = 1 := rfl
  rw [v60_apply, Read.val_main_v59_apply, v56_apply, v55_apply, hi_scale, hr]
  unfold wt
  refine congrArg₂ (fun a b : EReal => a * b) ?_ (congrArg₂ (fun a b : EReal => a * b) ?_ ?_)
  · have a1 : (k.val / 32 % 2 + 2) = (hiPos s).val / 32 % 4 := by dsimp only [hiPos]; omega
    refine congrArg (fun z : Int => ((z : ℝ) : EReal)) ?_
    refine (congrArg (fun q => codeZ q _ _) a1).trans (congrArg₂ (codeZ _) (congrArg x1 ?_) (congrArg x2 ?_))
    · funext a
      refine Fin.ext ?_
      match a with
      | ⟨0, _⟩ => rfl
      | ⟨1, _⟩ => show k.val / 128 = n.val; omega
      | ⟨2, _⟩ => show k.val / 64 % 2 = (128 * (s.val / 64) + s.val % 64 + 64) / 128; omega
      | ⟨3, _⟩ => show 32 * (k.val / 32 % 2) + (16 * (k.val / 16 % 2) + k.val % 16) = (128 * (s.val / 64) + s.val % 64 + 64) % 64; omega
    · funext a
      refine Fin.ext ?_
      match a with
      | ⟨0, _⟩ => rfl
      | ⟨1, _⟩ => show k.val / 128 = n.val; omega
      | ⟨2, _⟩ => show k.val / 64 % 2 = (128 * (s.val / 64) + s.val % 64 + 64) / 128; omega
      | ⟨3, _⟩ => show (16 * (k.val / 16 % 2) + k.val % 16) = (128 * (s.val / 64) + s.val % 64 + 64) % 32; omega
  · refine congrArg D (funext fun a => Fin.ext ?_)
    match a with
    | ⟨0, _⟩ => rfl
    | ⟨1, _⟩ => show k.val / 128 = n.val; omega
  · refine congrArg (fun z : BitVec 8 => ((z.toInt : ℝ) : EReal)) (congrArg SC (funext fun a => Fin.ext ?_))
    match a with
    | ⟨0, _⟩ => rfl
    | ⟨1, _⟩ => show k.val / 128 = n.val; omega
    | ⟨2, _⟩ =>
      show 8 * (k.val / 64 % 2) + 4 * (1 : Fin 2).val + 2 * (k.val / 32 % 2) + (k.val / 16 % 2) = (128 * (s.val / 64) + s.val % 64 + 64) / 16
      omega

end Cert.MatMulRefIdeal.Hand

end
-- ==== Proof.CallMatRefAct.lean ====
/-
  The reference's activations, cut into its low and its high half, read at an index.
-/
module

public import proofs.«01_k».proof.Proof.CallMatRef

@[expose] public section

set_option maxRecDepth 16384

noncomputable section

open Idealize.ShloMosaic Idealize.ShloMosaic.TcCoe Idealize.SL.Sem

namespace Cert.MatMulRefIdeal.Hand

open Cert.MatMulRefIdeal Cert.MatMulRefIdeal.Gen Cert.Q6K

variable {F : FTy → Type} [FloatOps F]

/-- The activations with the positions of a block split in four. -/
theorem split_apply (X : (⟨S768x18944, .bf16⟩ : BufTy).Contents (Elt F)) (p : Fin 768) (n : Fin 74) (i b j : Fin 2) (u : Fin 32) :
    shapeCast S768x74x2x2x2x32 X shapeCasts_S768x18944_S768x74x2x2x2x32 (ValueIdx.ix6 p n i b j u)
      = X (ValueIdx.ix2 p (⟨256 * n.val + 128 * i.val + 64 * b.val + 32 * j.val + u.val, by omega⟩ : Fin 18944)) := by
  pointwise
  refine congrArg X (funext fun a => Fin.ext ?_)
  have hp := p.isLt; have hn := n.isLt; have hi := i.isLt; have hb := b.isLt; have hj := j.isLt; have hu := u.isLt
  match a with
  | ⟨0, _⟩ => rfl
  | ⟨1, _⟩ =>
    show n.val * 256 + i.val * 128 + b.val * 64 + j.val * 32 + u.val = 256 * n.val + 128 * i.val + 64 * b.val + 32 * j.val + u.val
    omega

/-- The half's axis of length one dropped. -/
theorem drop_apply (Y : (⟨S768x74x2x1x2x32, .bf16⟩ : BufTy).Contents (Elt F)) (p : Fin 768) (n : Fin 74) (i j : Fin 2) (u : Fin 32) :
    shapeCast S768x74x2x2x32 Y shapeCasts_S768x74x2x1x2x32_S768x74x2x2x32 (ValueIdx.ix5 p n i j u)
      = Y (ValueIdx.ix6 p n i (0 : Fin 1) j u) := by
  pointwise
  try rfl

/-- The half of the activations as a matrix. -/
theorem join_apply (Y : (⟨S768x74x2x2x32, .bf16⟩ : BufTy).Contents (Elt F)) (p : Fin 768) (k : Fin 9472) :
    shapeCast S768x9472 Y shapeCasts_S768x74x2x2x32_S768x9472 (ValueIdx.ix2 p k)
      = Y (ValueIdx.ix5 p (⟨k.val / 128, by omega⟩ : Fin 74) (⟨k.val / 64 % 2, by omega⟩ : Fin 2) (⟨k.val / 32 % 2, by omega⟩ : Fin 2) (⟨k.val % 32, by omega⟩ : Fin 32)) := by
  pointwise
  try rfl

/-- The low half of a block's positions. -/
theorem low_apply (Y : (⟨S768x74x2x2x2x32, .bf16⟩ : BufTy).Contents (Elt F)) (p : Fin 768) (n : Fin 74) (i j : Fin 2) (u : Fin 32) :
    extractStridedSlice S768x74x2x1x2x32 ![0, 0, 0, 0, 0, 0] Y slices_S768x74x2x2x2x32_S768x74x2x1x2x32_0_0_0_0_0_0 (ValueIdx.ix6 p n i (0 : Fin 1) j u)
      = Y (ValueIdx.ix6 p n i (0 : Fin 2) j u) := by
  refine congrArg Y (funext fun a => Fin.ext ?_)
  match a with
  | ⟨0, _⟩ | ⟨1, _⟩ | ⟨2, _⟩ | ⟨3, _⟩ | ⟨4, _⟩ | ⟨5, _⟩ => simp

/-- The high half of a block's positions. -/
theorem high_apply (Y : (⟨S768x74x2x2x2x32, .bf16⟩ : BufTy).Contents (Elt F)) (p : Fin 768) (n : Fin 74) (i j : Fin 2) (u : Fin 32) :
    extractStridedSlice S768x74x2x1x2x32 ![0, 0, 0, 1, 0, 0] Y slices_S768x74x2x2x2x32_S768x74x2x1x2x32_0_0_0_1_0_0 (ValueIdx.ix6 p n i (0 : Fin 1) j u)
      = Y (ValueIdx.ix6 p n i (1 : Fin 2) j u) := by
  refine congrArg Y (funext fun a => Fin.ext ?_)
  match a with
  | ⟨0, _⟩ | ⟨1, _⟩ | ⟨2, _⟩ | ⟨3, _⟩ | ⟨4, _⟩ | ⟨5, _⟩ => simp

end Cert.MatMulRefIdeal.Hand

end
-- ==== Proof.CallMatRefScale.lean ====
/-
  The reference's scales, read at an index: each is its block's scale times its code.
-/
module

public import proofs.«01_k».proof.Proof.CallMatRef

@[expose] public section

set_option maxRecDepth 16384

noncomputable section

open Idealize.ShloMosaic Idealize.ShloMosaic.TcCoe Idealize.SL.Sem

namespace Cert.MatMulRefIdeal.Hand

open Cert.MatMulRefIdeal Cert.MatMulRefIdeal.Gen Cert.Q6K

/-- The scale of a sixteenth of a block, before its rounding: the block's scale times the integer scale code. -/
theorem pay_apply (v0 : Vec Ideal S3584x74 .f16) (v3 : Vec Ideal S3584x74x16 .i8) (o : Fin 3584) (n : Fin 74) (g : Fin 16) :
    k0_pay1 v0 v3 (ValueIdx.ix3 o n g) = v0 (ValueIdx.ix2 o n) * (((v3 (ValueIdx.ix3 o n g)).toInt : ℝ) : EReal) := by
  unfold k0_pay1
  pointwise
  rfl

section
variable {F : FTy → Type} [FloatOps F] (m : (ℓ : Loc nD τ sig) → Buf (Elt F) ℓ) (c : Dev nD)

theorem sidx0 : ∀ t, win0_0.index t = ![0, 0] := (by decide +kernel : ∀ t : Fin grid0.N, _)
theorem sidx1 : ∀ t, win0_1.index t = ![0, 0, 0] := (by decide +kernel : ∀ t : Fin grid0.N, _)
theorem sidx2 : ∀ t, win0_2.index t = ![0, 0, 0] := (by decide +kernel : ∀ t : Fin grid0.N, _)

/-- The one block of the block scales is the whole of them. -/
theorem sblk0 (t : Fin cfg0.N) (y : S3584x74.Idx) : iblk m c 0 t y = m ((c : Thread nD τ).loc main_arg4) y := by
  show V m c main_arg4 (((cfg0.win 0).blk t).view.emb y) = _
  rw [V_main_arg4]
  refine congrArg _ (funext fun a => Fin.ext ?_)
  match a with
  | ⟨0, _⟩ => show win0_0.index t (0 : Fin _) * 3584 + 1 * (y 0).val = (y 0).val; rw [sidx0]; simp
  | ⟨1, _⟩ => show win0_0.index t (1 : Fin _) * 74 + 1 * (y 1).val = (y 1).val; rw [sidx0]; simp

/-- The one block of the scale codes is the whole of them. -/
theorem sblk1 (t : Fin cfg0.N) (y : S3584x74x16.Idx) : iblk m c 1 t y = m ((c : Thread nD τ).loc main_arg3) y := by
  show V m c main_arg3 (((cfg0.win 1).blk t).view.emb y) = _
  rw [V_main_arg3]
  refine congrArg _ (funext fun a => Fin.ext ?_)
  match a with
  | ⟨0, _⟩ => show win0_1.index t (0 : Fin _) * 3584 + 1 * (y 0).val = (y 0).val; rw [sidx1]; simp
  | ⟨1, _⟩ => show win0_1.index t (1 : Fin _) * 74 + 1 * (y 1).val = (y 1).val; rw [sidx1]; simp
  | ⟨2, _⟩ => show win0_1.index t (2 : Fin _) * 16 + 1 * (y 2).val = (y 2).val; rw [sidx1]; simp

/-- The block's place in the scales written is the place itself. -/
theorem semb2 (t : Fin cfg0.N) (y : S3584x74x16.Idx) : ((View.whole main_v7).slice (win0_2.rect t)).emb y = y := by
  refine funext fun a => Fin.ext ?_
  match a with
  | ⟨0, _⟩ => show win0_2.index t (0 : Fin _) * 3584 + 1 * (y 0).val = (y 0).val; rw [sidx2]; simp
  | ⟨1, _⟩ => show win0_2.index t (1 : Fin _) * 74 + 1 * (y 1).val = (y 1).val; rw [sidx2]; simp
  | ⟨2, _⟩ => show win0_2.index t (2 : Fin _) * 16 + 1 * (y 2).val = (y 2).val; rw [sidx2]; simp

/-- The array of scales after the run. -/
theorem scales_eq : (dats m 0 c).arrAt 2 cfg0.N = k0_pay1 (m ((c : Thread nD τ).loc main_arg4)) (m ((c : Thread nD τ).loc main_arg3)) := by
  refine (dats m 0 c).arrAt_eq_of_covers 2 _ (by decide +kernel) fun t hf y => ?_
  blk_simp
  rw [after0_2]
  frame_out
  have e0 : iblk m c 0 t = m ((c : Thread nD τ).loc main_arg4) := funext (sblk0 m c t)
  have e1 : iblk m c 1 t = m ((c : Thread nD τ).loc main_arg3) := funext (sblk1 m c t)
  rw [e0, e1]
  exact congrArg _ (semb2 t y).symm

end

variable (m : (ℓ : Loc nD τ sig) → Buf (Elt Ideal) ℓ) (c : Dev nD)

/-- The block scales of the run. -/
abbrev dOf : BlockScales := m ((c : Thread nD τ).loc main_arg4)
/-- The scale codes of the run. -/
abbrev scOf : ScaleCodes := m ((c : Thread nD τ).loc main_arg3)

/-- The scales the reference computes. -/
theorem scales_apply (o : Fin 3584) (n : Fin 74) (g : Fin 16) :
    Value.reg_main_v7 m c (ValueIdx.ix3 o n g)
      = dOf m c (ValueIdx.ix2 o n) * (((scOf m c (ValueIdx.ix3 o n g)).toInt : ℝ) : EReal) := by
  unfold Value.reg_main_v7
  rw [scales_eq, pay_apply]

end Cert.MatMulRefIdeal.Hand

end
-- ==== Proof.CallMatRefOut.lean ====
/-
  The result of the matrix product's reference: its two sums over half the positions are the one sum over all of them.
-/
module

public import proofs.«01_k».proof.Proof.CallMatRef
public import proofs.«01_k».proof.Proof.CallMatRefVal
public import proofs.«01_k».proof.Proof.CallMatRefAct
public import proofs.«01_k».proof.Proof.CallMatRefScale

@[expose] public section

set_option maxRecDepth 16384

noncomputable section

open Idealize.ShloMosaic Idealize.ShloMosaic.TcCoe Idealize.SL.Sem

namespace Cert.MatMulRefIdeal.Hand

open Cert.MatMulRefIdeal Cert.MatMulRefIdeal.Gen Cert.Q6K

/-- The reference's low activations are the activations at the low positions. -/
theorem act_lo (X : (⟨S768x18944, .bf16⟩ : BufTy).Contents (Elt Ideal)) (p : Fin 768) (n : Fin 74) (s : Fin 128) (k : Fin 9472) (hk : k.val = 128 * n.val + s.val) :
    (shapeCast S768x9472 (shapeCast S768x74x2x2x32 (extractStridedSlice S768x74x2x1x2x32 ![0, 0, 0, 0, 0, 0] (shapeCast S768x74x2x2x2x32 X shapeCasts_S768x18944_S768x74x2x2x2x32) slices_S768x74x2x2x2x32_S768x74x2x1x2x32_0_0_0_0_0_0) shapeCasts_S768x74x2x1x2x32_S768x74x2x2x32) shapeCasts_S768x74x2x2x32_S768x9472 : (⟨S768x9472, .bf16⟩ : BufTy).Contents (Elt Ideal)) (ValueIdx.ix2 p k)
      = X (ValueIdx.ix2 p (⟨256 * n.val + (loPos s).val, by have := (loPos s).isLt; omega⟩ : Fin 18944)) := by
  have hs := s.isLt
  have hn := n.isLt
  rw [join_apply, drop_apply, low_apply, split_apply]
  refine congrArg X (funext fun a => Fin.ext ?_)
  match a with
  | ⟨0, _⟩ => rfl
  | ⟨1, _⟩ =>
    show 256 * (k.val / 128) + 128 * (k.val / 64 % 2) + 64 * (0 : Fin 2).val + 32 * (k.val / 32 % 2) + k.val % 32 = 256 * n.val + (128 * (s.val / 64) + s.val % 64)
    have h0 : ((0 : Fin 2)).val = 0 := rfl
    omega

/-- The reference's high activations are the activations at the high positions. -/
theorem act_hi (X : (⟨S768x18944, .bf16⟩ : BufTy).Contents (Elt Ideal)) (p : Fin 768) (n : Fin 74) (s : Fin 128) (k : Fin 9472) (hk : k.val = 128 * n.val + s.val) :
    (shapeCast S768x9472 (shapeCast S768x74x2x2x32 (extractStridedSlice S768x74x2x1x2x32 ![0, 0, 0, 1, 0, 0] (shapeCast S768x74x2x2x2x32 X shapeCasts_S768x18944_S768x74x2x2x2x32) slices_S768x74x2x2x2x32_S768x74x2x1x2x32_0_0_0_1_0_0) shapeCasts_S768x74x2x1x2x32_S768x74x2x2x32) shapeCasts_S768x74x2x2x32_S768x9472 : (⟨S768x9472, .bf16⟩ : BufTy).Contents (Elt Ideal)) (ValueIdx.ix2 p k)
      = X (ValueIdx.ix2 p (⟨256 * n.val + (hiPos s).val, by have := (hiPos s).isLt; omega⟩ : Fin 18944)) := by
  have hs := s.isLt
  have hn := n.isLt
  rw [join_apply, drop_apply, high_apply, split_apply]
  refine congrArg X (funext fun a => Fin.ext ?_)
  match a with
  | ⟨0, _⟩ => rfl
  | ⟨1, _⟩ =>
    show 256 * (k.val / 128) + 128 * (k.val / 64 % 2) + 64 * (1 : Fin 2).val + 32 * (k.val / 32 % 2) + k.val % 32 = 256 * n.val + (128 * (s.val / 64) + s.val % 64 + 64)
    have h0 : ((1 : Fin 2)).val = 1 := rfl
    omega

/-- A sum over the positions of one half of all blocks, block by block. -/
theorem sum_blocks (f : Fin 9472 → EReal) (g : Fin 74 → Fin 128 → EReal)
    (h : ∀ (k : Fin 9472) (n : Fin 74) (s : Fin 128), k.val = 128 * n.val + s.val → f k = g n s) :
    ∑ k : Fin 9472, f k = ∑ n : Fin 74, ∑ s : Fin 128, g n s := by
  rw [← Fin.sum_divmod_fin (A := 74) (S := 128) (N := 9472) (f := g)]
  refine Finset.sum_congr rfl fun k _ => h k _ _ ?_
  show k.val = 128 * (k.val / 128) + k.val % 128
  omega

variable (x1 : LowBytes) (x2 : HighBytes) (x5 : (⟨S3584, .f32⟩ : BufTy).Contents (Elt Ideal)) (r0 : (⟨S3584x74x16, .bf16⟩ : BufTy).Contents (Elt Ideal))
  (SC : ScaleCodes) (D : BlockScales) (X : (⟨S768x18944, .bf16⟩ : BufTy).Contents (Elt Ideal))
  (e0 e1 : (⟨S768x9472, .bf16⟩ : BufTy).Contents (Elt Ideal))

/-- The reference's result: the bias plus the product of the activations with the weights. -/
theorem res_apply
    (hr : ∀ (o : Fin 3584) (n : Fin 74) (g : Fin 16),
      r0 (ValueIdx.ix3 o n g) = D (ValueIdx.ix2 o n) * (((SC (ValueIdx.ix3 o n g)).toInt : ℝ) : EReal))
    (h0 : ∀ (p : Fin 768) (n : Fin 74) (s : Fin 128) (k : Fin 9472), k.val = 128 * n.val + s.val →
      e0 (ValueIdx.ix2 p k) = X (ValueIdx.ix2 p (⟨256 * n.val + (loPos s).val, by have := (loPos s).isLt; omega⟩ : Fin 18944)))
    (h1 : ∀ (p : Fin 768) (n : Fin 74) (s : Fin 128) (k : Fin 9472), k.val = 128 * n.val + s.val →
      e1 (ValueIdx.ix2 p k) = X (ValueIdx.ix2 p (⟨256 * n.val + (hiPos s).val, by have := (hiPos s).isLt; omega⟩ : Fin 18944)))
    (p : Fin 768) (o : Fin 3584) :
    Read.val_main_v67 (F := Ideal) x1 x2 x5 r0 e0 e1 (ValueIdx.ix2 p o) = outVal X x1 x2 SC D x5 p o := by
  have sl : Read.val_main_v61 (F := Ideal) x1 x2 r0 e0 (ValueIdx.ix2 p o)
      = ∑ n : Fin 74, ∑ s : Fin 128, term X x1 x2 SC D p o n (loPos s) := by
    rw [Read.val_main_v61_apply]
    refine sum_blocks _ _ fun k n s hk => ?_
    have i1 : Read.lidx_main_v61 (ValueIdx.ix2 p o) k = ValueIdx.ix2 p k := funext fun a => match a with | ⟨0, _⟩ => rfl | ⟨1, _⟩ => rfl
    have i2 : Read.ridx_main_v61 (ValueIdx.ix2 p o) k = ValueIdx.ix2 o k := funext fun a => match a with | ⟨0, _⟩ => rfl | ⟨1, _⟩ => rfl
    rw [i1, i2, h0 p n s k hk, w_lo x1 x2 r0 SC D hr o n s k hk]
    rfl
  have sh : Read.val_main_v62 (F := Ideal) x1 x2 r0 e1 (ValueIdx.ix2 p o)
      = ∑ n : Fin 74, ∑ s : Fin 128, term X x1 x2 SC D p o n (hiPos s) := by
    rw [Read.val_main_v62_apply]
    refine sum_blocks _ _ fun k n s hk => ?_
    have i1 : Read.lidx_main_v62 (ValueIdx.ix2 p o) k = ValueIdx.ix2 p k := funext fun a => match a with | ⟨0, _⟩ => rfl | ⟨1, _⟩ => rfl
    have i2 : Read.ridx_main_v62 (ValueIdx.ix2 p o) k = ValueIdx.ix2 o k := funext fun a => match a with | ⟨0, _⟩ => rfl | ⟨1, _⟩ => rfl
    rw [i1, i2, h1 p n s k hk, w_hi x1 x2 r0 SC D hr o n s k hk]
    rfl
  have hb : Read.val_main_v64 (F := Ideal) x5 (ValueIdx.ix2 p o) = x5 (ValueIdx.ix1 o) := by
    rw [Read.val_main_v64_apply, Read.val_main_v63_apply]
    exact congrArg x5 (funext fun a => match a with | ⟨0, _⟩ => rfl)
  rw [Read.val_main_v67_apply, Read.val_main_v66_apply, Read.val_main_v65_apply, sl, sh, hb]
  unfold outVal
  show (x5 (ValueIdx.ix1 o) + _) + _ = _
  rw [add_assoc, ← Finset.sum_add_distrib]
  refine congrArg (fun z : EReal => x5 (ValueIdx.ix1 o) + z) (Finset.sum_congr rfl fun n _ => ?_)
  exact (sum_lo_hi _).symm

section
variable (m : (ℓ : Loc nD τ sig) → Buf (Elt Ideal) ℓ) (c : Dev nD)

/-- The result the reference leaves, of the arguments as launched. -/
theorem out_apply :
    Read.val_main_v67 (F := Ideal) (Value.exitV m c (Proc.devRef .tc main_arg1)) (Value.exitV m c (Proc.devRef .tc main_arg2))
        (Value.exitV m c (Proc.devRef .tc main_arg5)) (Value.exitV m c (Proc.devRef .tc main_v7))
        (Value.exitV m c (Proc.devRef .tc main_v3)) (Value.exitV m c (Proc.devRef .tc main_v6))
      = fun i => outVal (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) := by
  rw [Value.exit_main_arg1, Value.exit_main_arg2, Value.exit_main_arg5, Value.exit_main_v7, Value.exit_main_v3, Value.exit_main_v6]
  funext i
  obtain ⟨p, o, rfl⟩ : ∃ (p : Fin 768) (o : Fin 3584), i = ValueIdx.ix2 p o :=
    ⟨i 0, i 1, funext fun a => match a with | ⟨0, _⟩ => rfl | ⟨1, _⟩ => rfl⟩
  exact res_apply _ _ _ _ _ _ _ _ _ (scales_apply m c) (act_lo _) (act_hi _) p o

end

end Cert.MatMulRefIdeal.Hand

end
-- ==== Proof.CallNormPoint.lean ====
/-
  The norm kernel computes the norm.
-/
module

public import proofs.«01_k».proof.Proof.NormSpec
public import proofs.«01_k».proof.Proof.Gen.NormIdeal.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.NormIdeal.Hand

open Cert.NormIdeal Cert.NormIdeal.Gen Cert.Q6K

/-- One block of the norm, row by row. -/
theorem pay_apply (x : Vec Ideal S64x18944 .bf16) (g : Vec Ideal S1x18944 .f32) (a : Fin 64) (e : Fin 18944) :
    k0_pay1 x g (ValueIdx.ix2 a e)
      = (x (ValueIdx.ix2 a e) * Ideal.rsqrt (Ideal.div (∑ k : Fin 18944, x (ValueIdx.ix2 a k) * x (ValueIdx.ix2 a k)) (Ideal.ofBits .f32 0x46940000#32) + Ideal.ofBits .f32 0x358637BD#32)
          * g (ValueIdx.ix2 (0 : Fin 1) e) : EReal) := by
  unfold k0_pay1
  pointwise
  rfl

section
variable {F : FTy → Type} [FloatOps F] (m : (ℓ : Loc nD τ sig) → Buf (Elt F) ℓ) (c : Dev nD)

theorem nidx0 : ∀ t : Fin cfg0.N, win0_0.index t = ![t.val, 0] := (by decide +kernel : ∀ t : Fin grid0.N, _)
theorem nidx1 : ∀ t : Fin cfg0.N, win0_1.index t = ![0, 0] := (by decide +kernel : ∀ t : Fin grid0.N, _)
theorem nidx2 : ∀ t : Fin cfg0.N, win0_2.index t = ![t.val, 0] := (by decide +kernel : ∀ t : Fin grid0.N, _)

/-- The grid has twelve points. -/
theorem pt_lt (t : Fin cfg0.N) : t.val < 12 := lt_of_lt_of_eq t.isLt N_0

/-- The rows laid out as one matrix. -/
theorem host0 (p : Fin 768) (e : Fin 18944) :
    (V m c main_v0 : Vec F S768x18944 .bf16) (ValueIdx.ix2 p e)
      = (m ((c : Thread nD τ).loc main_arg0) : Vec F S3x256x18944 .bf16) (ValueIdx.ix3 (⟨p.val / 256, by omega⟩ : Fin 3) (⟨p.val % 256, by omega⟩ : Fin 256) e) := by
  unfold V
  after_reads_at
  refine congrArg (m ((c : Thread nD τ).loc main_arg0)) (funext fun a => Fin.ext ?_)
  match a with
  | ⟨0, _⟩ | ⟨1, _⟩ | ⟨2, _⟩ => rfl

/-- The gain as one row. -/
theorem host1 (e : Fin 18944) :
    (V m c main_v1 : Vec F S1x18944 .f32) (ValueIdx.ix2 (0 : Fin 1) e)
      = (m ((c : Thread nD τ).loc main_arg1) : Vec F S18944 .f32) (ValueIdx.ix1 e) := by
  unfold V
  after_reads_at
  refine congrArg (m ((c : Thread nD τ).loc main_arg1)) (funext fun a => Fin.ext ?_)
  match a with
  | ⟨0, _⟩ => rfl

/-- The block of rows. -/
theorem blk0 (t : Fin cfg0.N) (a : Fin 64) (e : Fin 18944) :
    iblk m c 0 t (ValueIdx.ix2 a e) = (V m c main_v0 : Vec F S768x18944 .bf16) (ValueIdx.ix2 (⟨64 * t.val + a.val, by have := pt_lt t; omega⟩ : Fin 768) e) := by
  show V m c main_v0 (((cfg0.win 0).blk t).view.emb (ValueIdx.ix2 a e)) = _
  refine congrArg _ (funext fun b => Fin.ext ?_)
  match b with
  | ⟨0, _⟩ => show win0_0.index t (0 : Fin 2) * 64 + 1 * a.val = 64 * t.val + a.val; rw [nidx0]; simp; omega
  | ⟨1, _⟩ => show win0_0.index t (1 : Fin 2) * 18944 + 1 * e.val = e.val; rw [nidx0]; simp

/-- The block of the gain. -/
theorem blk1 (t : Fin cfg0.N) (y : S1x18944.Idx) : iblk m c 1 t y = (V m c main_v1 : Vec F S1x18944 .f32) y := by
  show V m c main_v1 (((cfg0.win 1).blk t).view.emb y) = _
  refine congrArg _ (funext fun b => Fin.ext ?_)
  match b with
  | ⟨0, _⟩ => show win0_1.index t (0 : Fin 2) * 1 + 1 * (y 0).val = (y 0).val; rw [nidx1]; simp
  | ⟨1, _⟩ => show win0_1.index t (1 : Fin 2) * 18944 + 1 * (y 1).val = (y 1).val; rw [nidx1]; simp

/-- A place of a block of the result lies in that block's rows. -/
theorem emb2 (t : Fin cfg0.N) (a : Fin 64) (e : Fin 18944) : ((View.whole main_v2).slice (win0_2.rect t)).emb (ValueIdx.ix2 a e)
    = ValueIdx.ix2 (⟨64 * t.val + a.val, by have := pt_lt t; omega⟩ : Fin 768) e := by
  refine funext fun b => Fin.ext ?_
  match b with
  | ⟨0, _⟩ => show win0_2.index t (0 : Fin 2) * 64 + 1 * a.val = 64 * t.val + a.val; rw [nidx2]; simp; omega
  | ⟨1, _⟩ => show win0_2.index t (1 : Fin 2) * 18944 + 1 * e.val = e.val; rw [nidx2]; simp

end

variable (m : (ℓ : Loc nD τ sig) → Buf (Elt Ideal) ℓ) (c : Dev nD)

/-- The array the norm leaves, of the arguments as launched. -/
theorem arr_eq : (dats m 0 c).arrAt 2 cfg0.N
    = fun i => normVal (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  obtain ⟨a, e, rfl⟩ : ∃ (a : Fin 64) (e : Fin 18944), y = ValueIdx.ix2 a e :=
    ⟨y 0, y 1, funext fun a => match a with | ⟨0, _⟩ => rfl | ⟨1, _⟩ => rfl⟩
  refine Eq.trans ?_ (congrArg (fun i : S768x18944.Idx => normVal (m ((c : Thread nD τ).loc main_arg0)) (m ((c : Thread nD τ).loc main_arg1)) (i 0) (i 1)) (emb2 t a e).symm)
  rw [pay_apply]
  have hrow (k : Fin 18944) : iblk m c 0 t (ValueIdx.ix2 a k)
      = rowAt (m ((c : Thread nD τ).loc main_arg0)) (⟨64 * t.val + a.val, by have := pt_lt t; omega⟩ : Fin 768) k := by
    rw [blk0, host0]; rfl
  simp only [hrow]
  rw [blk1, host1]
  rfl

end Cert.NormIdeal.Hand

end
-- ==== Proof.CallNormRef.lean ====
/-
  The reference of the norm is the norm.
-/
module

public import proofs.«01_k».proof.Proof.NormSpec
public import proofs.«01_k».proof.Proof.Gen.NormRefIdeal.Run
public import proofs.«01_k».proof.Proof.Gen.NormRefIdeal.Read

@[expose] public section

set_option maxRecDepth 16384

noncomputable section

open Idealize.ShloMosaic Idealize.ShloMosaic.TcCoe Idealize.SL.Sem

namespace Cert.NormRefIdeal.Hand

open Cert.NormRefIdeal Cert.Q6K

variable (X : (⟨S3x256x18944, .bf16⟩ : BufTy).Contents (Elt Ideal)) (G : (⟨S18944, .f32⟩ : BufTy).Contents (Elt Ideal))

/-- The reference's sum of squares of a row. -/
theorem sq_apply (p : Fin 768) :
    Read.val_main_v2 (F := Ideal) X (ValueIdx.ix2 (⟨p.val / 256, by omega⟩ : Fin 3) (⟨p.val % 256, by omega⟩ : Fin 256))
      = ∑ k : Fin 18944, rowAt X p k * rowAt X p k := by
  rw [Read.val_main_v2_apply, Read.val_main_cst_apply]
  have z : (FloatOps.ofBits .f32 0x00000000#32 : Ideal .f32) = (0 : EReal) := by
    simp [FloatOps.ofBits, Ideal.ofBits, Ideal.ieee, -EReal.coe_mul]
  rw [z]
  refine (zero_add _).trans (Finset.sum_congr rfl fun k _ => ?_)
  have i1 : Read.idx_main_v2 (ValueIdx.ix2 (⟨p.val / 256, by omega⟩ : Fin 3) (⟨p.val % 256, by omega⟩ : Fin 256)) k
      = ValueIdx.ix3 (⟨p.val / 256, by omega⟩ : Fin 3) (⟨p.val % 256, by omega⟩ : Fin 256) k :=
    funext fun a => match a with | ⟨0, _⟩ => rfl | ⟨1, _⟩ => rfl | ⟨2, _⟩ => rfl
  rw [i1]
  rfl

/-- The reference's normalised activations. -/
theorem res_apply (p : Fin 768) (e : Fin 18944) :
    Read.val_main_v15 (F := Ideal) X G (ValueIdx.ix2 p e) = normVal X G p e := by
  have i1 : Read.idx_main_v15 (ValueIdx.ix2 p e) = ValueIdx.ix3 (⟨p.val / 256, by omega⟩ : Fin 3) (⟨p.val % 256, by omega⟩ : Fin 256) e := by
    funext a
    refine Fin.ext ?_
    have hp := p.isLt
    have he := e.isLt
    match a with
    | ⟨0, _⟩ => show (p.val * 18944 + e.val) / 4849664 = p.val / 256; omega
    | ⟨1, _⟩ => show (p.val * 18944 + e.val) / 18944 % 256 = p.val % 256; omega
    | ⟨2, _⟩ => show (p.val * 18944 + e.val) % 18944 = e.val; omega
  rw [Read.val_main_v15_apply, i1, Read.val_main_v14_apply, Read.val_main_v13_apply, Read.val_main_v10_apply, Read.val_main_v12_apply,
    Read.val_main_v11_apply, Read.val_main_v9_apply, Read.val_main_v8_apply, Read.val_main_v7_apply, Read.val_main_v5_apply,
    Read.val_main_v3_apply, Read.val_main_v4_apply, Read.val_main_v6_apply, Read.val_main_cst_0_apply, Read.val_main_cst_1_apply]
  have i2 : Read.idx_main_v3 (Read.idx_main_v9 (ValueIdx.ix3 (⟨p.val / 256, by omega⟩ : Fin 3) (⟨p.val % 256, by omega⟩ : Fin 256) e))
      = ValueIdx.ix2 (⟨p.val / 256, by omega⟩ : Fin 3) (⟨p.val % 256, by omega⟩ : Fin 256) :=
    funext fun a => match a with | ⟨0, _⟩ => rfl | ⟨1, _⟩ => rfl
  have i3 : Read.idx_main_v11 (Read.idx_main_v12 (ValueIdx.ix3 (⟨p.val / 256, by omega⟩ : Fin 3) (⟨p.val % 256, by omega⟩ : Fin 256) e))
      = ValueIdx.ix1 e := funext fun a => match a with | ⟨0, _⟩ => rfl
  rw [i2, i3, sq_apply, Ideal.hostUnary_rsqrt_def, Ideal.hostDivf_def]
  unfold normVal scaleVal
  rfl

section
variable (m : (ℓ : Loc nD τ sig) → Buf (Elt Ideal) ℓ) (c : Dev nD)

/-- The result the reference leaves, of the arguments as launched. -/
theorem out_apply :
    Read.val_main_v15 (F := Ideal) (m ((c : Thread nD τ).loc main_arg0)) (m ((c : Thread nD τ).loc main_arg1))
      = fun i => normVal (m ((c : Thread nD τ).loc main_arg0)) (m ((c : Thread nD τ).loc main_arg1)) (i 0) (i 1) := by
  funext i
  obtain ⟨p, e, rfl⟩ : ∃ (p : Fin 768) (e : Fin 18944), i = ValueIdx.ix2 p e :=
    ⟨i 0, i 1, funext fun a => match a with | ⟨0, _⟩ => rfl | ⟨1, _⟩ => rfl⟩
  exact res_apply _ _ p e

end

end Cert.NormRefIdeal.Hand

end
-- ==== Proof.lean ====
/-
  The certificate, of the whole kernel and of each of its two calls: the programs as printed and as idealized run with their
  arguments unchanged and every counter at zero, the references likewise, the kernel preserves its idealization, and the
  kernel and the reference end with equal results. A call's claims are of any arguments, not only those the kernel gives it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KernelRun
public import proofs.«01_k».proof.Proof.KernelValue
public import proofs.«01_k».proof.Proof.MatRefOut
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.MatMul
public import proofs.«01_k».proof.Proof.Gen.MatMul.Skeleton
public import proofs.«01_k».proof.Proof.Gen.MatMul.Launch
public import proofs.«01_k».proof.Proof.Gen.MatMul.Points
public import proofs.«01_k».proof.Proof.Gen.MatMul.Frame
public import proofs.«01_k».proof.Proof.Gen.MatMulIdeal
public import proofs.«01_k».proof.Proof.Gen.MatMulIdeal.Skeleton
public import proofs.«01_k».proof.Proof.Gen.MatMulIdeal.Launch
public import proofs.«01_k».proof.Proof.Gen.MatMulIdeal.Points
public import proofs.«01_k».proof.Proof.Gen.MatMulIdeal.Frame
public import proofs.«01_k».proof.Proof.Gen.NormRefIdeal
public import proofs.«01_k».proof.Proof.Gen.MatMulRefIdeal
public import proofs.«01_k».proof.Proof.Gen.MatMulRefIdeal.Skeleton
public import proofs.«01_k».proof.Proof.Gen.MatMulRefIdeal.Launch
public import proofs.«01_k».proof.Proof.Gen.MatMulRefIdeal.Points
public import proofs.«01_k».proof.Proof.Gen.MatMulRefIdeal.Frame
public import proofs.«01_k».proof.Proof.Gen.NormIdeal.Value
public import proofs.«01_k».proof.Proof.Gen.MatMulIdeal.Value
public import proofs.«01_k».proof.Proof.Gen.NormRefIdeal.Run
public import proofs.«01_k».proof.Proof.Gen.NormRefIdeal.Read
public import proofs.«01_k».proof.Proof.Gen.MatMulRefIdeal.Run
public import proofs.«01_k».proof.Proof.Gen.MatMulRefIdeal.Read
public import proofs.«01_k».proof.Proof.CallMatPoint
public import proofs.«01_k».proof.Proof.CallMatRefOut
public import proofs.«01_k».proof.Proof.CallNormPoint
public import proofs.«01_k».proof.Proof.CallNormRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- A place of the result is its batch, its row and its column. -/
theorem place (i : (⟨3, ![3, 256, 3584]⟩ : Shape).Idx) : ∃ (a : Fin 3) (b : Fin 256) (o : Fin 3584), i = ValueIdx.ix3 a b o :=
  ⟨i 0, i 1, i 2, funext fun d => match d with | ⟨0, _⟩ => rfl | ⟨1, _⟩ => rfl | ⟨2, _⟩ => rfl⟩

/-- The kernel and its reference end with equal results. -/
theorem value : Cert.algebraic_KernelIdeal_ReferenceIdeal := by
  intro m g m' g' _ hagree
  refine ⟨fun c => Cert.KernelIdeal.Gen.V5 m (Cert.KernelIdeal.Whole.outs m) c Cert.KernelIdeal.main_v11, ?_, ?_⟩
  · exact (θ_run Cert.KernelIdeal.defs _ _).mono (fun r h c => h.1 c) (Cert.KernelIdeal.Whole.run_value (F := Ideal) m g)
  · refine (θ_run Cert.ReferenceIdeal.defs _ _).mono (fun r h c => ⟨(h c).1.trans ?_, (h c).2⟩)
      (Cert.ReferenceIdeal.Value.run (F := Ideal) m' g')
    obtain ⟨a0, a1, a2, a3, a4, a5, a6⟩ := hagree c
    rw [Cert.ReferenceIdeal.Read.val_main_v83_eq]
    funext i
    obtain ⟨a, b, o, rfl⟩ := place i
    refine (Cert.ReferenceIdeal.Hand.out_apply m' c a b o).trans ((Cert.KernelIdeal.Whole.out_apply m c a b o).trans ?_).symm
    unfold Cert.ReferenceIdeal.Hand.actOf Cert.KernelIdeal.Whole.normOf
    rw [a0, a1, a2, a3, a4, a5, a6]

/-- The norm's reference runs, its arguments unchanged, every counter at zero (it declares none). -/
theorem frame_normRef : Cert.quiescent_NormRefIdeal := fun m g _ =>
  (θ_run Cert.NormRefIdeal.defs _ _).mono (fun r h => ⟨fun c => (h c).2, sem_eq_zero_of_no_sems (by decide) r.2⟩)
    (Cert.NormRefIdeal.Value.run (F := Ideal) m g)

/-- The norm kernel and its reference end with equal results. -/
theorem norm_value : Cert.algebraic_NormIdeal_NormRefIdeal := by
  intro m g m' g' _ hagree
  refine ⟨fun c => fun i => Cert.Q6K.normVal (m ((c.tc : Thread _ Cert.NormIdeal.τ).loc Cert.NormIdeal.main_arg0)) (m ((c.tc : Thread _ Cert.NormIdeal.τ).loc Cert.NormIdeal.main_arg1)) (i 0) (i 1), ?_, ?_⟩
  · exact (θ_run Cert.NormIdeal.defs _ _).mono (fun r h c => ⟨(h c).1.trans (Cert.NormIdeal.Hand.arr_eq m c), (h c).2⟩)
      (Cert.NormIdeal.Value.run_blocks (F := Ideal) m g)
  · refine (θ_run Cert.NormRefIdeal.defs _ _).mono (fun r h c => ⟨(h c).1.trans ?_, (h c).2⟩)
      (Cert.NormRefIdeal.Value.run (F := Ideal) m' g')
    rw [Cert.NormRefIdeal.Read.val_main_v15_eq, Cert.NormRefIdeal.Hand.out_apply, (hagree c).1, (hagree c).2]
    rfl

/-- The matrix product's kernel and its reference end with equal results. -/
theorem mat_value : Cert.algebraic_MatMulIdeal_MatMulRefIdeal := by
  intro m g m' g' _ hagree
  refine ⟨fun c => Cert.MatMulIdeal.Hand.outArr m c, ?_, ?_⟩
  · exact (θ_run Cert.MatMulIdeal.defs _ _).mono
      (fun r h c => ⟨(h c).1.trans ((Cert.MatMulIdeal.Value.final6 m c).symm.trans (Cert.MatMulIdeal.Hand.arr_eq m c)), (h c).2⟩)
      (Cert.MatMulIdeal.Value.run (F := Ideal) m g)
  · refine (θ_run Cert.MatMulRefIdeal.defs _ _).mono (fun r h c => ⟨(h c).1.trans ?_, (h c).2⟩)
      (Cert.MatMulRefIdeal.Value.run (F := Ideal) m' g')
    obtain ⟨a0, a1, a2, a3, a4, a5⟩ := hagree c
    rw [Cert.MatMulRefIdeal.Read.val_main_v67_eq, Cert.MatMulRefIdeal.Hand.out_apply, a0, a1, a2, a3, a4, a5]
    exact (Cert.MatMulIdeal.Hand.outArr_eq m c).symm

theorem claim : Cert.Claim := ⟨Cert.Kernel.Gen.facts, Cert.KernelIdeal.Gen.facts, Cert.ReferenceIdeal.Gen.facts,
  Cert.Norm.Gen.facts, Cert.NormIdeal.Gen.facts, Cert.NormRefIdeal.Gen.facts,
  Cert.MatMul.Gen.facts, Cert.MatMulIdeal.Gen.facts, Cert.MatMulRefIdeal.Gen.facts,
  fun m g _ => Cert.Kernel.Whole.frame m g,
  fun m g _ => Cert.KernelIdeal.Whole.frame m g,
  fun m g _ => Cert.ReferenceIdeal.Gen.frame m g,
  fun m g _ => Cert.Norm.Gen.frame m g,
  fun m g _ => Cert.NormIdeal.Gen.frame m g,
  frame_normRef,
  fun m g _ => Cert.MatMul.Gen.frame m g,
  fun m g _ => Cert.MatMulIdeal.Gen.frame m g,
  fun m g _ => Cert.MatMulRefIdeal.Gen.frame m g,
  trivial, value, trivial, norm_value, trivial, mat_value⟩

end Cert.Proof

end
